-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_v67) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v54) = v1 c
          ∧ r.2.mem ((c.tc : Thread Cert.Reference8Ideal.nD Cert.Reference8Ideal.τ).loc Cert.Reference8Ideal.main_v61) = v2 c
          ∧ r.2.mem ((c.tc : Thread Cert.Reference8Ideal.nD Cert.Reference8Ideal.τ).loc Cert.Reference8Ideal.main_v38) = v3 c
          ∧ r.2.mem ((c.tc : Thread Cert.Reference8Ideal.nD Cert.Reference8Ideal.τ).loc Cert.Reference8Ideal.main_v59) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_v25) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_v21) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)) (v3 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_v1_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v38) = v1 c
          ∧ r.2.mem ((c.tc : Thread Cert.Reference11Ideal.nD Cert.Reference11Ideal.τ).loc Cert.Reference11Ideal.main_v44) = v2 c
          ∧ r.2.mem ((c.tc : Thread Cert.Reference11Ideal.nD Cert.Reference11Ideal.τ).loc Cert.Reference11Ideal.main_v22) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg0) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg4) = v4 c
          ∧ r.2.mem ((c.tc : Thread Cert.Reference14Ideal.nD Cert.Reference14Ideal.τ).loc Cert.Reference14Ideal.main_v47) = v5 c
          ∧ r.2.mem ((c.tc : Thread Cert.Reference14Ideal.nD Cert.Reference14Ideal.τ).loc Cert.Reference14Ideal.main_v28) = v6 c
          ∧ r.2.mem ((c.tc : Thread Cert.Reference14Ideal.nD Cert.Reference14Ideal.τ).loc Cert.Reference14Ideal.main_v34) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S5632x1024 : Shape := ⟨2, ![5632, 1024]⟩
abbrev S2x2816x1024 : Shape := ⟨3, ![2, 2816, 1024]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S1x2816x1024 : Shape := ⟨3, ![1, 2816, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 19
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S6x1024, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S5632x1024, .f32⟩
  | .hbm, ⟨15, _⟩ => ⟨S5632x1024, .bf16⟩
  | .hbm, ⟨16, _⟩ => ⟨S2x2816x1024, .bf16⟩
  | .hbm, ⟨17, _⟩ => ⟨S2048x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2048x1024, .bf16⟩
  | .hbm, ⟨22, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S2x2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S8x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024 : Shape := ⟨2, ![1, 1024]⟩
abbrev S6x1024 : Shape := ⟨2, ![6, 1024]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S6x1024, .f32⟩
  | .hbm, ⟨7, _⟩ => ⟨S1x2048x2816, .bf16⟩
  | .hbm, ⟨8, _⟩ => ⟨S2048x2816, .bf16⟩
  | .hbm, ⟨9, _⟩ => ⟨S1x2048x2816, .bf16⟩
  | .hbm, ⟨10, _⟩ => ⟨S2048x2816, .bf16⟩
  | .hbm, ⟨11, _⟩ => ⟨S2048x5632, .bf16⟩
  | .hbm, ⟨12, _⟩ => ⟨S2048x5632, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x5632, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S2048x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel2.lean ====
abbrev S2048x1024 : Shape := ⟨2, ![2048, 1024]⟩
abbrev S3x2048x512 : Shape := ⟨3, ![3, 2048, 512]⟩
abbrev S1024x2560 : Shape := ⟨2, ![1024, 2560]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S2560x1024 : Shape := ⟨2, ![2560, 1024]⟩
abbrev S8x320x1024 : Shape := ⟨3, ![8, 320, 1024]⟩
abbrev S512x1024 : Shape := ⟨2, ![512, 1024]⟩
abbrev S3x512x512 : Shape := ⟨3, ![3, 512, 512]⟩
abbrev S256x1024 : Shape := ⟨2, ![256, 1024]⟩
abbrev S1024x1024 : Shape := ⟨2, ![1024, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1024 : Shape := ⟨1, ![1024]⟩

abbrev nBuf : Space → Nat
  | .hbm => 17
  | .vmem => 16
  | .smem => 0
  | _ => 0

abbrev bufTy : (tb : Table) → Fin (tcTables nBuf tb) → BufTy
  | .hbm, ⟨0, _⟩ => ⟨S2048x1024, .bf16⟩
  | .hbm, ⟨1, _⟩ => ⟨S3x2048x512, .bf16⟩
  | .hbm, ⟨2, _⟩ => ⟨S1024x2560, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S6x1024, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S2560x1024, .f32⟩
  | .hbm, ⟨11, _⟩ => ⟨S2560x1024, .bf16⟩
  | .hbm, ⟨12, _⟩ => ⟨S8x320x1024, .bf16⟩
  | .hbm, ⟨13, _⟩ => ⟨S2048x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S3x512x512, .bf16⟩
  | .local _ .vmem, ⟨3, _⟩ => ⟨S3x512x512, .bf16⟩
  | .local _ .vmem, ⟨4, _⟩ => ⟨S8x320x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x320x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x1024 : Shape := ⟨2, ![2048, 1024]⟩
abbrev S3x2048x512 : Shape := ⟨3, ![3, 2048, 512]⟩
abbrev S1024x2560 : Shape := ⟨2, ![1024, 2560]⟩
abbrev S1x1024 : Shape := ⟨2, ![1, 1024]⟩
abbrev S6x1024 : Shape := ⟨2, ![6, 1024]⟩
abbrev S1x2048x512 : Shape := ⟨3, ![1, 2048, 512]⟩
abbrev S2048x512 : Shape := ⟨2, ![2048, 512]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x512, .bf16⟩
  | .hbm, ⟨2, _⟩ => ⟨S1024x2560, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S6x1024, .f32⟩
  | .hbm, ⟨7, _⟩ => ⟨S1x2048x512, .bf16⟩
  | .hbm, ⟨8, _⟩ => ⟨S2048x512, .bf16⟩
  | .hbm, ⟨9, _⟩ => ⟨S1x2048x512, .bf16⟩
  | .hbm, ⟨10, _⟩ => ⟨S2048x512, .bf16⟩
  | .hbm, ⟨11, _⟩ => ⟨S1x2048x512, .bf16⟩
  | .hbm, ⟨12, _⟩ => ⟨S2048x512, .bf16⟩
  | .hbm, ⟨13, _⟩ => ⟨S2048x2560, .bf16⟩
  | .hbm, ⟨14, _⟩ => ⟨S2048x2560, .f32⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2560, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel3.lean ====
abbrev S2x2048x2816 : Shape := ⟨3, ![2, 2048, 2816]⟩
abbrev S2048x1024 : Shape := ⟨2, ![2048, 1024]⟩
abbrev S2x2816x1024 : Shape := ⟨3, ![2, 2816, 1024]⟩
abbrev S1x2048x256 : Shape := ⟨3, ![1, 2048, 256]⟩
abbrev S1x256x1024 : Shape := ⟨3, ![1, 256, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S2x2816x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x2048x2816 : Shape := ⟨3, ![2, 2048, 2816]⟩
abbrev S2048x1024 : Shape := ⟨2, ![2048, 1024]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S2x2816x1024 : Shape := ⟨3, ![2, 2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S2048x1024, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S2048x5632, .f32⟩
  | .hbm, ⟨8, _⟩ => ⟨S2048x1024, .f32⟩
  | .hbm, ⟨9, _⟩ => ⟨S_, .f32⟩
  | .hbm, ⟨10, _⟩ => ⟨S1024x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S2x2816x1024, .f32⟩
  | .hbm, ⟨16, _⟩ => ⟨S2x2816x1024, .bf16⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S2048x2816 : Shape := ⟨2, ![2048, 2816]⟩
abbrev S2048x1024 : Shape := ⟨2, ![2048, 1024]⟩
abbrev S2816x1024 : Shape := ⟨2, ![2816, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S_, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S2816x1024, .bf16⟩
  | .hbm, ⟨3, _⟩ => ⟨S2048x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x1024, .f32⟩
  | .hbm, ⟨6, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x1024 : Shape := ⟨2, ![2048, 1024]⟩
abbrev S3x2048x512 : Shape := ⟨3, ![3, 2048, 512]⟩
abbrev S2560x1024 : Shape := ⟨2, ![2560, 1024]⟩
abbrev S2048x512 : Shape := ⟨2, ![2048, 512]⟩
abbrev S1x2048x512 : Shape := ⟨3, ![1, 2048, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S3x2048x512, .bf16⟩
  | .hbm, ⟨2, _⟩ => ⟨S2048x1024, .bf16⟩
  | .hbm, ⟨3, _⟩ => ⟨S2560x1024, .bf16⟩
  | .local _ .vmem, ⟨0, _⟩ => ⟨S2048x512, .bf16⟩
  | .local _ .vmem, ⟨1, _⟩ => ⟨S2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2048x1024 : Shape := ⟨2, ![2048, 1024]⟩
abbrev S3x2048x512 : Shape := ⟨3, ![3, 2048, 512]⟩
abbrev S1x2048x512 : Shape := ⟨3, ![1, 2048, 512]⟩
abbrev S2048x512 : Shape := ⟨2, ![2048, 512]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S3x2048x512, .bf16⟩
  | .hbm, ⟨2, _⟩ => ⟨S2048x1024, .bf16⟩
  | .hbm, ⟨3, _⟩ => ⟨S1x2048x512, .bf16⟩
  | .hbm, ⟨4, _⟩ => ⟨S2048x512, .bf16⟩
  | .hbm, ⟨5, _⟩ => ⟨S1x2048x512, .bf16⟩
  | .hbm, ⟨6, _⟩ => ⟨S2048x512, .bf16⟩
  | .hbm, ⟨7, _⟩ => ⟨S1x2048x512, .bf16⟩
  | .hbm, ⟨8, _⟩ => ⟨S2048x512, .bf16⟩
  | .hbm, ⟨9, _⟩ => ⟨S2048x2560, .bf16⟩
  | .hbm, ⟨10, _⟩ => ⟨S2048x2560, .f32⟩
  | .hbm, ⟨11, _⟩ => ⟨S2048x1024, .f32⟩
  | .hbm, ⟨12, _⟩ => ⟨S_, .f32⟩
  | .hbm, ⟨13, _⟩ => ⟨S1024x2560, .f32⟩
  | .hbm, ⟨14, _⟩ => ⟨S2048x2560, .f32⟩
  | .hbm, ⟨15, _⟩ => ⟨S2560x1024, .f32⟩
  | .hbm, ⟨16, _⟩ => ⟨S1024x2560, .f32⟩
  | .hbm, ⟨17, _⟩ => ⟨S2560x1024, .f32⟩
  | .hbm, ⟨18, _⟩ => ⟨S2560x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel7.lean ====
abbrev S2048x1024 : Shape := ⟨2, ![2048, 1024]⟩
abbrev S1024x1024 : Shape := ⟨2, ![1024, 1024]⟩
abbrev S2048x256 : Shape := ⟨2, ![2048, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S8x128 : Shape := ⟨2, ![8, 128]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S6x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S2816x1024, .bf16⟩
  | .hbm, ⟨10, _⟩ => ⟨S8x128, .f32⟩
  | .hbm, ⟨11, _⟩ => ⟨S2048x1024, .f32⟩
  | .hbm, ⟨12, _⟩ => ⟨S2048x1024, .bf16⟩
  | .hbm, ⟨13, _⟩ => ⟨S1x1024, .f32⟩
  | .hbm, ⟨14, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x1024, .f32⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S6x1024 : Shape := ⟨2, ![6, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 85
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S6x1024, .f32⟩
  | .hbm, ⟨6, _⟩ => ⟨S2048x2816, .f32⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8x128, .f32⟩
  | .hbm, ⟨84, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S6x1024 : Shape := ⟨2, ![6, 1024]⟩
abbrev S1024x5632 : Shape := ⟨2, ![1024, 5632]⟩
abbrev S_ : Shape := ⟨0, ![]⟩
abbrev S8x1024 : Shape := ⟨2, ![8, 1024]⟩
abbrev S5632x1024 : Shape := ⟨2, ![5632, 1024]⟩
abbrev S2048x5632 : Shape := ⟨2, ![2048, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S6x1024, .f32⟩
  | .hbm, ⟨4, _⟩ => ⟨S1024x5632, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S5632x1024, .f32⟩
  | .hbm, ⟨9, _⟩ => ⟨S5632x1024, .bf16⟩
  | .hbm, ⟨10, _⟩ => ⟨S2048x5632, .f32⟩
  | .hbm, ⟨11, _⟩ => ⟨S2048x1024, .f32⟩
  | .hbm, ⟨12, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x1024, .f32⟩
  | .local _ .vmem, ⟨6, _⟩ => ⟨S5632x1024, .bf16⟩
  | .local _ .vmem, ⟨7, _⟩ => ⟨S256x5632, .f32⟩
  | .local _ .vmem, ⟨8, _⟩ => ⟨S256x5632, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S2048x1024 : Shape := ⟨2, ![2048, 1024]⟩
abbrev S1x1024 : Shape := ⟨2, ![1, 1024]⟩
abbrev S6x1024 : Shape := ⟨2, ![6, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S6x1024, .f32⟩
  | .hbm, ⟨4, _⟩ => ⟨S1024x5632, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x5632, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S6x1024 : Shape := ⟨2, ![6, 1024]⟩
abbrev S1024x2560 : Shape := ⟨2, ![1024, 2560]⟩
abbrev S_ : Shape := ⟨0, ![]⟩
abbrev S8x1024 : Shape := ⟨2, ![8, 1024]⟩
abbrev S2560x1024 : Shape := ⟨2, ![2560, 1024]⟩
abbrev S8x320x1024 : Shape := ⟨3, ![8, 320, 1024]⟩
abbrev S2048x2560 : Shape := ⟨2, ![2048, 2560]⟩
abbrev S512x1024 : Shape := ⟨2, ![512, 1024]⟩
abbrev S512x2560 : Shape := ⟨2, ![512, 2560]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩

abbrev nBuf : Space → Nat
  | .hbm => 12
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S6x1024, .f32⟩
  | .hbm, ⟨3, _⟩ => ⟨S1024x2560, .f32⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S2560x1024, .f32⟩
  | .hbm, ⟨8, _⟩ => ⟨S2560x1024, .bf16⟩
  | .hbm, ⟨9, _⟩ => ⟨S8x320x1024, .bf16⟩
  | .hbm, ⟨10, _⟩ => ⟨S2048x2560, .f32⟩
  | .hbm, ⟨11, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024, .f32⟩
  | .local _ .vmem, ⟨4, _⟩ => ⟨S8x320x1024, .bf16⟩
  | .local _ .vmem, ⟨5, _⟩ => ⟨S512x2560, .f32⟩
  | .local _ .vmem, ⟨6, _⟩ => ⟨S512x2560, .f32⟩
  | .local _ .vmem, ⟨7, _⟩ => ⟨S512x1024, .bf16⟩
  | .local _ .vmem, ⟨8, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x320x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S2048x1024 : Shape := ⟨2, ![2048, 1024]⟩
abbrev S1x1024 : Shape := ⟨2, ![1, 1024]⟩
abbrev S6x1024 : Shape := ⟨2, ![6, 1024]⟩
abbrev S1024x2560 : Shape := ⟨2, ![1024, 2560]⟩
abbrev S_ : Shape := ⟨0, ![]⟩
abbrev S2048 : Shape := ⟨1, ![2048]⟩
abbrev S2048x1 : Shape := ⟨2, ![2048, 1]⟩
abbrev S2048x2560 : Shape := ⟨2, ![2048, 2560]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S6x1024, .f32⟩
  | .hbm, ⟨3, _⟩ => ⟨S1024x2560, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x2560, .f32⟩
  | .hbm, ⟨29, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S2048x512 : Shape := ⟨2, ![2048, 512]⟩
abbrev S1x512 : Shape := ⟨2, ![1, 512]⟩
abbrev S512x1024 : Shape := ⟨2, ![512, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x512, .f32⟩
  | .hbm, ⟨3, _⟩ => ⟨S1x512, .f32⟩
  | .hbm, ⟨4, _⟩ => ⟨S1024x1024, .bf16⟩
  | .hbm, ⟨5, _⟩ => ⟨S2048x1024, .f32⟩
  | .hbm, ⟨6, _⟩ => ⟨S2048x512, .f32⟩
  | .hbm, ⟨7, _⟩ => ⟨S2048x512, .f32⟩
  | .hbm, ⟨8, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S2048x1024 : Shape := ⟨2, ![2048, 1024]⟩
abbrev S1024x1024 : Shape := ⟨2, ![1024, 1024]⟩
abbrev S2048x512 : Shape := ⟨2, ![2048, 512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S512 : Shape := ⟨1, ![512]⟩
abbrev S2048x8x64 : Shape := ⟨3, ![2048, 8, 64]⟩
abbrev S2048x8 : Shape := ⟨2, ![2048, 8]⟩
abbrev S2048x8x1 : Shape := ⟨3, ![2048, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S2048x512, .f32⟩
  | .hbm, ⟨3, _⟩ => ⟨S1x512, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x512, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S512, .f32⟩
  | .hbm, ⟨32, _⟩ => ⟨S1x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x512, .f32⟩
  | .hbm, ⟨40, _⟩ => ⟨S2048x512, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x8x64, .f32⟩
  | .hbm, ⟨54, _⟩ => ⟨S_, .f32⟩
  | .hbm, ⟨55, _⟩ => ⟨S2048x8, .f32⟩
  | .hbm, ⟨56, _⟩ => ⟨S2048x8x1, .f32⟩
  | .hbm, ⟨57, _⟩ => ⟨S2048x8x64, .f32⟩
  | .hbm, ⟨58, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel12.lean ====
abbrev S2048x512 : Shape := ⟨2, ![2048, 512]⟩
abbrev S1x512 : Shape := ⟨2, ![1, 512]⟩
abbrev S1024x1024 : Shape := ⟨2, ![1024, 1024]⟩
abbrev S2048x1024 : Shape := ⟨2, ![2048, 1024]⟩
abbrev S512x512 : Shape := ⟨2, ![512, 512]⟩
abbrev S512x1024 : Shape := ⟨2, ![512, 1024]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S1024x1024, .bf16⟩
  | .hbm, ⟨5, _⟩ => ⟨S2048x1024, .f32⟩
  | .hbm, ⟨6, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2048x512 : Shape := ⟨2, ![2048, 512]⟩
abbrev S1x512 : Shape := ⟨2, ![1, 512]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .hbm, ⟨2, _⟩ => ⟨S1x512, .f32⟩
  | .hbm, ⟨3, _⟩ => ⟨S1024x1024, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S8x1024 : Shape := ⟨2, ![8, 1024]⟩
abbrev S8x768 : Shape := ⟨2, ![8, 768]⟩
abbrev S1024x768 : Shape := ⟨2, ![1024, 768]⟩
abbrev S8x256 : Shape := ⟨2, ![8, 256]⟩
abbrev S256x768 : Shape := ⟨2, ![256, 768]⟩
abbrev S256x8 : Shape := ⟨2, ![256, 8]⟩
abbrev S256x1 : Shape := ⟨2, ![256, 1]⟩
abbrev S1x768 : Shape := ⟨2, ![1, 768]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S8x256, .f32⟩
  | .local _ .vmem, ⟨1, _⟩ => ⟨S8x256, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8x1024 : Shape := ⟨2, ![8, 1024]⟩
abbrev S8x768 : Shape := ⟨2, ![8, 768]⟩
abbrev S1024x768 : Shape := ⟨2, ![1024, 768]⟩
abbrev S_ : Shape := ⟨0, ![]⟩
abbrev S768x1024 : Shape := ⟨2, ![768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S768x1024, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | .hbm, ⟨46, _⟩ => ⟨S1024x768, .f32⟩
  | .hbm, ⟨47, _⟩ => ⟨S_, .f32⟩
  | .hbm, ⟨48, _⟩ => ⟨S1024x768, .f32⟩
  | .hbm, ⟨49, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel14.lean ====
abbrev S31x64 : Shape := ⟨2, ![31, 64]⟩
abbrev S3x704 : Shape := ⟨2, ![3, 704]⟩

abbrev nBuf : Space → Nat
  | .hbm => 16
  | .vmem => 16
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .hbm, ⟨8, _⟩ => ⟨S31x64, .f32⟩
  | .hbm, ⟨9, _⟩ => ⟨S31x64, .f32⟩
  | .hbm, ⟨10, _⟩ => ⟨S31x64, .f32⟩
  | .hbm, ⟨11, _⟩ => ⟨S31x64, .f32⟩
  | .hbm, ⟨12, _⟩ => ⟨S3x704, .f32⟩
  | .hbm, ⟨13, _⟩ => ⟨S3x704, .f32⟩
  | .hbm, ⟨14, _⟩ => ⟨S3x704, .f32⟩
  | .hbm, ⟨15, _⟩ => ⟨S3x704, .f32⟩
  | .local _ .vmem, ⟨0, _⟩ => ⟨S31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | .local _ .vmem, ⟨8, _⟩ => ⟨S31x64, .f32⟩
  | .local _ .vmem, ⟨9, _⟩ => ⟨S31x64, .f32⟩
  | .local _ .vmem, ⟨10, _⟩ => ⟨S31x64, .f32⟩
  | .local _ .vmem, ⟨11, _⟩ => ⟨S31x64, .f32⟩
  | .local _ .vmem, ⟨12, _⟩ => ⟨S3x704, .f32⟩
  | .local _ .vmem, ⟨13, _⟩ => ⟨S3x704, .f32⟩
  | .local _ .vmem, ⟨14, _⟩ => ⟨S3x704, .f32⟩
  | .local _ .vmem, ⟨15, _⟩ => ⟨S3x704, .f32⟩
  | _, _ => ⟨S31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S31x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S31x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x704 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Reference14Ideal.lean ====
abbrev S31x64 : Shape := ⟨2, ![31, 64]⟩
abbrev S3x704 : Shape := ⟨2, ![3, 704]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S31x64, .f32⟩
  | .hbm, ⟨1, _⟩ => ⟨S31x64, .f32⟩
  | .hbm, ⟨2, _⟩ => ⟨S31x64, .f32⟩
  | .hbm, ⟨3, _⟩ => ⟨S31x64, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .hbm, ⟨8, _⟩ => ⟨S_, .f32⟩
  | .hbm, ⟨9, _⟩ => ⟨S31x64, .f32⟩
  | .hbm, ⟨10, _⟩ => ⟨S31x64, .f32⟩
  | .hbm, ⟨11, _⟩ => ⟨S_, .f32⟩
  | .hbm, ⟨12, _⟩ => ⟨S31x64, .f32⟩
  | .hbm, ⟨13, _⟩ => ⟨S31x64, .f32⟩
  | .hbm, ⟨14, _⟩ => ⟨S31x64, .f32⟩
  | .hbm, ⟨15, _⟩ => ⟨S_, .f32⟩
  | .hbm, ⟨16, _⟩ => ⟨S31x64, .f32⟩
  | .hbm, ⟨17, _⟩ => ⟨S31x64, .f32⟩
  | .hbm, ⟨18, _⟩ => ⟨S31x64, .f32⟩
  | .hbm, ⟨19, _⟩ => ⟨S_, .f32⟩
  | .hbm, ⟨20, _⟩ => ⟨S31x64, .f32⟩
  | .hbm, ⟨21, _⟩ => ⟨S31x64, .f32⟩
  | .hbm, ⟨22, _⟩ => ⟨S31x64, .f32⟩
  | .hbm, ⟨23, _⟩ => ⟨S_, .f32⟩
  | .hbm, ⟨24, _⟩ => ⟨S31x64, .f32⟩
  | .hbm, ⟨25, _⟩ => ⟨S31x64, .f32⟩
  | .hbm, ⟨26, _⟩ => ⟨S_, .f32⟩
  | .hbm, ⟨27, _⟩ => ⟨S31x64, .f32⟩
  | .hbm, ⟨28, _⟩ => ⟨S31x64, .f32⟩
  | .hbm, ⟨29, _⟩ => ⟨S31x64, .f32⟩
  | .hbm, ⟨30, _⟩ => ⟨S_, .f32⟩
  | .hbm, ⟨31, _⟩ => ⟨S31x64, .f32⟩
  | .hbm, ⟨32, _⟩ => ⟨S31x64, .f32⟩
  | .hbm, ⟨33, _⟩ => ⟨S31x64, .f32⟩
  | .hbm, ⟨34, _⟩ => ⟨S_, .f32⟩
  | .hbm, ⟨35, _⟩ => ⟨S31x64, .f32⟩
  | .hbm, ⟨36, _⟩ => ⟨S31x64, .f32⟩
  | .hbm, ⟨37, _⟩ => ⟨S31x64, .f32⟩
  | .hbm, ⟨38, _⟩ => ⟨S_, .f32⟩
  | .hbm, ⟨39, _⟩ => ⟨S31x64, .f32⟩
  | .hbm, ⟨40, _⟩ => ⟨S31x64, .f32⟩
  | .hbm, ⟨41, _⟩ => ⟨S_, .f32⟩
  | .hbm, ⟨42, _⟩ => ⟨S3x704, .f32⟩
  | .hbm, ⟨43, _⟩ => ⟨S3x704, .f32⟩
  | .hbm, ⟨44, _⟩ => ⟨S_, .f32⟩
  | .hbm, ⟨45, _⟩ => ⟨S3x704, .f32⟩
  | .hbm, ⟨46, _⟩ => ⟨S3x704, .f32⟩
  | .hbm, ⟨47, _⟩ => ⟨S3x704, .f32⟩
  | .hbm, ⟨48, _⟩ => ⟨S_, .f32⟩
  | .hbm, ⟨49, _⟩ => ⟨S3x704, .f32⟩
  | .hbm, ⟨50, _⟩ => ⟨S3x704, .f32⟩
  | .hbm, ⟨51, _⟩ => ⟨S3x704, .f32⟩
  | .hbm, ⟨52, _⟩ => ⟨S_, .f32⟩
  | .hbm, ⟨53, _⟩ => ⟨S3x704, .f32⟩
  | .hbm, ⟨54, _⟩ => ⟨S3x704, .f32⟩
  | .hbm, ⟨55, _⟩ => ⟨S3x704, .f32⟩
  | .hbm, ⟨56, _⟩ => ⟨S_, .f32⟩
  | .hbm, ⟨57, _⟩ => ⟨S3x704, .f32⟩
  | .hbm, ⟨58, _⟩ => ⟨S3x704, .f32⟩
  | .hbm, ⟨59, _⟩ => ⟨S_, .f32⟩
  | .hbm, ⟨60, _⟩ => ⟨S3x704, .f32⟩
  | .hbm, ⟨61, _⟩ => ⟨S3x704, .f32⟩
  | .hbm, ⟨62, _⟩ => ⟨S3x704, .f32⟩
  | .hbm, ⟨63, _⟩ => ⟨S_, .f32⟩
  | .hbm, ⟨64, _⟩ => ⟨S3x704, .f32⟩
  | .hbm, ⟨65, _⟩ => ⟨S3x704, .f32⟩
  | .hbm, ⟨66, _⟩ => ⟨S3x704, .f32⟩
  | .hbm, ⟨67, _⟩ => ⟨S_, .f32⟩
  | .hbm, ⟨68, _⟩ => ⟨S3x704, .f32⟩
  | .hbm, ⟨69, _⟩ => ⟨S3x704, .f32⟩
  | .hbm, ⟨70, _⟩ => ⟨S3x704, .f32⟩
  | .hbm, ⟨71, _⟩ => ⟨S_, .f32⟩
  | .hbm, ⟨72, _⟩ => ⟨S3x704, .f32⟩
  | .hbm, ⟨73, _⟩ => ⟨S3x704, .f32⟩
  | _, _ => ⟨S31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.UpBlocks.lean ====
module

public import proofs.«01_k».proof.Proof.Gen.KernelIdeal.Value

/-! # What each grid point of the channel sub-layer's gradient leaves in its output windows

The first point starts the four column sums from zero, every other point adds to what the point before left; the two row outputs depend on the point's own blocks alone. -/

@[expose] public section

set_option maxRecDepth 16384

noncomputable section

namespace Cert.KernelIdeal.Blocks

open Cert.KernelIdeal Cert.KernelIdeal.Gen Cert.KernelIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := by
  funext a; fin_cases a <;> rfl

/-- The product's gradient at point `t`: the two halves of the incoming gradient, each times its half of the weights. -/
def dhv (c : Dev nD) (t : Fin cfg0.N) : FVec F S256x1024 .f32 :=
  k0_pay7 (View.ld (iblk m c 0 t) (Rect.unit ![0, 0, 0] ![1, 256, 2816] inb_S2x256x2816_S1x256x2816_0_0_0))
    (View.ld (iblk m c 1 t) (Rect.unit ![0, 0, 0] ![1, 2816, 1024] inb_S2x2816x1024_S1x2816x1024_0_0_0))
    (View.ld (iblk m c 0 t) (Rect.unit ![1, 0, 0] ![1, 256, 2816] inb_S2x256x2816_S1x256x2816_1_0_0))
    (View.ld (iblk m c 1 t) (Rect.unit ![1, 0, 0] ![1, 2816, 1024] inb_S2x2816x1024_S1x2816x1024_1_0_0))

/-- The row of the modulation that scales. -/
def scv (c : Dev nD) (t : Fin cfg0.N) : Vec F S1x1024 .f32 :=
  View.ld (iblk m c 5 t) (Rect.unit ![4, 0] ![1, 1024] inb_S8x1024_S1x1024_4_0)

/-- The row of the modulation that gates. -/
def gav (c : Dev nD) (t : Fin cfg0.N) : Vec F S1x1024 .f32 :=
  View.ld (iblk m c 5 t) (Rect.unit ![2, 0] ![1, 1024] inb_S8x1024_S1x1024_2_0)

/-- The gradient of the rows at point `t`. -/
def dxv (c : Dev nD) (t : Fin cfg0.N) : FVec F S256x1024 .f32 :=
  k0_pay15 (iblk m c 4 t) (dhv m c t) (k0_pay9 (iblk m c 2 t)) (k0_pay10 (iblk m c 2 t)) (scv m c t) (iblk m c 3 t)

theorem at7_A (c : Dev nD) (t : Fin cfg0.N) (h0 : t.val % 8 = 0) :
    (outsAt0 m c t.val t.isLt).1 = dxv m c t := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ _ _ _ _ _ _ _)]
  unfold kernelRun0_A
  dsimp only
  sl_unfold_words
  rw [View.canon_unit_zero (S := S256x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at7_B (c : Dev nD) (t : Fin cfg0.N) (h0 : ¬t.val % 8 = 0) :
    (outsAt0 m c t.val t.isLt).1 = dxv m c t := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S256x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at8_A (c : Dev nD) (t : Fin cfg0.N) (h0 : t.val % 8 = 0) :
    (outsAt0 m c t.val t.isLt).2.1 = k0_pay11 (View.ld (iblk m c 0 t) (Rect.unit ![0, 0, 0] ![1, 256, 2816] inb_S2x256x2816_S1x256x2816_0_0_0)) (View.ld (iblk m c 1 t) (Rect.unit ![0, 0, 0] ![1, 2816, 1024] inb_S2x2816x1024_S1x2816x1024_0_0_0)) (View.ld (iblk m c 0 t) (Rect.unit ![1, 0, 0] ![1, 256, 2816] inb_S2x256x2816_S1x256x2816_1_0_0)) (View.ld (iblk m c 1 t) (Rect.unit ![1, 0, 0] ![1, 2816, 1024] inb_S2x2816x1024_S1x2816x1024_1_0_0)) k0_pay3 := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at8_B (c : Dev nD) (t : Fin cfg0.N) (h0 : ¬t.val % 8 = 0) :
    (outsAt0 m c t.val t.isLt).2.1 = k0_pay11 (View.ld (iblk m c 0 t) (Rect.unit ![0, 0, 0] ![1, 256, 2816] inb_S2x256x2816_S1x256x2816_0_0_0)) (View.ld (iblk m c 1 t) (Rect.unit ![0, 0, 0] ![1, 2816, 1024] inb_S2x2816x1024_S1x2816x1024_0_0_0)) (View.ld (iblk m c 0 t) (Rect.unit ![1, 0, 0] ![1, 256, 2816] inb_S2x256x2816_S1x256x2816_1_0_0)) (View.ld (iblk m c 1 t) (Rect.unit ![1, 0, 0] ![1, 2816, 1024] inb_S2x2816x1024_S1x2816x1024_1_0_0)) (outsAt0 m c (t.val - 1) (Nat.lt_of_le_of_lt (Nat.sub_le _ _) t.isLt)).2.1 := by
  rw [outsAt0_B m c t h0]
  dsimp only
  unfold out0_B_8
  rw [View.read_writes_eq_canon _ _ _ (cover0_B_8 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at9_A (c : Dev nD) (t : Fin cfg0.N) (h0 : t.val % 8 = 0) :
    (outsAt0 m c t.val t.isLt).2.2.1 = k0_pay12 (iblk m c 4 t) (dhv m c t) (k0_pay10 (iblk m c 2 t)) k0_pay4 := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at9_B (c : Dev nD) (t : Fin cfg0.N) (h0 : ¬t.val % 8 = 0) :
    (outsAt0 m c t.val t.isLt).2.2.1 = k0_pay12 (iblk m c 4 t) (dhv m c t) (k0_pay10 (iblk m c 2 t)) (outsAt0 m c (t.val - 1) (Nat.lt_of_le_of_lt (Nat.sub_le _ _) t.isLt)).2.2.1 := by
  rw [outsAt0_B m c t h0]
  dsimp only
  unfold out0_B_9
  rw [View.read_writes_eq_canon _ _ _ (cover0_B_9 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at10_A (c : Dev nD) (t : Fin cfg0.N) (h0 : t.val % 8 = 0) :
    (outsAt0 m c t.val t.isLt).2.2.2.1 = k0_pay14 (dhv m c t) (k0_pay10 (iblk m c 2 t)) (scv m c t) k0_pay5 := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at10_B (c : Dev nD) (t : Fin cfg0.N) (h0 : ¬t.val % 8 = 0) :
    (outsAt0 m c t.val t.isLt).2.2.2.1 = k0_pay14 (dhv m c t) (k0_pay10 (iblk m c 2 t)) (scv m c t) (outsAt0 m c (t.val - 1) (Nat.lt_of_le_of_lt (Nat.sub_le _ _) t.isLt)).2.2.2.1 := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at11_A (c : Dev nD) (t : Fin cfg0.N) (h0 : t.val % 8 = 0) :
    (outsAt0 m c t.val t.isLt).2.2.2.2.1 = k0_pay2 (dxv m c t) (gav m c t) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _ _ _)]
  unfold kernelRun0_A
  dsimp only
  sl_unfold_words
  rw [View.canon_unit_zero (S := S256x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at11_B (c : Dev nD) (t : Fin cfg0.N) (h0 : ¬t.val % 8 = 0) :
    (outsAt0 m c t.val t.isLt).2.2.2.2.1 = k0_pay2 (dxv m c t) (gav m c t) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S256x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at12_A (c : Dev nD) (t : Fin cfg0.N) (h0 : t.val % 8 = 0) :
    (outsAt0 m c t.val t.isLt).2.2.2.2.2 = k0_pay1 (dxv m c t) k0_pay6 (iblk m c 6 t) := by
  rw [outsAt0_A m c t h0]
  dsimp only
  unfold out0_A_12
  rw [View.read_writes_eq_canon _ _ _ (cover0_A_12 c _ _ _ _ _ _ _ _ _ _ _ _ _ _ _ _ _ _ _ _ _ _ _ _ _ _ _ _ _ _ _ _ _ _ _)]
  unfold kernelRun0_A
  dsimp only
  sl_unfold_words
  rw [View.canon_cons_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

theorem at12_B (c : Dev nD) (t : Fin cfg0.N) (h0 : ¬t.val % 8 = 0) :
    (outsAt0 m c t.val t.isLt).2.2.2.2.2 = k0_pay1 (dxv m c t) (outsAt0 m c (t.val - 1) (Nat.lt_of_le_of_lt (Nat.sub_le _ _) t.isLt)).2.2.2.2.2 (iblk m c 6 t) := by
  rw [outsAt0_B m c t h0]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _)]
  unfold kernelRun0_B
  dsimp only
  sl_unfold_words
  rw [View.canon_unit_zero (S := S1x1024) hz]
  simp only [View.readCov_unit_zero (S := S1x1024) _ hz, View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_12 t).read_unread, View.ld_unit_zero (S := S1x1024) hz, View.ld_unit_zero (S := S256x1024) hz]
  rfl

/-- The two row outputs, whichever case the point runs. -/
theorem at7 (c : Dev nD) (t : Fin cfg0.N) : (outsAt0 m c t.val t.isLt).1 = dxv m c t := by
  by_cases h0 : t.val % 8 = 0
  · exact at7_A m c t h0
  · exact at7_B m c t h0

theorem at11 (c : Dev nD) (t : Fin cfg0.N) : (outsAt0 m c t.val t.isLt).2.2.2.2.1 = k0_pay2 (dxv m c t) (gav m c t) := by
  by_cases h0 : t.val % 8 = 0
  · exact at11_A m c t h0
  · exact at11_B m c t h0

end Cert.KernelIdeal.Blocks
-- ==== Proof.Rows.lean ====
module

public import Idealize.ShloMosaic.PureOps.Ideal.Laws
public import Mathlib.Data.EReal.Operations
public import Mathlib.Data.EReal.Inv

/-! # One row of the gradient of an RMS norm, over the extended reals

The norm of a row `x` multiplies it by `rinv x`, the reciprocal square root of its mean square plus a positive constant.
Its gradient is written in two ways here.  `kdx` is the form that subtracts from the incoming gradient its projection on the normalised row, and `rdx` is the chain rule followed step by step, through the square of the row.
`kdx_eq_rdx` says that they agree on every row, with no assumption: where the mean square is `⊤` both add nothing to the residual's gradient, and elsewhere every entry of the row is a real number, so a nonnegative real can be taken in and out of sums. -/

@[expose] public section

noncomputable section

namespace Cert.Rows

open Idealize.ShloMosaic

/-- The length of a row, as a float word's value. -/
abbrev width : EReal := Ideal.ofBits .f32 0x44800000#32
/-- The constant that keeps the mean square positive. -/
abbrev eps : EReal := Ideal.ofBits .f32 0x358637BD#32
/-- The power of the norm's derivative. -/
abbrev mhalf : EReal := Ideal.ofBits .f32 0xBF000000#32

theorem width_eq : width = ((1024 : ℝ) : EReal) := by
  simp [width, Ideal.ofBits, Ideal.ieee, -EReal.coe_mul]; norm_num

theorem mhalf_eq : mhalf = ((-(1/2) : ℝ) : EReal) := by
  simp [mhalf, Ideal.ofBits, Ideal.ieee, -EReal.coe_mul]; norm_num

theorem one_eq : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

theorem eps_pos : ∃ e : ℝ, 0 < e ∧ eps = (e : EReal) := by
  refine ⟨8796093 * (2 : ℝ) ^ (-43 : ℤ), by positivity, ?_⟩
  simp [eps, Ideal.ofBits, Ideal.ieee, -EReal.coe_mul]

theorem div_width (x : EReal) : Ideal.div x width = x * ((1/1024 : ℝ) : EReal) := by
  rw [width_eq, Ideal.div_coe (by norm_num)]

/-- A nonnegative real goes into a sum. -/
theorem mul_sum_real {ι : Type*} (s : Finset ι) (f : ι → EReal) (ρ : ℝ) (h : 0 ≤ ρ) :
    (ρ : EReal) * ∑ i ∈ s, f i = ∑ i ∈ s, (ρ : EReal) * f i := by
  classical
  induction s using Finset.induction_on with
  | empty => simp
  | insert a s ha ih =>
    rw [Finset.sum_insert ha, Finset.sum_insert ha, EReal.left_distrib_of_nonneg_of_ne_top (by exact_mod_cast h) (EReal.coe_ne_top _), ih]

/-- A real multiple of a value, added to itself, is the value times twice the real. -/
theorem mul_add_self (s : EReal) (p : ℝ) : s * (p : EReal) + s * (p : EReal) = s * ((p + p : ℝ) : EReal) := by
  rcases le_total 0 p with h | h
  · rw [EReal.coe_add, EReal.left_distrib_of_nonneg (by exact_mod_cast h) (by exact_mod_cast h)]
  · have h' : (0 : EReal) ≤ ((-p : ℝ) : EReal) := by exact_mod_cast neg_nonneg.mpr h
    have e := EReal.left_distrib_of_nonneg (c := -s) h' h'
    rw [← EReal.coe_add] at e
    have e2 : (-p + -p : ℝ) = -(p + p) := by ring
    rw [e2, EReal.coe_neg, EReal.coe_neg, neg_mul_neg, neg_mul_neg] at e
    exact e.symm

/-- The sum of real numbers, taken over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem square_nonneg (x : EReal) : 0 ≤ x * x := by
  induction x with
  | bot => simp
  | top => simp
  | coe a => exact_mod_cast mul_self_nonneg a

theorem square_eq_top {x : EReal} (h : x * x ≠ ⊤) : ∃ a : ℝ, x = (a : EReal) := by
  induction x with
  | bot => simp at h
  | top => simp at h
  | coe a => exact ⟨a, rfl⟩

variable {n : Nat}

/-! ## The norm of a row of any width

`W` stands for the row's length as the programs hold it, a positive real number `ω`. -/

section Width

variable (W : EReal)

/-- The mean square of a row plus the constant. -/
def argOf (x : Fin n → EReal) : EReal := Ideal.div (∑ k, x k * x k) W + eps

/-- The factor of the norm. -/
def rinvOf (x : Fin n → EReal) : EReal := Ideal.rsqrt (argOf W x)

/-- The gradient of a row, as its incoming gradient less the projection on the normalised row; `res` is the gradient that a residual adds. -/
def kdxOf (res x w : Fin n → EReal) (j : Fin n) : EReal :=
  res j + rinvOf W x * (w j - x j * rinvOf W x * Ideal.div (∑ k, w k * (x k * rinvOf W x)) W)

/-- The factor by which the chain rule through the square multiplies the row. -/
def pullOf (x w : Fin n → EReal) : EReal :=
  Ideal.div ((∑ k, x k * w k) * (mhalf * Ideal.div (rinvOf W x) (argOf W x))) W

/-- The gradient of a row by the chain rule, with the square's two equal parts added one after the other. -/
def rdxOf (res x w : Fin n → EReal) (j : Fin n) : EReal :=
  res j + w j * rinvOf W x + x j * pullOf W x w + pullOf W x w * x j

variable {W} {ω : ℝ} (hW : W = (ω : EReal)) (hω : 0 < ω)
include hW hω

theorem div_real (x : EReal) : Ideal.div x W = x * ((1/ω : ℝ) : EReal) := by
  rw [hW, Ideal.div_coe hω.ne']

/-- A row is one of real numbers with a positive real factor, or its argument is `⊤`. -/
theorem argOf_cases (x : Fin n → EReal) :
    argOf W x = ⊤ ∨ ∃ (a : Fin n → ℝ) (ρ : ℝ), (∀ k, x k = (a k : EReal)) ∧ 0 < ρ ∧ rinvOf W x = (ρ : EReal) ∧
      Ideal.div (rinvOf W x) (argOf W x) = ((ρ * ρ * ρ : ℝ) : EReal) := by
  obtain ⟨e, he, heps⟩ := eps_pos
  by_cases h : ∑ k, x k * x k = ⊤
  · left
    rw [argOf, h, div_real hW hω, heps, EReal.top_mul_coe_of_pos (one_div_pos.mpr hω)]
    rfl
  · right
    have hk : ∀ k, ∃ a : ℝ, x k = (a : EReal) := fun k => square_eq_top (fun hx => h (top_le_iff.mp (by
      rw [← hx]
      exact Finset.single_le_sum (f := fun k => x k * x k) (fun i _ => square_nonneg (x i)) (Finset.mem_univ k))))
    choose a ha using hk
    have hs : ∑ k, x k * x k = ((∑ k, a k * a k : ℝ) : EReal) := by
      rw [coe_sum]
      exact Finset.sum_congr rfl fun k _ => by rw [ha k, EReal.coe_mul]
    have hA : argOf W x = (((∑ k, a k * a k) * (1/ω) + e : ℝ) : EReal) := by
      rw [argOf, hs, div_real hW hω, heps, EReal.coe_add, EReal.coe_mul]
    have hpos : 0 < (∑ k, a k * a k) * (1/ω) + e :=
      add_pos_of_nonneg_of_pos (mul_nonneg (Finset.sum_nonneg fun k _ => mul_self_nonneg (a k)) (one_div_pos.mpr hω).le) he
    generalize (∑ k, a k * a k) * (1/ω) + e = α at hA hpos
    have hr : rinvOf W x = (((√α)⁻¹ : ℝ) : EReal) := by
      rw [rinvOf, hA, Ideal.rsqrt_coe, if_neg (not_lt.mpr hpos.le), if_neg hpos.ne']
    refine ⟨a, (√α)⁻¹, ha, inv_pos.mpr (Real.sqrt_pos.mpr hpos), hr, ?_⟩
    rw [hr, hA, Ideal.div_coe hpos.ne', ← EReal.coe_mul]
    congr 1
    have : 1 / α = (√α)⁻¹ * (√α)⁻¹ := by
      rw [← mul_inv, Real.mul_self_sqrt hpos.le, one_div]
    rw [this]; ring

theorem kdxOf_eq_rdxOf (res x w : Fin n → EReal) (j : Fin n) : kdxOf W res x w j = rdxOf W res x w j := by
  unfold kdxOf rdxOf pullOf
  rcases argOf_cases hW hω x with h | ⟨a, ρ, ha, hρ, hr, hd⟩
  · have hr : rinvOf W x = 0 := by rw [rinvOf, h, Ideal.rsqrt_top]
    have hz : Ideal.div (0 : EReal) ⊤ = 0 := by simp [Ideal.div]
    rw [hr, h, hz]
    simp [div_real hW hω]
  · rw [hd, hr, div_real hW hω, div_real hW hω, mhalf_eq, ha j]
    have hS : ∑ k, w k * (x k * (ρ : EReal)) = (ρ : EReal) * ∑ k, x k * w k := by
      rw [mul_sum_real _ _ _ hρ.le]
      exact Finset.sum_congr rfl fun k _ => by rw [← mul_assoc, mul_comm (ρ : EReal), mul_comm (w k)]
    rw [hS]
    generalize ∑ k, x k * w k = S
    have e1 : (ρ : EReal) * (w j - (a j : EReal) * (ρ : EReal) * ((ρ : EReal) * S * ((1/ω : ℝ) : EReal)))
        = w j * (ρ : EReal) + S * ((-(a j * ρ * ρ * ρ * (1/ω)) : ℝ) : EReal) := by
      rw [sub_eq_add_neg, EReal.left_distrib_of_nonneg_of_ne_top (by exact_mod_cast hρ.le) (EReal.coe_ne_top _),
        mul_comm (ρ : EReal) (w j), mul_neg, EReal.coe_neg, mul_neg]
      congr 2
      simp only [EReal.coe_mul]
      ac_rfl
    have e2 : (a j : EReal) * (S * (((-(1/2) : ℝ) : EReal) * ((ρ * ρ * ρ : ℝ) : EReal)) * ((1/ω : ℝ) : EReal))
        = S * ((a j * (-(1/2) * (ρ * ρ * ρ) * (1/ω)) : ℝ) : EReal) := by
      simp only [EReal.coe_mul]
      ac_rfl
    rw [e1, mul_comm _ (a j : EReal), e2, add_assoc (res j + _), mul_add_self, add_assoc]
    congr 3
    ring_nf

end Width

/-! ## The rows of the step's width -/

/-- The mean square of a row plus the constant. -/
def arg (x : Fin n → EReal) : EReal := Ideal.div (∑ k, x k * x k) width + eps

/-- The factor of the norm. -/
def rinv (x : Fin n → EReal) : EReal := Ideal.rsqrt (arg x)

/-- The gradient of a row, as its incoming gradient less the projection on the normalised row; `res` is the gradient that a residual adds. -/
def kdx (res x w : Fin n → EReal) (j : Fin n) : EReal :=
  res j + rinv x * (w j - x j * rinv x * Ideal.div (∑ k, w k * (x k * rinv x)) width)

/-- The factor by which the chain rule through the square multiplies the row. -/
def pull (x w : Fin n → EReal) : EReal :=
  Ideal.div ((∑ k, x k * w k) * (mhalf * Ideal.div (rinv x) (arg x))) width

/-- The gradient of a row by the chain rule, with the square's two equal parts added one after the other. -/
def rdx (res x w : Fin n → EReal) (j : Fin n) : EReal :=
  res j + w j * rinv x + x j * pull x w + pull x w * x j

theorem kdx_eq_rdx (res x w : Fin n → EReal) (j : Fin n) : kdx res x w j = rdx res x w j :=
  kdxOf_eq_rdxOf width_eq (by norm_num) res x w j

/-- The length of a row of the attention, as a float word's value. -/
abbrev width2 : EReal := Ideal.ofBits .f32 0x44000000#32

theorem width2_eq : width2 = ((512 : ℝ) : EReal) := by
  simp [width2, Ideal.ofBits, Ideal.ieee, -EReal.coe_mul]; norm_num

theorem place_lt {R P N : Nat} (hN : R * (P + 1) = N) {n : Nat} (h : n ≤ P) (r : Fin R) : R * n + r.val < N := by
  have h1 := r.isLt
  have h2 : R * n + R ≤ R * (P + 1) := by rw [← Nat.mul_succ]; exact Nat.mul_le_mul_left R (Nat.succ_le_succ h)
  omega

/-- A sum taken in blocks of `R`, one after the other, is the whole sum. -/
theorem sum_blocks (R P N : Nat) (hN : R * (P + 1) = N) (g : Fin N → EReal) (A : (n : Nat) → n ≤ P → EReal)
    (h0 : A 0 (Nat.zero_le _) = ∑ r : Fin R, g ⟨R * 0 + r.val, place_lt hN (Nat.zero_le _) r⟩)
    (hs : ∀ n (h : n + 1 ≤ P), A (n + 1) h = A n (Nat.le_of_succ_le h)
      + ∑ r : Fin R, g ⟨R * (n + 1) + r.val, place_lt hN h r⟩) :
    A P (Nat.le_refl P) = ∑ i, g i := by
  let f : Nat → EReal := fun i => if h : i < N then g ⟨i, h⟩ else 0
  have hf : ∀ i (h : i < N), g ⟨i, h⟩ = f i := fun i h => by simp only [f, dif_pos h]
  have key : ∀ n (h : n ≤ P), A n h = ∑ i ∈ Finset.range (R * (n + 1)), f i := by
    intro n
    induction n with
    | zero =>
      intro h
      rw [h0, Nat.zero_add, Nat.mul_one R, Finset.sum_range]
      simp only [hf, Nat.mul_zero, Nat.zero_add]
    | succ n ih =>
      intro h
      rw [hs n h, ih, Nat.mul_succ R (n + 1), Finset.sum_range_add, Finset.sum_range (fun x => f (R * (n + 1) + x))]
      simp only [hf]
  rw [key, hN, Finset.sum_range]
  exact Finset.sum_congr rfl fun i _ => (hf i.val i.isLt).symm

/-- A sum in two halves. -/
theorem sum_halves (K : Nat) (f : Fin (K + K) → EReal) :
    ∑ k, f k = (∑ k : Fin K, f ⟨k.val, by omega⟩) + ∑ k : Fin K, f ⟨K + k.val, by omega⟩ := by
  rw [Fin.sum_univ_add]
  rfl

/-! ## The gradient of a modulated norm, row by row

`H` is the gradient that reaches the modulated rows, `X` the rows before the norm, `D` the gradient that the residual carries past them, `s` the scale of the modulation and `g` the weights of the norm. -/

section Grad

variable {r : Nat} (H X D : Fin r → Fin n → EReal) (s g : Fin n → EReal)

/-- The gradient at the norm's weighted rows. -/
def dscaled (i : Fin r) (j : Fin n) : EReal := H i j * (Ideal.ofBits .f32 0x3F800000#32 + s j)
/-- The gradient at the normalised rows. -/
def dnorm (i : Fin r) (j : Fin n) : EReal := dscaled H s i j * g j
/-- The normalised rows. -/
def xnorm (i : Fin r) (j : Fin n) : EReal := X i j * rinv (X i)
/-- The gradient of the rows. -/
def gradX (i : Fin r) (j : Fin n) : EReal := kdx (D i) (X i) (dnorm H s g i) j
/-- The gradient of the shift. -/
def gradShift (j : Fin n) : EReal := ∑ i, H i j
/-- The gradient of the scale. -/
def gradScale (j : Fin n) : EReal := ∑ i, H i j * (xnorm X i j * g j)
/-- The gradient of the norm's weights. -/
def gradWeight (j : Fin n) : EReal := ∑ i, dscaled H s i j * xnorm X i j

end Grad

end Cert.Rows
-- ==== Proof.UpValue.lean ====
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Blocks

open Cert.KernelIdeal Cert.KernelIdeal.Gen
open Idealize.ShloMosaic Idealize.ShloMosaic.TcCoe Idealize.SL.Sem
open Cert.Rows

theorem pay7_apply (a0 : Vec Ideal S1x256x2816 .bf16) (b0 : Vec Ideal S1x2816x1024 .bf16) (a1 : Vec Ideal S1x256x2816 .bf16) (b1 : Vec Ideal S1x2816x1024 .bf16) (r : Fin 256) (j : Fin 1024) :
    k0_pay7 a0 b0 a1 b1 (ix2 r j) = (∑ k : Fin 2816, a0 (ix3 0 r k) * b0 (ix3 0 k j)) + ∑ k : Fin 2816, a1 (ix3 0 r k) * b1 (ix3 0 k j) := by
  pointwise [k0_pay7]

theorem pay9_apply (x : Vec Ideal S256x1024 .f32) (r : Fin 256) :
    k0_pay9 x (ix2 r 0) = rinv (fun k => x (ix2 r k)) := by
  pointwise [k0_pay9, k0_pay8]
  rfl

theorem pay10_apply (x : Vec Ideal S256x1024 .f32) (r : Fin 256) (j : Fin 1024) :
    k0_pay10 x (ix2 r j) = x (ix2 r j) * rinv (fun k => x (ix2 r k)) := by
  rw [← pay9_apply]
  pointwise [k0_pay10, k0_pay8]

theorem pay11_apply (a0 : Vec Ideal S1x256x2816 .bf16) (b0 : Vec Ideal S1x2816x1024 .bf16) (a1 : Vec Ideal S1x256x2816 .bf16) (b1 : Vec Ideal S1x2816x1024 .bf16) (a : Vec Ideal S1x1024 .f32) (j : Fin 1024) :
    k0_pay11 a0 b0 a1 b1 a (ix2 0 j) = a (ix2 0 j) + ∑ r : Fin 256, k0_pay7 a0 b0 a1 b1 (ix2 r j) := by
  pointwise [k0_pay11]

theorem pay12_apply (g : Vec Ideal S1x1024 .f32) (d xn : FVec Ideal S256x1024 .f32) (a : Vec Ideal S1x1024 .f32) (j : Fin 1024) :
    k0_pay12 g d xn a (ix2 0 j) = a (ix2 0 j) + ∑ r : Fin 256, d (ix2 r j) * (xn (ix2 r j) * g (ix2 0 j)) := by
  pointwise [k0_pay12]

theorem pay13_apply (d : FVec Ideal S256x1024 .f32) (s : Vec Ideal S1x1024 .f32) (r : Fin 256) (j : Fin 1024) :
    k0_pay13 d s (ix2 r j) = d (ix2 r j) * (Ideal.ofBits .f32 0x3F800000#32 + s (ix2 0 j)) := by
  pointwise [k0_pay13]

theorem pay14_apply (d xn : FVec Ideal S256x1024 .f32) (s a : Vec Ideal S1x1024 .f32) (j : Fin 1024) :
    k0_pay14 d xn s a (ix2 0 j) = a (ix2 0 j) + ∑ r : Fin 256, k0_pay13 d s (ix2 r j) * xn (ix2 r j) := by
  pointwise [k0_pay14]

theorem pay15_apply (g : Vec Ideal S1x1024 .f32) (d : FVec Ideal S256x1024 .f32) (x : Vec Ideal S256x1024 .f32) (s : Vec Ideal S1x1024 .f32) (res : Vec Ideal S256x1024 .f32) (r : Fin 256) (j : Fin 1024) :
    k0_pay15 g d (k0_pay9 x) (k0_pay10 x) s res (ix2 r j) =
      kdx (fun k => res (ix2 r k)) (fun k => x (ix2 r k)) (fun k => k0_pay13 d s (ix2 r k) * g (ix2 0 k)) j := by
  unfold kdx
  simp only [← pay9_apply]
  pointwise [k0_pay15]
  simp only [pay10_apply, ← pay9_apply]

theorem pay1_apply (d : FVec Ideal S256x1024 .f32) (a : Vec Ideal S1x1024 .f32) (y : Vec Ideal S256x1024 .f32) (j : Fin 1024) :
    k0_pay1 d a y (ix2 0 j) = a (ix2 0 j) + ∑ r : Fin 256, d (ix2 r j) * y (ix2 r j) := by
  pointwise [k0_pay1]

theorem pay2_apply (d : FVec Ideal S256x1024 .f32) (s : Vec Ideal S1x1024 .f32) (r : Fin 256) (j : Fin 1024) :
    k0_pay2 d s (ix2 r j) = d (ix2 r j) * s (ix2 0 j) := by
  pointwise [k0_pay2]

theorem pay3_apply (j : Fin 1024) : (k0_pay3 (F := Ideal)) (ix2 0 j) = 0 := by
  pointwise [k0_pay3]

theorem pay4_apply (j : Fin 1024) : (k0_pay4 (F := Ideal)) (ix2 0 j) = 0 := by
  pointwise [k0_pay4]

theorem pay5_apply (j : Fin 1024) : (k0_pay5 (F := Ideal)) (ix2 0 j) = 0 := by
  pointwise [k0_pay5]

theorem pay6_apply (j : Fin 1024) : (k0_pay6 (F := Ideal)) (ix2 0 j) = 0 := by
  pointwise [k0_pay6]

end Cert.KernelIdeal.Blocks
-- ==== Proof.UpMath.lean ====
module

public import proofs.«01_k».proof.Proof.Rows
public import Idealize.ShloMosaic.Lib.Pointwise

/-! # The channel sub-layer's gradient as a function of its arguments -/

@[expose] public section

noncomputable section

open Idealize.ShloMosaic Cert.Rows

/-- An index of a one-row array is its column. -/
theorem Cert.Rows.eq_row {n : Nat} (j : (⟨2, ![1, n]⟩ : Shape).Idx) : j = ix2 0 (j 1) := by
  funext a
  match a with
  | ⟨0, _⟩ => exact Fin.ext (by have h : (j 0).val < 1 := (j 0).isLt; show (j 0).val = 0; omega)
  | ⟨1, _⟩ => rfl

namespace Cert.Up

variable (A : (⟨3, ![2, 2048, 2816]⟩ : Shape).Idx → EReal) (W : (⟨2, ![1024, 5632]⟩ : Shape).Idx → EReal)
variable (X Y D : (⟨2, ![2048, 1024]⟩ : Shape).Idx → EReal) (G : (⟨2, ![1, 1024]⟩ : Shape).Idx → EReal)
variable (M : (⟨2, ![6, 1024]⟩ : Shape).Idx → EReal)

/-- The rows that the norm reads: the step's input plus the gated output of the first sub-layer. -/
def xin (i : Fin 2048) (j : Fin 1024) : EReal := X (ix2 i j) + M (ix2 2 j) * Y (ix2 i j)

/-- The gradient that reaches the modulated rows through the product, in two halves of its columns. -/
def dh (i : Fin 2048) (j : Fin 1024) : EReal :=
  (∑ k : Fin 2816, A (ix3 0 i k) * W (ix2 j ⟨k.val, by omega⟩)) + ∑ k : Fin 2816, A (ix3 1 i k) * W (ix2 j ⟨2816 + k.val, by omega⟩)

/-- The scale of the modulation. -/
def sc (j : Fin 1024) : EReal := M (ix2 4 j)
/-- The weights of the norm. -/
def gw (j : Fin 1024) : EReal := G (ix2 0 j)

/-- The gradient of the step's input. -/
def dx (i : Fin 2048) (j : Fin 1024) : EReal :=
  gradX (dh A W) (xin X Y M) (fun i j => D (ix2 i j)) (sc M) (gw G) i j
def dsh (j : Fin 1024) : EReal := gradShift (dh A W) j
def dsc (j : Fin 1024) : EReal := gradScale (dh A W) (xin X Y M) (gw G) j
def dg (j : Fin 1024) : EReal := gradWeight (dh A W) (xin X Y M) (sc M) j
/-- The gradient of the first sub-layer's output. -/
def dy (i : Fin 2048) (j : Fin 1024) : EReal := dx A W X Y D G M i j * M (ix2 2 j)
/-- The gradient of the gate. -/
def dga (j : Fin 1024) : EReal := ∑ i, dx A W X Y D G M i j * Y (ix2 i j)

end Cert.Up
-- ==== Proof.UpArrays.lean ====
module

public import proofs.«01_k».proof.Proof.UpBlocks
public import proofs.«01_k».proof.Proof.UpValue
public import proofs.«01_k».proof.Proof.UpMath
public import Idealize.ShloMosaic.Lib.Pipeline.ValueKit

@[expose] public section

set_option maxRecDepth 16384

noncomputable section

namespace Cert.KernelIdeal.Blocks

open Cert.KernelIdeal Cert.KernelIdeal.Gen Cert.KernelIdeal.Value
open Idealize.ShloMosaic Idealize.ShloMosaic.TcCoe Idealize.SL.Sem
open Idealize.ShloMosaic.Pipeline (Dat)
open Cert.Rows

variable (m : (ℓ : Loc nD τ sig) → Buf (Elt Ideal) ℓ)

/-! ## The arguments, and what the region finds -/

abbrev arg0 (c : Dev nD) : Vec Ideal S2x2048x2816 .bf16 := m ((c : Thread nD τ).loc main_arg0)
abbrev arg1 (c : Dev nD) : Vec Ideal S1024x5632 .f32 := m ((c : Thread nD τ).loc main_arg1)
abbrev arg2 (c : Dev nD) : Vec Ideal S2048x1024 .f32 := m ((c : Thread nD τ).loc main_arg2)
abbrev arg3 (c : Dev nD) : Vec Ideal S2048x1024 .f32 := m ((c : Thread nD τ).loc main_arg3)
abbrev arg4 (c : Dev nD) : Vec Ideal S2048x1024 .f32 := m ((c : Thread nD τ).loc main_arg4)
abbrev arg5 (c : Dev nD) : Vec Ideal S1x1024 .f32 := m ((c : Thread nD τ).loc main_arg5)
abbrev arg6 (c : Dev nD) : Vec Ideal S6x1024 .f32 := m ((c : Thread nD τ).loc main_arg6)

theorem V_v4 (c : Dev nD) (i : Fin 2048) (j : Fin 1024) :
    (V m c main_v4 : Vec Ideal S2048x1024 .f32) (ix2 i j) = Up.xin (arg2 m c) (arg3 m c) (arg6 m c) i j := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  rfl

theorem V_v7 (c : Dev nD) (a : Fin 2) (k : Fin 2816) (j : Fin 1024) :
    (V m c main_v7 : Vec Ideal S2x2816x1024 .bf16) (ix3 a k j) = arg1 m c (ix2 j ⟨a.val * 2816 + k.val, by omega⟩) := by
  unfold V
  simp only [hostOps0, hostOps0_1, hostOps0_2, List.flatten_cons, List.flatten_nil, List.append_nil, List.cons_append, List.nil_append]
  after_results
  pointwise

theorem V_v0 (c : Dev nD) (a : Fin 8) (ha : a.val < 6) (j : Fin 1024) :
    (V m c main_v0 : Vec Ideal S8x1024 .f32) (ix2 a j) = arg6 m c (ix2 ⟨a.val, ha⟩ j) := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  exact dif_pos ha

/-! ## The blocks of a point, read off the arrays -/

theorem pt_lt (t : Fin cfg0.N) : t.val < 8 := lt_of_lt_of_eq t.isLt (show cfg0.N = 8 from N_0)

/-- The array's row that row `r` of point `t`'s block is. -/
def row (t : Fin cfg0.N) (r : Fin 256) : Fin 2048 := ⟨256 * t.val + r.val, by have := pt_lt t; omega⟩

theorem place0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem place1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem place2 : ∀ t : Fin cfg0.N, win0_2.index t 0 = t.val ∧ win0_2.index t 1 = 0 :=
  (by decide +kernel : ∀ t : Fin grid0.N, win0_2.index t 0 = t.val ∧ win0_2.index t 1 = 0)
theorem place3 : ∀ t : Fin cfg0.N, win0_3.index t 0 = t.val ∧ win0_3.index t 1 = 0 :=
  (by decide +kernel : ∀ t : Fin grid0.N, win0_3.index t 0 = t.val ∧ win0_3.index t 1 = 0)
theorem place4 : ∀ t : Fin cfg0.N, win0_4.index t 0 = 0 ∧ win0_4.index t 1 = 0 :=
  (by decide +kernel : ∀ t : Fin grid0.N, win0_4.index t 0 = 0 ∧ win0_4.index t 1 = 0)
theorem place5 : ∀ t : Fin cfg0.N, win0_5.index t 0 = 0 ∧ win0_5.index t 1 = 0 :=
  (by decide +kernel : ∀ t : Fin grid0.N, win0_5.index t 0 = 0 ∧ win0_5.index t 1 = 0)
theorem place6 : ∀ t : Fin cfg0.N, win0_6.index t 0 = t.val ∧ win0_6.index t 1 = 0 :=
  (by decide +kernel : ∀ t : Fin grid0.N, win0_6.index t 0 = t.val ∧ win0_6.index t 1 = 0)
theorem place7 : ∀ t : Fin cfg0.N, win0_7.index t 0 = t.val ∧ win0_7.index t 1 = 0 :=
  (by decide +kernel : ∀ t : Fin grid0.N, win0_7.index t 0 = t.val ∧ win0_7.index t 1 = 0)
theorem place8 : ∀ t : Fin cfg0.N, win0_8.index t 0 = 0 ∧ win0_8.index t 1 = 0 :=
  (by decide +kernel : ∀ t : Fin grid0.N, win0_8.index t 0 = 0 ∧ win0_8.index t 1 = 0)

theorem blk0 (c : Dev nD) (t : Fin cfg0.N) (a : Fin 2) (r : Fin 256) (k : Fin 2816) :
    (iblk m c 0 t : Vec Ideal S2x256x2816 .bf16) (ix3 a r k) = arg0 m c (ix3 a (row t r) k) := by
  unfold iblk
  rw [View.read_apply]
  show V m c main_arg0 _ = _
  rw [V_main_arg0]
  refine congrArg (arg0 m c) ?_
  funext d
  apply Fin.ext
  have h := place0 t
  match d with
  | ⟨0, _⟩ => show win0_0.index t 0 * 2 + 1 * a.val = a.val; omega
  | ⟨1, _⟩ => show win0_0.index t 1 * 256 + 1 * r.val = 256 * t.val + r.val; omega
  | ⟨2, _⟩ => show win0_0.index t 2 * 2816 + 1 * k.val = k.val; omega

theorem blk1 (c : Dev nD) (t : Fin cfg0.N) (a : Fin 2) (k : Fin 2816) (j : Fin 1024) :
    (iblk m c 1 t : Vec Ideal S2x2816x1024 .bf16) (ix3 a k j) = arg1 m c (ix2 j ⟨a.val * 2816 + k.val, by omega⟩) := by
  rw [← V_v7]
  unfold iblk
  rw [View.read_apply]
  refine congrArg (V m c main_v7 : Vec Ideal S2x2816x1024 .bf16) ?_
  funext d
  apply Fin.ext
  have h := place1 t
  match d with
  | ⟨0, _⟩ => show win0_1.index t 0 * 2 + 1 * a.val = a.val; omega
  | ⟨1, _⟩ => show win0_1.index t 1 * 2816 + 1 * k.val = k.val; omega
  | ⟨2, _⟩ => show win0_1.index t 2 * 1024 + 1 * j.val = j.val; omega

theorem blk2 (c : Dev nD) (t : Fin cfg0.N) (r : Fin 256) (j : Fin 1024) :
    (iblk m c 2 t : Vec Ideal S256x1024 .f32) (ix2 r j) = Up.xin (arg2 m c) (arg3 m c) (arg6 m c) (row t r) j := by
  rw [← V_v4]
  unfold iblk
  rw [View.read_apply]
  refine congrArg (V m c main_v4 : Vec Ideal S2048x1024 .f32) ?_
  funext d
  apply Fin.ext
  have h := place2 t
  match d with
  | ⟨0, _⟩ => show win0_2.index t 0 * 256 + 1 * r.val = 256 * t.val + r.val; omega
  | ⟨1, _⟩ => show win0_2.index t 1 * 1024 + 1 * j.val = j.val; omega

theorem blk3 (c : Dev nD) (t : Fin cfg0.N) (r : Fin 256) (j : Fin 1024) :
    (iblk m c 3 t : Vec Ideal S256x1024 .f32) (ix2 r j) = arg4 m c (ix2 (row t r) j) := by
  unfold iblk
  rw [View.read_apply]
  show V m c main_arg4 _ = _
  rw [V_main_arg4]
  refine congrArg (arg4 m c) ?_
  funext d
  apply Fin.ext
  have h := place3 t
  match d with
  | ⟨0, _⟩ => show win0_3.index t 0 * 256 + 1 * r.val = 256 * t.val + r.val; omega
  | ⟨1, _⟩ => show win0_3.index t 1 * 1024 + 1 * j.val = j.val; omega

theorem blk4 (c : Dev nD) (t : Fin cfg0.N) (j : Fin 1024) :
    (iblk m c 4 t : Vec Ideal S1x1024 .f32) (ix2 0 j) = arg5 m c (ix2 0 j) := by
  unfold iblk
  rw [View.read_apply]
  show V m c main_arg5 _ = _
  rw [V_main_arg5]
  refine congrArg (arg5 m c) ?_
  funext d
  apply Fin.ext
  have h := place4 t
  match d with
  | ⟨0, _⟩ => show win0_4.index t 0 * 1 + 1 * 0 = 0; omega
  | ⟨1, _⟩ => show win0_4.index t 1 * 1024 + 1 * j.val = j.val; omega

theorem blk5 (c : Dev nD) (t : Fin cfg0.N) (a : Fin 8) (ha : a.val < 6) (j : Fin 1024) :
    (iblk m c 5 t : Vec Ideal S8x1024 .f32) (ix2 a j) = arg6 m c (ix2 ⟨a.val, ha⟩ j) := by
  rw [← V_v0]
  unfold iblk
  rw [View.read_apply]
  refine congrArg (V m c main_v0 : Vec Ideal S8x1024 .f32) ?_
  funext d
  apply Fin.ext
  have h := place5 t
  match d with
  | ⟨0, _⟩ => show win0_5.index t 0 * 8 + 1 * a.val = a.val; omega
  | ⟨1, _⟩ => show win0_5.index t 1 * 1024 + 1 * j.val = j.val; omega

theorem blk6 (c : Dev nD) (t : Fin cfg0.N) (r : Fin 256) (j : Fin 1024) :
    (iblk m c 6 t : Vec Ideal S256x1024 .f32) (ix2 r j) = arg3 m c (ix2 (row t r) j) := by
  unfold iblk
  rw [View.read_apply]
  show V m c main_arg3 _ = _
  rw [V_main_arg3]
  refine congrArg (arg3 m c) ?_
  funext d
  apply Fin.ext
  have h := place6 t
  match d with
  | ⟨0, _⟩ => show win0_6.index t 0 * 256 + 1 * r.val = 256 * t.val + r.val; omega
  | ⟨1, _⟩ => show win0_6.index t 1 * 1024 + 1 * j.val = j.val; omega

/-! ## A point's values as rows of the whole gradient -/

theorem dhv_apply (c : Dev nD) (t : Fin cfg0.N) (r : Fin 256) (j : Fin 1024) :
    dhv m c t (ix2 r j) = Up.dh (arg0 m c) (arg1 m c) (row t r) j := by
  unfold dhv Up.dh
  rw [pay7_apply]
  congr 1
  · refine Finset.sum_congr rfl fun k _ => ?_
    rw [View.ld_unit_apply_of (iblk m c 0 t : Vec Ideal S2x256x2816 .bf16) _ _ _ _ (ix3 0 r k) (by intro a; match a with | ⟨0, _⟩ => rfl | ⟨1, _⟩ => exact (Nat.zero_add _).symm | ⟨2, _⟩ => exact (Nat.zero_add _).symm), blk0]
    rw [View.ld_unit_apply_of (iblk m c 1 t : Vec Ideal S2x2816x1024 .bf16) _ _ _ _ (ix3 0 k j) (by intro a; match a with | ⟨0, _⟩ => rfl | ⟨1, _⟩ => exact (Nat.zero_add _).symm | ⟨2, _⟩ => exact (Nat.zero_add _).symm), blk1]
    congr 3
    exact Fin.ext (by show 0 * 2816 + k.val = k.val; omega)
  · refine Finset.sum_congr rfl fun k _ => ?_
    rw [View.ld_unit_apply_of (iblk m c 0 t : Vec Ideal S2x256x2816 .bf16) _ _ _ _ (ix3 1 r k) (by intro a; match a with | ⟨0, _⟩ => rfl | ⟨1, _⟩ => exact (Nat.zero_add _).symm | ⟨2, _⟩ => exact (Nat.zero_add _).symm), blk0]
    rw [View.ld_unit_apply_of (iblk m c 1 t : Vec Ideal S2x2816x1024 .bf16) _ _ _ _ (ix3 1 k j) (by intro a; match a with | ⟨0, _⟩ => rfl | ⟨1, _⟩ => exact (Nat.zero_add _).symm | ⟨2, _⟩ => exact (Nat.zero_add _).symm), blk1]
    rfl

theorem scv_apply (c : Dev nD) (t : Fin cfg0.N) (j : Fin 1024) : scv m c t (ix2 0 j) = Up.sc (arg6 m c) j := by
  unfold scv
  rw [View.ld_unit_apply_of (iblk m c 5 t : Vec Ideal S8x1024 .f32) _ _ _ _ (ix2 4 j) (by intro a; match a with | ⟨0, _⟩ => rfl | ⟨1, _⟩ => exact (Nat.zero_add _).symm), blk5 m c t 4 (by decide)]
  rfl

theorem gav_apply (c : Dev nD) (t : Fin cfg0.N) (j : Fin 1024) : gav m c t (ix2 0 j) = arg6 m c (ix2 2 j) := by
  unfold gav
  rw [View.ld_unit_apply_of (iblk m c 5 t : Vec Ideal S8x1024 .f32) _ _ _ _ (ix2 2 j) (by intro a; match a with | ⟨0, _⟩ => rfl | ⟨1, _⟩ => exact (Nat.zero_add _).symm), blk5 m c t 2 (by decide)]
  rfl

theorem xnv_apply (c : Dev nD) (t : Fin cfg0.N) (r : Fin 256) (j : Fin 1024) :
    k0_pay10 (F := Ideal) (iblk m c 2 t) (ix2 r j) = xnorm (Up.xin (arg2 m c) (arg3 m c) (arg6 m c)) (row t r) j := by
  rw [pay10_apply]
  simp only [blk2]
  rfl

theorem dtv_apply (c : Dev nD) (t : Fin cfg0.N) (r : Fin 256) (j : Fin 1024) :
    k0_pay13 (dhv m c t) (scv m c t) (ix2 r j) = dscaled (Up.dh (arg0 m c) (arg1 m c)) (Up.sc (arg6 m c)) (row t r) j := by
  rw [pay13_apply, dhv_apply, scv_apply]
  rfl

theorem dxv_apply (c : Dev nD) (t : Fin cfg0.N) (r : Fin 256) (j : Fin 1024) :
    dxv m c t (ix2 r j) = Up.dx (arg0 m c) (arg1 m c) (arg2 m c) (arg3 m c) (arg4 m c) (arg5 m c) (arg6 m c) (row t r) j := by
  unfold dxv
  rw [pay15_apply]
  simp only [dtv_apply, blk2, blk3, blk4]
  rfl

/-! ## The column sums -/

/-- The grid's point number `n`. -/
def pt (n : Nat) (h : n ≤ 7) : Fin cfg0.N := ⟨n, lt_of_lt_of_eq (Nat.lt_succ_of_le h) (show 8 = cfg0.N from N_0.symm)⟩
/-- The grid's last point. -/
def last : Fin cfg0.N := pt 7 le_rfl

theorem step8 (c : Dev nD) (j : Fin 1024) (t : Fin cfg0.N) (a : Vec Ideal S1x1024 .f32) :
    k0_pay11 (View.ld (iblk m c 0 t) (Rect.unit ![0, 0, 0] ![1, 256, 2816] inb_S2x256x2816_S1x256x2816_0_0_0))
      (View.ld (iblk m c 1 t) (Rect.unit ![0, 0, 0] ![1, 2816, 1024] inb_S2x2816x1024_S1x2816x1024_0_0_0))
      (View.ld (iblk m c 0 t) (Rect.unit ![1, 0, 0] ![1, 256, 2816] inb_S2x256x2816_S1x256x2816_1_0_0))
      (View.ld (iblk m c 1 t) (Rect.unit ![1, 0, 0] ![1, 2816, 1024] inb_S2x2816x1024_S1x2816x1024_1_0_0)) a (ix2 0 j)
      = a (ix2 0 j) + ∑ r : Fin 256, Up.dh (arg0 m c) (arg1 m c) (row t r) j := by
  rw [pay11_apply]
  exact congrArg (a (ix2 0 j) + ·) (Finset.sum_congr rfl fun r _ => dhv_apply m c t r j)

def part8 (c : Dev nD) (j : Fin 1024) (n : Nat) (h : n ≤ 7) : EReal := (outsAt0 m c n (pt n h).isLt).2.1 (ix2 0 j)

theorem acc8 (c : Dev nD) (j : Fin 1024) : (outsAt0 m c last.val last.isLt).2.1 (ix2 0 j) = Up.dsh (arg0 m c) (arg1 m c) j := by
  have h0 : part8 m c j 0 (Nat.zero_le 7) = ∑ r : Fin 256, (fun i => Up.dh (arg0 m c) (arg1 m c) i j) ⟨256 * 0 + r.val, place_lt rfl (Nat.zero_le 7) r⟩ := by
    show (outsAt0 m c (pt 0 (Nat.zero_le 7)).val _).2.1 (ix2 0 j) = _
    rw [at8_A m c (pt 0 (Nat.zero_le 7)) rfl, step8, pay3_apply, zero_add]
    rfl
  have hs : ∀ n (h : n + 1 ≤ 7), part8 m c j (n + 1) h = part8 m c j n (Nat.le_of_succ_le h) + ∑ r : Fin 256, (fun i => Up.dh (arg0 m c) (arg1 m c) i j) ⟨256 * (n + 1) + r.val, place_lt rfl h r⟩ := by
    intro n h
    show (outsAt0 m c (pt (n + 1) h).val _).2.1 (ix2 0 j) = _
    rw [at8_B m c (pt (n + 1) h) (show ¬(n + 1) % 8 = 0 by omega), step8]
    rfl
  exact sum_blocks 256 7 2048 rfl (fun i => Up.dh (arg0 m c) (arg1 m c) i j) (part8 m c j) h0 hs

theorem step9 (c : Dev nD) (j : Fin 1024) (t : Fin cfg0.N) (a : Vec Ideal S1x1024 .f32) :
    k0_pay12 (iblk m c 4 t) (dhv m c t) (k0_pay10 (iblk m c 2 t)) a (ix2 0 j)
      = a (ix2 0 j) + ∑ r : Fin 256, Up.dh (arg0 m c) (arg1 m c) (row t r) j * (xnorm (Up.xin (arg2 m c) (arg3 m c) (arg6 m c)) (row t r) j * Up.gw (arg5 m c) j) := by
  rw [pay12_apply]
  simp only [dhv_apply, xnv_apply, blk4]
  rfl

def part9 (c : Dev nD) (j : Fin 1024) (n : Nat) (h : n ≤ 7) : EReal := (outsAt0 m c n (pt n h).isLt).2.2.1 (ix2 0 j)

theorem acc9 (c : Dev nD) (j : Fin 1024) : (outsAt0 m c last.val last.isLt).2.2.1 (ix2 0 j) = Up.dsc (arg0 m c) (arg1 m c) (arg2 m c) (arg3 m c) (arg5 m c) (arg6 m c) j := by
  have h0 : part9 m c j 0 (Nat.zero_le 7) = ∑ r : Fin 256, (fun i => Up.dh (arg0 m c) (arg1 m c) i j * (xnorm (Up.xin (arg2 m c) (arg3 m c) (arg6 m c)) i j * Up.gw (arg5 m c) j)) ⟨256 * 0 + r.val, place_lt rfl (Nat.zero_le 7) r⟩ := by
    show (outsAt0 m c (pt 0 (Nat.zero_le 7)).val _).2.2.1 (ix2 0 j) = _
    rw [at9_A m c (pt 0 (Nat.zero_le 7)) rfl, step9, pay4_apply, zero_add]
    rfl
  have hs : ∀ n (h : n + 1 ≤ 7), part9 m c j (n + 1) h = part9 m c j n (Nat.le_of_succ_le h) + ∑ r : Fin 256, (fun i => Up.dh (arg0 m c) (arg1 m c) i j * (xnorm (Up.xin (arg2 m c) (arg3 m c) (arg6 m c)) i j * Up.gw (arg5 m c) j)) ⟨256 * (n + 1) + r.val, place_lt rfl h r⟩ := by
    intro n h
    show (outsAt0 m c (pt (n + 1) h).val _).2.2.1 (ix2 0 j) = _
    rw [at9_B m c (pt (n + 1) h) (show ¬(n + 1) % 8 = 0 by omega), step9]
    rfl
  exact sum_blocks 256 7 2048 rfl (fun i => Up.dh (arg0 m c) (arg1 m c) i j * (xnorm (Up.xin (arg2 m c) (arg3 m c) (arg6 m c)) i j * Up.gw (arg5 m c) j)) (part9 m c j) h0 hs

theorem step10 (c : Dev nD) (j : Fin 1024) (t : Fin cfg0.N) (a : Vec Ideal S1x1024 .f32) :
    k0_pay14 (dhv m c t) (k0_pay10 (iblk m c 2 t)) (scv m c t) a (ix2 0 j)
      = a (ix2 0 j) + ∑ r : Fin 256, dscaled (Up.dh (arg0 m c) (arg1 m c)) (Up.sc (arg6 m c)) (row t r) j * xnorm (Up.xin (arg2 m c) (arg3 m c) (arg6 m c)) (row t r) j := by
  rw [pay14_apply]
  simp only [dtv_apply, xnv_apply]

def part10 (c : Dev nD) (j : Fin 1024) (n : Nat) (h : n ≤ 7) : EReal := (outsAt0 m c n (pt n h).isLt).2.2.2.1 (ix2 0 j)

theorem acc10 (c : Dev nD) (j : Fin 1024) : (outsAt0 m c last.val last.isLt).2.2.2.1 (ix2 0 j) = Up.dg (arg0 m c) (arg1 m c) (arg2 m c) (arg3 m c) (arg6 m c) j := by
  have h0 : part10 m c j 0 (Nat.zero_le 7) = ∑ r : Fin 256, (fun i => dscaled (Up.dh (arg0 m c) (arg1 m c)) (Up.sc (arg6 m c)) i j * xnorm (Up.xin (arg2 m c) (arg3 m c) (arg6 m c)) i j) ⟨256 * 0 + r.val, place_lt rfl (Nat.zero_le 7) r⟩ := by
    show (outsAt0 m c (pt 0 (Nat.zero_le 7)).val _).2.2.2.1 (ix2 0 j) = _
    rw [at10_A m c (pt 0 (Nat.zero_le 7)) rfl, step10, pay5_apply, zero_add]
    rfl
  have hs : ∀ n (h : n + 1 ≤ 7), part10 m c j (n + 1) h = part10 m c j n (Nat.le_of_succ_le h) + ∑ r : Fin 256, (fun i => dscaled (Up.dh (arg0 m c) (arg1 m c)) (Up.sc (arg6 m c)) i j * xnorm (Up.xin (arg2 m c) (arg3 m c) (arg6 m c)) i j) ⟨256 * (n + 1) + r.val, place_lt rfl h r⟩ := by
    intro n h
    show (outsAt0 m c (pt (n + 1) h).val _).2.2.2.1 (ix2 0 j) = _
    rw [at10_B m c (pt (n + 1) h) (show ¬(n + 1) % 8 = 0 by omega), step10]
    rfl
  exact sum_blocks 256 7 2048 rfl (fun i => dscaled (Up.dh (arg0 m c) (arg1 m c)) (Up.sc (arg6 m c)) i j * xnorm (Up.xin (arg2 m c) (arg3 m c) (arg6 m c)) i j) (part10 m c j) h0 hs

theorem step12 (c : Dev nD) (j : Fin 1024) (t : Fin cfg0.N) (a : Vec Ideal S1x1024 .f32) :
    k0_pay1 (dxv m c t) a (iblk m c 6 t) (ix2 0 j)
      = a (ix2 0 j) + ∑ r : Fin 256, Up.dx (arg0 m c) (arg1 m c) (arg2 m c) (arg3 m c) (arg4 m c) (arg5 m c) (arg6 m c) (row t r) j * arg3 m c (ix2 (row t r) j) := by
  rw [pay1_apply]
  simp only [dxv_apply, blk6]

def part12 (c : Dev nD) (j : Fin 1024) (n : Nat) (h : n ≤ 7) : EReal := (outsAt0 m c n (pt n h).isLt).2.2.2.2.2 (ix2 0 j)

theorem acc12 (c : Dev nD) (j : Fin 1024) : (outsAt0 m c last.val last.isLt).2.2.2.2.2 (ix2 0 j) = Up.dga (arg0 m c) (arg1 m c) (arg2 m c) (arg3 m c) (arg4 m c) (arg5 m c) (arg6 m c) j := by
  have h0 : part12 m c j 0 (Nat.zero_le 7) = ∑ r : Fin 256, (fun i => Up.dx (arg0 m c) (arg1 m c) (arg2 m c) (arg3 m c) (arg4 m c) (arg5 m c) (arg6 m c) i j * arg3 m c (ix2 i j)) ⟨256 * 0 + r.val, place_lt rfl (Nat.zero_le 7) r⟩ := by
    show (outsAt0 m c (pt 0 (Nat.zero_le 7)).val _).2.2.2.2.2 (ix2 0 j) = _
    rw [at12_A m c (pt 0 (Nat.zero_le 7)) rfl, step12, pay6_apply, zero_add]
    rfl
  have hs : ∀ n (h : n + 1 ≤ 7), part12 m c j (n + 1) h = part12 m c j n (Nat.le_of_succ_le h) + ∑ r : Fin 256, (fun i => Up.dx (arg0 m c) (arg1 m c) (arg2 m c) (arg3 m c) (arg4 m c) (arg5 m c) (arg6 m c) i j * arg3 m c (ix2 i j)) ⟨256 * (n + 1) + r.val, place_lt rfl h r⟩ := by
    intro n h
    show (outsAt0 m c (pt (n + 1) h).val _).2.2.2.2.2 (ix2 0 j) = _
    rw [at12_B m c (pt (n + 1) h) (show ¬(n + 1) % 8 = 0 by omega), step12]
    rfl
  exact sum_blocks 256 7 2048 rfl (fun i => Up.dx (arg0 m c) (arg1 m c) (arg2 m c) (arg3 m c) (arg4 m c) (arg5 m c) (arg6 m c) i j * arg3 m c (ix2 i j)) (part12 m c j) h0 hs

/-! ## The arrays after the run -/

theorem place11 : ∀ t : Fin cfg0.N, win0_11.index t 0 = t.val ∧ win0_11.index t 1 = 0 :=
  (by decide +kernel : ∀ t : Fin grid0.N, win0_11.index t 0 = t.val ∧ win0_11.index t 1 = 0)

theorem dyv_apply (c : Dev nD) (t : Fin cfg0.N) (r : Fin 256) (j : Fin 1024) :
    k0_pay2 (dxv m c t) (gav m c t) (ix2 r j) = Up.dy (arg0 m c) (arg1 m c) (arg2 m c) (arg3 m c) (arg4 m c) (arg5 m c) (arg6 m c) (row t r) j := by
  rw [pay2_apply, dxv_apply, gav_apply]
  rfl

theorem arr7 (c : Dev nD) : (dats m 0 c).arrAt 7 cfg0.N =
    (fun i => Up.dx (arg0 m c) (arg1 m c) (arg2 m c) (arg3 m c) (arg4 m c) (arg5 m c) (arg6 m c) (i 0) (i 1) : Vec Ideal S2048x1024 .f32) := by
  refine (dats m 0 c).arrAt_eq_of_covers 7 _ (by decide +kernel) fun t _ y => ?_
  show (outsAt0 m c t.val t.isLt).1 y = Up.dx (arg0 m c) (arg1 m c) (arg2 m c) (arg3 m c) (arg4 m c) (arg5 m c) (arg6 m c) _ _
  rw [at7]
  have h := place7 t
  refine ((congrArg (dxv m c t) (eq_ix2 y)).trans (dxv_apply m c t (y 0) (y 1))).trans ?_
  refine congrArg₂ (Up.dx (arg0 m c) (arg1 m c) (arg2 m c) (arg3 m c) (arg4 m c) (arg5 m c) (arg6 m c)) (Fin.ext ?_) (Fin.ext ?_)
  · show 256 * t.val + (y 0).val = win0_7.index t 0 * 256 + 1 * (y 0).val
    omega
  · show (y 1).val = win0_7.index t 1 * 1024 + 1 * (y 1).val
    omega

theorem arr8 (c : Dev nD) : (dats m 0 c).arrAt 8 cfg0.N =
    (fun i => Up.dsh (arg0 m c) (arg1 m c) (i 1) : Vec Ideal S1x1024 .f32) := by
  refine (dats m 0 c).arrAt_eq_of_after_last 8 last (by decide +kernel) _ fun j => ?_
  rw [after0_8]
  exact (congrArg (outsAt0 m c last.val last.isLt).2.1 (eq_row j)).trans (acc8 m c (j 1))

theorem arr9 (c : Dev nD) : (dats m 0 c).arrAt 9 cfg0.N =
    (fun i => Up.dsc (arg0 m c) (arg1 m c) (arg2 m c) (arg3 m c) (arg5 m c) (arg6 m c) (i 1) : Vec Ideal S1x1024 .f32) := by
  refine (dats m 0 c).arrAt_eq_of_after_last 9 last (by decide +kernel) _ fun j => ?_
  rw [after0_9]
  exact (congrArg (outsAt0 m c last.val last.isLt).2.2.1 (eq_row j)).trans (acc9 m c (j 1))

theorem arr10 (c : Dev nD) : (dats m 0 c).arrAt 10 cfg0.N =
    (fun i => Up.dg (arg0 m c) (arg1 m c) (arg2 m c) (arg3 m c) (arg6 m c) (i 1) : Vec Ideal S1x1024 .f32) := by
  refine (dats m 0 c).arrAt_eq_of_after_last 10 last (by decide +kernel) _ fun j => ?_
  rw [after0_10]
  exact (congrArg (outsAt0 m c last.val last.isLt).2.2.2.1 (eq_row j)).trans (acc10 m c (j 1))

theorem arr11 (c : Dev nD) : (dats m 0 c).arrAt 11 cfg0.N =
    (fun i => Up.dy (arg0 m c) (arg1 m c) (arg2 m c) (arg3 m c) (arg4 m c) (arg5 m c) (arg6 m c) (i 0) (i 1) : Vec Ideal S2048x1024 .bf16) := by
  refine (dats m 0 c).arrAt_eq_of_covers 11 _ (by decide +kernel) fun t _ y => ?_
  show (outsAt0 m c t.val t.isLt).2.2.2.2.1 y = Up.dy (arg0 m c) (arg1 m c) (arg2 m c) (arg3 m c) (arg4 m c) (arg5 m c) (arg6 m c) _ _
  rw [at11]
  have h := place11 t
  refine ((congrArg (k0_pay2 (dxv m c t) (gav m c t)) (eq_ix2 y)).trans (dyv_apply m c t (y 0) (y 1))).trans ?_
  refine congrArg₂ (Up.dy (arg0 m c) (arg1 m c) (arg2 m c) (arg3 m c) (arg4 m c) (arg5 m c) (arg6 m c)) (Fin.ext ?_) (Fin.ext ?_)
  · show 256 * t.val + (y 0).val = win0_11.index t 0 * 256 + 1 * (y 0).val
    omega
  · show (y 1).val = win0_11.index t 1 * 1024 + 1 * (y 1).val
    omega

theorem arr12 (c : Dev nD) : (dats m 0 c).arrAt 12 cfg0.N =
    (fun i => Up.dga (arg0 m c) (arg1 m c) (arg2 m c) (arg3 m c) (arg4 m c) (arg5 m c) (arg6 m c) (i 1) : Vec Ideal S1x1024 .f32) := by
  refine (dats m 0 c).arrAt_eq_of_after_last 12 last (by decide +kernel) _ fun j => ?_
  rw [after0_12]
  exact (congrArg (outsAt0 m c last.val last.isLt).2.2.2.2.2 (eq_row j)).trans (acc12 m c (j 1))

end Cert.KernelIdeal.Blocks
-- ==== Proof.UpRef.lean ====
module

public import proofs.«01_k».proof.Proof.UpMath
public import proofs.«01_k».proof.Proof.Gen.ReferenceIdeal.Read
public import Idealize.ShloMosaic.PureOps.Ideal.Laws
public import Idealize.ShloMosaic.Lib.Pointwise

@[expose] public section

set_option maxRecDepth 16384

noncomputable section

namespace Cert.ReferenceIdeal.Rows

open Cert.ReferenceIdeal Cert.ReferenceIdeal.Gen Cert.ReferenceIdeal.Read
open Idealize.ShloMosaic Idealize.ShloMosaic.TcCoe Idealize.SL.Sem
open Cert.Rows

variable (x0 : (⟨S2x2048x2816, .bf16⟩ : BufTy).Contents (Elt Ideal)) (x1 : (⟨S1024x5632, .f32⟩ : BufTy).Contents (Elt Ideal))
variable (x2 x3 x4 : (⟨S2048x1024, .f32⟩ : BufTy).Contents (Elt Ideal)) (x5 : (⟨S1x1024, .f32⟩ : BufTy).Contents (Elt Ideal))
variable (x6 : (⟨S6x1024, .f32⟩ : BufTy).Contents (Elt Ideal))

theorem v11_at (i : Fin 2048) (j : Fin 1024) : val_main_v11 (F := Ideal) x2 x3 x6 (ix2 i j) = Up.xin x2 x3 x6 i j := by
  pointwise [val_main_v11, val_main_v10, val_main_v9, val_main_v6]
  rfl

theorem v5_at (i : Fin 2048) (k : Fin 5632) : val_main_v5 (F := Ideal) x0 (ix2 i k)
    = if h : k.val < 2816 then x0 (ix3 0 i ⟨k.val, h⟩) else x0 (ix3 1 i ⟨k.val - 2816, by omega⟩) := by
  pointwise [val_main_v5, val_main_v4, val_main_v3, val_main_v2, val_main_v1, val_main_v0]

theorem v34_at (i : Fin 2048) (j : Fin 1024) : val_main_v34 (F := Ideal) x0 x1 (ix2 i j) = Up.dh x0 x1 i j := by
  pointwise [val_main_v34]
  simp only [v5_at]
  refine (sum_halves 2816 (fun k : Fin (2816 + 2816) => (if h : k.val < 2816 then x0 (ix3 0 i ⟨k.val, h⟩) else x0 (ix3 1 i ⟨k.val - 2816, by omega⟩)) * x1 (ix2 j k))).trans ?_
  unfold Up.dh
  congr 1

theorem v18_at (i : Fin 2048) : val_main_v18 (F := Ideal) x2 x3 x6 (ix2 i 0) = arg (Up.xin x2 x3 x6 i) := by
  pointwise [val_main_v18, val_main_v17, val_main_cst, val_main_cst_0, val_main_cst_1, val_main_v16, val_main_v15, val_main_v14, val_main_v13, val_main_v12]
  simp only [v11_at]
  rfl

theorem v19_at (i : Fin 2048) : val_main_v19 (F := Ideal) x2 x3 x6 (ix2 i 0) = rinv (Up.xin x2 x3 x6 i) := by
  pointwise [val_main_v19]
  rw [v18_at]
  rfl

theorem v22_at (i : Fin 2048) : val_main_v22 (F := Ideal) x2 x3 x6 (ix2 i 0)
    = mhalf * Ideal.div (rinv (Up.xin x2 x3 x6 i)) (arg (Up.xin x2 x3 x6 i)) := by
  pointwise [val_main_v22, val_main_v21, val_main_v20, val_main_cst_2]
  rw [v18_at, v19_at]

theorem v24_at (i : Fin 2048) (j : Fin 1024) : val_main_v24 (F := Ideal) x2 x3 x6 (ix2 i j) = xnorm (Up.xin x2 x3 x6) i j := by
  pointwise [val_main_v24, val_main_v23]
  rw [v11_at, v19_at]
  rfl

theorem v26_at (i : Fin 2048) (j : Fin 1024) : val_main_v26 (F := Ideal) x2 x3 x5 x6 (ix2 i j) = xnorm (Up.xin x2 x3 x6) i j * Up.gw x5 j := by
  pointwise [val_main_v26, val_main_v25]
  rw [v24_at]
  rfl

theorem v41_at (i : Fin 2048) (j : Fin 1024) : val_main_v41 (F := Ideal) x0 x1 x6 (ix2 i j) = dscaled (Up.dh x0 x1) (Up.sc x6) i j := by
  pointwise [val_main_v41, val_main_v40, val_main_v28, val_main_v27, val_main_v8, val_main_cst_3]
  rw [v34_at, dscaled, one_eq]
  rfl

theorem v46_at (i : Fin 2048) (j : Fin 1024) : val_main_v46 (F := Ideal) x0 x1 x5 x6 (ix2 i j) = dnorm (Up.dh x0 x1) (Up.sc x6) (Up.gw x5) i j := by
  pointwise [val_main_v46, val_main_v45]
  rw [v41_at]
  rfl

theorem v57_at (i : Fin 2048) (j : Fin 1024) : val_main_v57 (F := Ideal) x0 x1 x2 x3 x5 x6 (ix2 i j)
    = pull (Up.xin x2 x3 x6 i) (dnorm (Up.dh x0 x1) (Up.sc x6) (Up.gw x5) i) := by
  pointwise [val_main_v57, val_main_v56, val_main_v55, val_main_v54, val_main_v53, val_main_v49, val_main_v48, val_main_v47, val_main_cst_7, val_main_cst_8, val_main_cst_9]
  simp only [v46_at, v11_at, Fin.sum_univ_one, v22_at]
  rfl

theorem v61_at (i : Fin 2048) (j : Fin 1024) : val_main_v61 (F := Ideal) x0 x1 x2 x3 x4 x5 x6 (ix2 i j) = Up.dx x0 x1 x2 x3 x4 x5 x6 i j := by
  unfold Up.dx gradX
  rw [kdx_eq_rdx]
  pointwise [val_main_v61, val_main_v60, val_main_v59, val_main_v58, val_main_v52, val_main_v51, val_main_v50]
  simp only [v57_at, v11_at, v46_at, v19_at]
  rfl

/-! ## The results, at an index -/

theorem v36_at (j : Fin 1024) : val_main_v36 (F := Ideal) x0 x1 (ix2 0 j) = Up.dsh x0 x1 j := by
  pointwise [val_main_v36, val_main_v35, val_main_cst_4]
  simp only [v34_at]
  rfl

theorem v39_at (j : Fin 1024) : val_main_v39 (F := Ideal) x0 x1 x2 x3 x5 x6 (ix2 0 j) = Up.dsc x0 x1 x2 x3 x5 x6 j := by
  pointwise [val_main_v39, val_main_v38, val_main_v37, val_main_cst_5]
  simp only [v34_at, v26_at]
  exact Finset.sum_congr rfl fun i _ => mul_comm _ _

theorem v44_at (j : Fin 1024) : val_main_v44 (F := Ideal) x0 x1 x2 x3 x6 (ix2 0 j) = Up.dg x0 x1 x2 x3 x6 j := by
  pointwise [val_main_v44, val_main_v43, val_main_v42, val_main_cst_6]
  simp only [v24_at, v41_at]
  exact Finset.sum_congr rfl fun i _ => mul_comm _ _

theorem v68_at (i : Fin 2048) (j : Fin 1024) : val_main_v68 (F := Ideal) x0 x1 x2 x3 x4 x5 x6 (ix2 i j) = Up.dy x0 x1 x2 x3 x4 x5 x6 i j := by
  pointwise [val_main_v68, val_main_v64, val_main_v63, val_main_v62, val_main_v6]
  simp only [v61_at]
  exact mul_comm _ _

theorem v67_at (j : Fin 1024) : val_main_v67 (F := Ideal) x0 x1 x2 x3 x4 x5 x6 (ix2 0 j) = Up.dga x0 x1 x2 x3 x4 x5 x6 j := by
  pointwise [val_main_v67, val_main_v66, val_main_v65, val_main_v62, val_main_cst_10]
  simp only [v61_at]
  rfl

/-! ## The reference's run -/

theorem whole_main_v61 : val_main_v61 (F := Ideal) x0 x1 x2 x3 x4 x5 x6 = (fun i => Up.dx x0 x1 x2 x3 x4 x5 x6 (i 0) (i 1) : Vec Ideal S2048x1024 .f32) :=
  funext fun i => (congrArg (val_main_v61 (F := Ideal) x0 x1 x2 x3 x4 x5 x6) (eq_ix2 i)).trans (v61_at x0 x1 x2 x3 x4 x5 x6 (i 0) (i 1))

theorem whole_main_v36 : val_main_v36 (F := Ideal) x0 x1 = (fun i => Up.dsh x0 x1 (i 1) : Vec Ideal S1x1024 .f32) :=
  funext fun i => (congrArg (val_main_v36 (F := Ideal) x0 x1) (eq_row i)).trans (v36_at x0 x1 (i 1))

theorem whole_main_v39 : val_main_v39 (F := Ideal) x0 x1 x2 x3 x5 x6 = (fun i => Up.dsc x0 x1 x2 x3 x5 x6 (i 1) : Vec Ideal S1x1024 .f32) :=
  funext fun i => (congrArg (val_main_v39 (F := Ideal) x0 x1 x2 x3 x5 x6) (eq_row i)).trans (v39_at x0 x1 x2 x3 x5 x6 (i 1))

theorem whole_main_v44 : val_main_v44 (F := Ideal) x0 x1 x2 x3 x6 = (fun i => Up.dg x0 x1 x2 x3 x6 (i 1) : Vec Ideal S1x1024 .f32) :=
  funext fun i => (congrArg (val_main_v44 (F := Ideal) x0 x1 x2 x3 x6) (eq_row i)).trans (v44_at x0 x1 x2 x3 x6 (i 1))

theorem whole_main_v68 : val_main_v68 (F := Ideal) x0 x1 x2 x3 x4 x5 x6 = (fun i => Up.dy x0 x1 x2 x3 x4 x5 x6 (i 0) (i 1) : Vec Ideal S2048x1024 .bf16) :=
  funext fun i => (congrArg (val_main_v68 (F := Ideal) x0 x1 x2 x3 x4 x5 x6) (eq_ix2 i)).trans (v68_at x0 x1 x2 x3 x4 x5 x6 (i 0) (i 1))

theorem whole_main_v67 : val_main_v67 (F := Ideal) x0 x1 x2 x3 x4 x5 x6 = (fun i => Up.dga x0 x1 x2 x3 x4 x5 x6 (i 1) : Vec Ideal S1x1024 .f32) :=
  funext fun i => (congrArg (val_main_v67 (F := Ideal) x0 x1 x2 x3 x4 x5 x6) (eq_row i)).trans (v67_at x0 x1 x2 x3 x4 x5 x6 (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61) = (fun i => Up.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) : Vec Ideal S2048x1024 .f32)
      ∧ r.2.mem ((c.tc : Thread nD τ).loc main_v36) = (fun i => Up.dsh (m ((c.tc : Thread nD τ).loc main_arg0)) (m ((c.tc : Thread nD τ).loc main_arg1)) (i 1) : Vec Ideal S1x1024 .f32)
      ∧ r.2.mem ((c.tc : Thread nD τ).loc main_v39) = (fun i => Up.dsc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (i 1) : Vec Ideal S1x1024 .f32)
      ∧ r.2.mem ((c.tc : Thread nD τ).loc main_v44) = (fun i => Up.dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (i 1) : Vec Ideal S1x1024 .f32)
      ∧ r.2.mem ((c.tc : Thread nD τ).loc main_v68) = (fun i => Up.dy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) : Vec Ideal S2048x1024 .bf16)
      ∧ r.2.mem ((c.tc : Thread nD τ).loc main_v67) = (fun i => Up.dga (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 1) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.ReferenceIdeal.Value.run m ρ)
  obtain ⟨k0, k1, k2, k3, k4, k5, ha⟩ := h c
  exact ⟨(k0.trans (val_main_v61_eq m c)).trans (whole_main_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (k1.trans (val_main_v36_eq (m ((c.tc : Thread nD τ).loc main_arg0)) (m ((c.tc : Thread nD τ).loc main_arg1)))).trans (whole_main_v36 (m ((c.tc : Thread nD τ).loc main_arg0)) (m ((c.tc : Thread nD τ).loc main_arg1))),
    (k2.trans (val_main_v39_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)))).trans (whole_main_v39 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))),
    (k3.trans (val_main_v44_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))).trans (whole_main_v44 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))),
    (k4.trans (val_main_v68_eq m c)).trans (whole_main_v68 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (k5.trans (val_main_v67_eq m c)).trans (whole_main_v67 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), ha⟩

end Cert.ReferenceIdeal.Rows
-- ==== Proof.UpFinal.lean ====
module

public import proofs.«01_k».proof.Defs
public import proofs.«01_k».proof.Proof.UpArrays
public import proofs.«01_k».proof.Proof.UpRef
public import Idealize.ShloMosaic.Adequacy
public import Idealize.ShloMosaic.Init

/-! # The two runs side by side -/

@[expose] public section

set_option maxRecDepth 16384

noncomputable section

namespace Cert.Up

open Idealize.ShloMosaic Idealize.SL.Sem

theorem frame_ref : Cert.quiescent_ReferenceIdeal := by
  intro m ρ _
  exact (θ_run Cert.ReferenceIdeal.defs _ _).mono (fun r h => ⟨fun c => (h c).2.2.2.2.2.2, sem_eq_zero_of_no_sems (by decide) r.2⟩) (Cert.ReferenceIdeal.Rows.run_whole m ρ)

theorem algebraic : Cert.algebraic_KernelIdeal_ReferenceIdeal := by
  intro m g m' g' _ hag
  refine ⟨fun c => fun i => Cert.Up.dx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1), fun c => fun i => Cert.Up.dsh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 1), fun c => fun i => Cert.Up.dsc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 1), fun c => fun i => Cert.Up.dg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (i 1), fun c => fun i => Cert.Up.dy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1), fun c => fun i => Cert.Up.dga (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 1), ?_, ?_⟩
  · refine (θ_run Cert.KernelIdeal.defs _ _).mono (fun r h c => ?_) (Cert.KernelIdeal.Value.run_blocks m g)
    obtain ⟨k0, k1, k2, k3, k4, k5, ha⟩ := h c
    exact ⟨k0.trans (Cert.KernelIdeal.Blocks.arr7 m c), k1.trans (Cert.KernelIdeal.Blocks.arr8 m c), k2.trans (Cert.KernelIdeal.Blocks.arr9 m c), k3.trans (Cert.KernelIdeal.Blocks.arr10 m c), k4.trans (Cert.KernelIdeal.Blocks.arr11 m c), k5.trans (Cert.KernelIdeal.Blocks.arr12 m c), ha⟩
  · refine (θ_run Cert.ReferenceIdeal.defs _ _).mono (fun r h c => ?_) (Cert.ReferenceIdeal.Rows.run_whole m' g')
    obtain ⟨k0, k1, k2, k3, k4, k5, ha⟩ := h c
    obtain ⟨e0, e1, e2, e3, e4, e5, e6⟩ := hag c
    rw [e0, e1, e2, e3, e4, e5, e6] at k0
    rw [e0, e1] at k1
    rw [e0, e1, e2, e3, e5, e6] at k2
    rw [e0, e1, e2, e3, e6] at k3
    rw [e0, e1, e2, e3, e4, e5, e6] at k4
    rw [e0, e1, e2, e3, e4, e5, e6] at k5
    exact ⟨k0, k1, k2, k3, k4, k5, ha⟩

end Cert.Up
-- ==== Proof.ProjW.lean ====
module

public import proofs.«01_k».proof.Defs
public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Adequacy
public import Idealize.ShloMosaic.Init

/-! # The gradient of the mixing sub-layer's first weight -/

@[expose] public section

set_option maxRecDepth 16384

noncomputable section

namespace Cert.ProjW

open Idealize.ShloMosaic Idealize.SL.Sem

variable (x0 : Vec Ideal ⟨2, ![2048, 1024]⟩ .bf16) (x1 : Vec Ideal ⟨3, ![3, 2048, 512]⟩ .bf16) (x2 : Vec Ideal ⟨2, ![2048, 1024]⟩ .bf16)

/-- The gradient that reaches the first product: the columns of the convolution's part, then those of the attention's three parts. -/
def joined (k : Fin 2048) (i : Fin 2560) : EReal :=
  if h : i.val < 1024 then x0 (ix2 k ⟨i.val, h⟩) else x1 (ix3 ⟨(i.val - 1024) / 512, by omega⟩ k ⟨(i.val - 1024) % 512, by omega⟩)

/-- An entry of the weight's gradient: the column of the joined gradient against the column of the rows. -/
def out (i : Fin 2560) (j : Fin 1024) : EReal := ∑ k : Fin 2048, joined x0 x1 k i * x2 (ix2 k j)

end Cert.ProjW

/-! ## The kernel's array -/

namespace Cert.Kernel6Ideal.Blocks

open Cert.Kernel6Ideal Cert.Kernel6Ideal.Gen Cert.Kernel6Ideal.Value
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S2048x1024 .bf16 := m ((c : Thread nD τ).loc main_arg0)
abbrev arg1 (c : Dev nD) : Vec Ideal S3x2048x512 .bf16 := m ((c : Thread nD τ).loc main_arg1)
abbrev arg2 (c : Dev nD) : Vec Ideal S2048x1024 .bf16 := m ((c : Thread nD τ).loc main_arg2)

theorem pay1_apply (a : Vec Ideal S2048x512 .bf16) (b : Vec Ideal S2048x1024 .bf16) (r : Fin 512) (j : Fin 1024) :
    k0_pay1 a b (ix2 r j) = ∑ k : Fin 2048, a (ix2 k r) * b (ix2 k j) := by
  pointwise [k0_pay1]

theorem pay2_apply (a : Vec Ideal S1x2048x512 .bf16) (b : Vec Ideal S2048x1024 .bf16) (r : Fin 512) (j : Fin 1024) :
    k0_pay2 a b (ix2 r j) = ∑ k : Fin 2048, a (ix3 0 k r) * b (ix2 k j) := by
  pointwise [k0_pay2]

theorem place : ∀ t : Fin cfg0.N, win0_0.index t = ![0, min t.val 1] ∧ win0_1.index t = ![t.val - 2, 0, 0] ∧ win0_2.index t = ![0, 0] ∧ win0_3.index t = ![t.val, 0] :=
  (by decide +kernel : ∀ t : Fin grid0.N, win0_0.index t = ![0, min t.val 1] ∧ win0_1.index t = ![t.val - 2, 0, 0] ∧ win0_2.index t = ![0, 0] ∧ win0_3.index t = ![t.val, 0])

theorem arr3 (c : Dev nD) : (dats m 0 c).arrAt 3 cfg0.N =
    (fun i => ProjW.out (arg0 m c) (arg1 m c) (arg2 m c) (i 0) (i 1) : Vec Ideal S2560x1024 .bf16) := by
  refine (dats m 0 c).arrAt_eq_of_covers 3 _ (by decide +kernel) fun t _ y => ?_
  rw [after0_3]
  have h := place t
  have hy : (y 0).val < 512 := (y 0).isLt
  by_cases ht : t.val < 2
  · rw [outsAt0_A m c t ht (by omega)]
    frame_out
    refine ((congrArg (k0_pay1 _ _) (eq_ix2 y)).trans (pay1_apply _ _ (y 0) (y 1))).trans ?_
    unfold ProjW.out ProjW.joined
    refine Finset.sum_congr rfl fun k _ => ?_
    have hp : ((((cfg0.win 3).blk t).view.emb y) 0).val < 1024 := by
      blk_simp [h]
      omega
    rw [dif_pos hp]
    congr 1 <;> blk_ext [iblk, V, h]
  · rw [outsAt0_B m c t ht (by omega)]
    frame_out
    refine ((congrArg (k0_pay2 _ _) (eq_ix2 y)).trans (pay2_apply _ _ (y 0) (y 1))).trans ?_
    unfold ProjW.out ProjW.joined
    refine Finset.sum_congr rfl fun k _ => ?_
    have hp : ¬((((cfg0.win 3).blk t).view.emb y) 0).val < 1024 := by
      blk_simp [h]
      omega
    rw [dif_neg hp]
    congr 1 <;> blk_ext [iblk, V, h]

end Cert.Kernel6Ideal.Blocks

/-! ## The reference -/

namespace Cert.Reference6Ideal.Rows

open Cert.Reference6Ideal Cert.Reference6Ideal.Gen Cert.Reference6Ideal.Read
open Idealize.ShloMosaic Idealize.ShloMosaic.TcCoe Idealize.SL.Sem

variable (x0 : Vec Ideal S2048x1024 .bf16) (x1 : Vec Ideal S3x2048x512 .bf16) (x2 : Vec Ideal S2048x1024 .bf16)

theorem v6_at (k : Fin 2048) (i : Fin 2560) : val_main_v6 (F := Ideal) x0 x1 (ix2 k i) = ProjW.joined x0 x1 k i := by
  unfold ProjW.joined
  pointwise [val_main_v6, val_main_v5, val_main_v4, val_main_v3, val_main_v2, val_main_v1, val_main_v0]
  split_ifs with h1 h2 h3
  · rfl
  all_goals blk_ext

theorem out_at (i : Fin 2560) (j : Fin 1024) : val_main_v14 (F := Ideal) x0 x1 x2 (ix2 i j) = ProjW.out x0 x1 x2 i j := by
  pointwise [val_main_v14, val_main_v13, val_main_v12, val_main_v11, val_main_v8, val_main_v7]
  exact Finset.sum_congr rfl fun k _ => congrArg₂ _ (v6_at _ _ _ _) rfl

theorem whole : val_main_v14 (F := Ideal) x0 x1 x2 = (fun i => ProjW.out x0 x1 x2 (i 0) (i 1) : Vec Ideal S2560x1024 .bf16) :=
  funext fun i => (congrArg (val_main_v14 (F := Ideal) x0 x1 x2) (eq_ix2 i)).trans (out_at x0 x1 x2 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = (fun i => ProjW.out (m ((c.tc : Thread nD τ).loc main_arg0)) (m ((c.tc : Thread nD τ).loc main_arg1)) (m ((c.tc : Thread nD τ).loc main_arg2)) (i 0) (i 1) : Vec Ideal S2560x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.Reference6Ideal.Value.run m ρ)
  obtain ⟨k0, ha⟩ := h c
  exact ⟨(k0.trans (val_main_v14_eq (m ((c.tc : Thread nD τ).loc main_arg0)) (m ((c.tc : Thread nD τ).loc main_arg1)) (m ((c.tc : Thread nD τ).loc main_arg2)))).trans (whole (m ((c.tc : Thread nD τ).loc main_arg0)) (m ((c.tc : Thread nD τ).loc main_arg1)) (m ((c.tc : Thread nD τ).loc main_arg2))), ha⟩

end Cert.Reference6Ideal.Rows

/-! ## The two runs side by side -/

namespace Cert.ProjW

open Idealize.ShloMosaic Idealize.SL.Sem

theorem frame_ref : Cert.quiescent_Reference6Ideal := by
  intro m ρ _
  exact (θ_run Cert.Reference6Ideal.defs _ _).mono (fun r h => ⟨fun c => (h c).2, sem_eq_zero_of_no_sems (by decide) r.2⟩) (Cert.Reference6Ideal.Rows.run_whole m ρ)

theorem algebraic : Cert.algebraic_Kernel6Ideal_Reference6Ideal := by
  intro m g m' g' _ hag
  refine ⟨fun c => fun i => Cert.ProjW.out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (i 0) (i 1), ?_, ?_⟩
  · refine (θ_run Cert.Kernel6Ideal.defs _ _).mono (fun r h c => ?_) (Cert.Kernel6Ideal.Value.run_blocks m g)
    obtain ⟨k0, ha⟩ := h c
    exact ⟨k0.trans (Cert.Kernel6Ideal.Blocks.arr3 m c), ha⟩
  · refine (θ_run Cert.Reference6Ideal.defs _ _).mono (fun r h c => ?_) (Cert.Reference6Ideal.Rows.run_whole m' g')
    obtain ⟨k0, ha⟩ := h c
    obtain ⟨e0, e1, e2⟩ := hag c
    rw [e0, e1, e2] at k0
    exact ⟨k0, ha⟩

end Cert.ProjW
-- ==== Proof.ProjMath.lean ====
module

public import proofs.«01_k».proof.Proof.UpMath
public import proofs.«01_k».proof.Proof.ProjW

/-! # The gradient of the mixing sub-layer's input -/

@[expose] public section

set_option maxRecDepth 16384

noncomputable section

namespace Cert.Proj

open Idealize.ShloMosaic
open Cert.Rows Cert.ProjW

variable (x0 : Vec Ideal ⟨2, ![2048, 1024]⟩ .bf16) (x1 : Vec Ideal ⟨3, ![3, 2048, 512]⟩ .bf16) (x2 : Vec Ideal ⟨2, ![1024, 2560]⟩ .f32)
variable (x3 x4 : Vec Ideal ⟨2, ![2048, 1024]⟩ .f32) (x5 : Vec Ideal ⟨2, ![1, 1024]⟩ .f32) (x6 : Vec Ideal ⟨2, ![6, 1024]⟩ .f32)

/-- The gradient that reaches the modulated rows through the first product. -/
def dh (i : Fin 2048) (j : Fin 1024) : EReal := ∑ k : Fin 2560, joined x0 x1 i k * x2 (ix2 j k)
/-- The rows that the norm reads. -/
def xin (i : Fin 2048) (j : Fin 1024) : EReal := x3 (ix2 i j)
/-- The scale of the modulation. -/
def sc (j : Fin 1024) : EReal := x6 (ix2 1 j)
/-- The weights of the norm. -/
def gw (j : Fin 1024) : EReal := x5 (ix2 0 j)

/-- The gradient of the input. -/
def dx (i : Fin 2048) (j : Fin 1024) : EReal := gradX (dh x0 x1 x2) (xin x3) (fun i j => x4 (ix2 i j)) (sc x6) (gw x5) i j
def dsh (j : Fin 1024) : EReal := gradShift (dh x0 x1 x2) j
def dsc (j : Fin 1024) : EReal := gradScale (dh x0 x1 x2) (xin x3) (gw x5) j
def dg (j : Fin 1024) : EReal := gradWeight (dh x0 x1 x2) (xin x3) (sc x6) j

theorem joined_first (i : Fin 2048) (k : Nat) (hk : k < 1024) : joined x0 x1 i ⟨k, by omega⟩ = x0 (ix2 i ⟨k, hk⟩) := dif_pos hk

theorem joined_part (i : Fin 2048) (p : Fin 3) (k : Fin 512) : joined x0 x1 i ⟨1024 + 512 * p.val + k.val, by omega⟩ = x1 (ix3 p i k) := by
  unfold joined
  rw [dif_neg (show ¬1024 + 512 * p.val + k.val < 1024 by omega)]
  refine congrArg x1 ?_
  congr 1
  · exact Fin.ext (show (1024 + 512 * p.val + k.val - 1024) / 512 = p.val by omega)
  · exact Fin.ext (show (1024 + 512 * p.val + k.val - 1024) % 512 = k.val by omega)

/-- The product over the joined columns is the four products over its parts, added one after the other. -/
theorem dh_parts (i : Fin 2048) (j : Fin 1024) : dh x0 x1 x2 i j =
    (∑ k : Fin 1024, x0 (ix2 i k) * x2 (ix2 j ⟨k.val, by omega⟩))
      + (∑ k : Fin 512, x1 (ix3 0 i k) * x2 (ix2 j ⟨1024 + k.val, by omega⟩))
      + (∑ k : Fin 512, x1 (ix3 1 i k) * x2 (ix2 j ⟨1536 + k.val, by omega⟩))
      + ∑ k : Fin 512, x1 (ix3 2 i k) * x2 (ix2 j ⟨2048 + k.val, by omega⟩) := by
  unfold dh
  show ∑ k : Fin (1024 + 512 + 512 + 512), _ = _
  rw [Fin.sum_univ_add, Fin.sum_univ_add, Fin.sum_univ_add]
  refine congrArg₂ (· + ·) (congrArg₂ (· + ·) (congrArg₂ (· + ·) ?_ ?_) ?_) ?_
  · exact Finset.sum_congr rfl fun k _ => congrArg (· * _) (joined_first x0 x1 i k.val k.isLt)
  · exact Finset.sum_congr rfl fun k _ => congrArg (· * _) (joined_part x0 x1 i 0 k)
  · exact Finset.sum_congr rfl fun k _ => congrArg (· * _) (joined_part x0 x1 i 1 k)
  · exact Finset.sum_congr rfl fun k _ => congrArg (· * _) (joined_part x0 x1 i 2 k)

end Cert.Proj
-- ==== Proof.ProjValue.lean ====
module

public import proofs.«01_k».proof.Proof.ProjMath
public import proofs.«01_k».proof.Proof.Gen.Kernel2Ideal.Value
public import Idealize.ShloMosaic.Lib.Pointwise
public import Idealize.ShloMosaic.Lib.Pipeline.ValueKit

/-! # What the kernel computes of one block's rows -/

@[expose] public section

set_option maxRecDepth 16384

noncomputable section

namespace Cert.Kernel2Ideal.Blocks

open Cert.Kernel2Ideal Cert.Kernel2Ideal.Gen
open Idealize.ShloMosaic Idealize.ShloMosaic.TcCoe
open Cert.Rows

theorem pay5_apply (w : Vec Ideal S8x320x1024 .bf16) (a : Vec Ideal S256x1024 .bf16) (b0 b1 b2 : Vec Ideal S1x256x512 .bf16) (r : Fin 256) (j : Fin 1024) :
    k0_pay5 w a b0 b1 b2 (ix2 r j) =
      (∑ k : Fin 1024, a (ix2 r k) * w (ix3 ⟨k.val / 320, by omega⟩ ⟨k.val % 320, by omega⟩ j))
        + (∑ k : Fin 512, b0 (ix3 0 r k) * w (ix3 ⟨(1024 + k.val) / 320, by omega⟩ ⟨(1024 + k.val) % 320, by omega⟩ j))
        + (∑ k : Fin 512, b1 (ix3 0 r k) * w (ix3 ⟨(1536 + k.val) / 320, by omega⟩ ⟨(1536 + k.val) % 320, by omega⟩ j))
        + ∑ k : Fin 512, b2 (ix3 0 r k) * w (ix3 ⟨(2048 + k.val) / 320, by omega⟩ ⟨(2048 + k.val) % 320, by omega⟩ j) := by
  pointwise [k0_pay5]

/-- The constant that the first half adds to the mean square. -/
abbrev cst : EReal := Ideal.ofBits .f32 0x358637BD#32

theorem pay7_apply (x : Vec Ideal S256x1024 .f32) (r : Fin 256) :
    k0_pay7 (k0_pay6 x) cst (ix2 r 0) = rinv (fun k => x (ix2 r k)) := by
  pointwise [k0_pay7, k0_pay6]
  rfl

theorem pay8_apply (x : Vec Ideal S256x1024 .f32) (r : Fin 256) (j : Fin 1024) :
    k0_pay8 x (k0_pay6 x) cst (ix2 r j) = x (ix2 r j) * rinv (fun k => x (ix2 r k)) := by
  rw [← pay7_apply]
  pointwise [k0_pay8]

theorem pay9_apply (d : FVec Ideal S256x1024 .f32) (a : Vec Ideal S1x1024 .f32) (j : Fin 1024) :
    k0_pay9 d a (ix2 0 j) = a (ix2 0 j) + ∑ r : Fin 256, d (ix2 r j) := by
  pointwise [k0_pay9]

theorem pay10_apply (g : Vec Ideal S1x1024 .f32) (d : FVec Ideal S256x1024 .f32) (x : Vec Ideal S256x1024 .f32) (a : Vec Ideal S1x1024 .f32) (j : Fin 1024) :
    k0_pay10 g d x (k0_pay6 x) cst a (ix2 0 j) = a (ix2 0 j) + ∑ r : Fin 256, d (ix2 r j) * (x (ix2 r j) * rinv (fun k => x (ix2 r k)) * g (ix2 0 j)) := by
  pointwise [k0_pay10]
  simp only [pay8_apply]

theorem pay11_apply (d : FVec Ideal S256x1024 .f32) (s : Vec Ideal S1x1024 .f32) (r : Fin 256) (j : Fin 1024) :
    k0_pay11 d s (ix2 r j) = d (ix2 r j) * (Ideal.ofBits .f32 0x3F800000#32 + s (ix2 0 j)) := by
  pointwise [k0_pay11]

theorem pay12_apply (d : FVec Ideal S256x1024 .f32) (x : Vec Ideal S256x1024 .f32) (s a : Vec Ideal S1x1024 .f32) (j : Fin 1024) :
    k0_pay12 d x (k0_pay6 x) cst s a (ix2 0 j) = a (ix2 0 j) + ∑ r : Fin 256, k0_pay11 d s (ix2 r j) * (x (ix2 r j) * rinv (fun k => x (ix2 r k))) := by
  pointwise [k0_pay12]
  simp only [pay8_apply]

theorem pay13_apply (g : Vec Ideal S1x1024 .f32) (d : FVec Ideal S256x1024 .f32) (s : Vec Ideal S1x1024 .f32) (r : Fin 256) (j : Fin 1024) :
    k0_pay13 g d s (ix2 r j) = k0_pay11 d s (ix2 r j) * g (ix2 0 j) := by
  pointwise [k0_pay13]

theorem pay14_apply (g : Vec Ideal S1x1024 .f32) (d : FVec Ideal S256x1024 .f32) (x : Vec Ideal S256x1024 .f32) (s : Vec Ideal S1x1024 .f32) (r : Fin 256) (j : Fin 1024) :
    k0_pay14 g d x (k0_pay6 x) cst s (ix2 r j) = k0_pay13 g d s (ix2 r j) * (x (ix2 r j) * rinv (fun k => x (ix2 r k))) := by
  rw [← pay8_apply]
  pointwise [k0_pay14]

/-- The gradient of a half's rows. -/
def dxv (g : Vec Ideal S1x1024 .f32) (d : FVec Ideal S256x1024 .f32) (x : Vec Ideal S256x1024 .f32) (s : Vec Ideal S1x1024 .f32) (res : Vec Ideal S256x1024 .f32) : FVec Ideal S256x1024 .f32 :=
  k0_pay15 (k0_pay7 (k0_pay6 x) cst) (k0_pay8 x (k0_pay6 x) cst) (k0_pay13 g d s) res (k0_pay14 g d x (k0_pay6 x) cst s)

theorem dxv_apply (g : Vec Ideal S1x1024 .f32) (d : FVec Ideal S256x1024 .f32) (x : Vec Ideal S256x1024 .f32) (s : Vec Ideal S1x1024 .f32) (res : Vec Ideal S256x1024 .f32) (r : Fin 256) (j : Fin 1024) :
    dxv g d x s res (ix2 r j) =
      kdx (fun k => res (ix2 r k)) (fun k => x (ix2 r k)) (fun k => k0_pay13 g d s (ix2 r k)) j := by
  unfold kdx dxv
  pointwise [k0_pay15]
  simp only [pay14_apply, pay8_apply, pay7_apply]

theorem pay2_apply (j : Fin 1024) : (k0_pay2 (F := Ideal)) (ix2 0 j) = 0 := by
  pointwise [k0_pay2]

theorem pay3_apply (j : Fin 1024) : (k0_pay3 (F := Ideal)) (ix2 0 j) = 0 := by
  pointwise [k0_pay3]

theorem pay4_apply (j : Fin 1024) : (k0_pay4 (F := Ideal)) (ix2 0 j) = 0 := by
  pointwise [k0_pay4]

end Cert.Kernel2Ideal.Blocks
-- ==== Proof.Halves.lean ====
module

public import proofs.«01_k».proof.Proof.Rows
public import Idealize.ShloMosaic.Lib.Pointwise
public import Idealize.ShloMosaic.Lib.Pipeline.ValueKit

/-! # The two halves of a block of 512 rows -/

@[expose] public section

set_option maxRecDepth 16384

noncomputable section

namespace Cert.Rows

open Idealize.ShloMosaic

theorem inb2 (n o : Nat) (h : o + 256 ≤ 512) :
    ∀ a, (![o, 0] : Fin 2 → Nat) a + (![256, n] : Fin 2 → Nat) a ≤ (⟨2, ![512, n]⟩ : Shape).size a := by
  intro a
  match a with
  | ⟨0, _⟩ => exact h
  | ⟨1, _⟩ => exact (Nat.zero_add n).le

/-- A row of a half, among the block's rows. -/
def hrow (o : Nat) (h : o + 256 ≤ 512) (r : Fin 256) : Fin 512 := ⟨o + r.val, by omega⟩

/-- Half of a block of rows. -/
def half {n : Nat} {e : EltTy} (X : Vec Ideal ⟨2, ![512, n]⟩ e) (o : Nat) (h : o + 256 ≤ 512) : Vec Ideal ⟨2, ![256, n]⟩ e :=
  View.ld X (Rect.unit ![o, 0] ![256, n] (inb2 n o h))

theorem half_apply {n : Nat} {e : EltTy} (X : Vec Ideal ⟨2, ![512, n]⟩ e) (o : Nat) (h : o + 256 ≤ 512) (r : Fin 256) (j : Fin n) :
    half X o h (ix2 r j) = X (ix2 (hrow o h r) j) := by
  refine View.ld_unit_apply_of X _ _ _ _ (ix2 (hrow o h r) j) ?_
  intro a
  match a with
  | ⟨0, _⟩ => rfl
  | ⟨1, _⟩ => exact (Nat.zero_add j.val).symm

/-- A sum over a half's rows, then one over the other half's, added to what was there. -/
theorem two_halves (a : EReal) (f : Fin 512 → EReal) :
    a + (∑ r : Fin 256, f (hrow 0 (by omega) r)) + (∑ r : Fin 256, f (hrow 256 (by omega) r)) = a + ∑ r : Fin 512, f r := by
  rw [add_assoc]
  refine congrArg (a + ·) ((congrArg (· + _) (Finset.sum_congr rfl fun r _ => congrArg f (Fin.ext (Nat.zero_add r.val)))).trans (sum_halves 256 f).symm)

end Cert.Rows
-- ==== Proof.ProjArrays.lean ====
module

public import proofs.«01_k».proof.Proof.ProjValue
public import proofs.«01_k».proof.Proof.Halves

/-! # The kernel's blocks and arrays -/

@[expose] public section

set_option maxRecDepth 16384

noncomputable section

namespace Cert.Kernel2Ideal.Blocks

open Cert.Kernel2Ideal Cert.Kernel2Ideal.Gen Cert.Kernel2Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x1024 .bf16 := m ((c : Thread nD τ).loc main_arg0)
abbrev arg1 (c : Dev nD) : Vec Ideal S3x2048x512 .bf16 := m ((c : Thread nD τ).loc main_arg1)
abbrev arg2 (c : Dev nD) : Vec Ideal S1024x2560 .f32 := m ((c : Thread nD τ).loc main_arg2)
abbrev arg3 (c : Dev nD) : Vec Ideal S2048x1024 .f32 := m ((c : Thread nD τ).loc main_arg3)
abbrev arg4 (c : Dev nD) : Vec Ideal S2048x1024 .f32 := m ((c : Thread nD τ).loc main_arg4)
abbrev arg5 (c : Dev nD) : Vec Ideal S1x1024 .f32 := m ((c : Thread nD τ).loc main_arg5)
abbrev arg6 (c : Dev nD) : Vec Ideal S6x1024 .f32 := m ((c : Thread nD τ).loc main_arg6)

theorem V_v3 (c : Dev nD) (a : Fin 8) (k : Fin 320) (j : Fin 1024) :
    (V m c main_v3 : Vec Ideal S8x320x1024 .bf16) (ix3 a k j) = arg2 m c (ix2 j ⟨a.val * 320 + k.val, by omega⟩) := by
  unfold V
  simp only [hostOps0, hostOps0_1, hostOps0_2, List.flatten_cons, List.flatten_nil, List.append_nil, List.cons_append, List.nil_append]
  after_results
  pointwise

theorem V_v0 (c : Dev nD) (a : Fin 8) (ha : a.val < 6) (j : Fin 1024) :
    (V m c main_v0 : Vec Ideal S8x1024 .f32) (ix2 a j) = arg6 m c (ix2 ⟨a.val, ha⟩ j) := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  exact dif_pos ha

/-! ## The blocks of a point, read off the arrays -/

theorem pt_lt (t : Fin cfg0.N) : t.val < 4 := lt_of_lt_of_eq t.isLt (show cfg0.N = 4 from N_0)

/-- A block's row, among the rows of the whole array. -/
def row (t : Fin cfg0.N) (r : Fin 512) : Fin 2048 := ⟨512 * t.val + r.val, by have := pt_lt t; omega⟩

theorem place : ∀ t : Fin cfg0.N, win0_0.index t = ![t.val, 0] ∧ win0_1.index t = ![0, t.val, 0] ∧ win0_2.index t = ![0, 0, 0] ∧ win0_3.index t = ![t.val, 0]
    ∧ win0_4.index t = ![t.val, 0] ∧ win0_5.index t = ![0, 0] ∧ win0_6.index t = ![0, 0] ∧ win0_7.index t = ![t.val, 0] :=
  (by decide +kernel : ∀ t : Fin grid0.N, win0_0.index t = ![t.val, 0] ∧ win0_1.index t = ![0, t.val, 0] ∧ win0_2.index t = ![0, 0, 0] ∧ win0_3.index t = ![t.val, 0]
    ∧ win0_4.index t = ![t.val, 0] ∧ win0_5.index t = ![0, 0] ∧ win0_6.index t = ![0, 0] ∧ win0_7.index t = ![t.val, 0])

theorem blk0 (c : Dev nD) (t : Fin cfg0.N) (r : Fin 512) (k : Fin 1024) :
    (iblk m c 0 t : Vec Ideal S512x1024 .bf16) (ix2 r k) = arg0 m c (ix2 (row t r) k) := by
  unfold iblk
  rw [View.read_apply]
  show V m c main_arg0 _ = _
  rw [V_main_arg0]
  have h := place t
  blk_ext [h, row]

theorem blk1 (c : Dev nD) (t : Fin cfg0.N) (p : Fin 3) (r k : Fin 512) :
    (iblk m c 1 t : Vec Ideal S3x512x512 .bf16) (ix3 p r k) = arg1 m c (ix3 p (row t r) k) := by
  unfold iblk
  rw [View.read_apply]
  show V m c main_arg1 _ = _
  rw [V_main_arg1]
  have h := place t
  blk_ext [h, row]

theorem blk2 (c : Dev nD) (t : Fin cfg0.N) (a : Fin 8) (k : Fin 320) (j : Fin 1024) :
    (iblk m c 2 t : Vec Ideal S8x320x1024 .bf16) (ix3 a k j) = arg2 m c (ix2 j ⟨a.val * 320 + k.val, by omega⟩) := by
  rw [← V_v3]
  have h := place t
  blk_ext [iblk, h]

theorem blk3 (c : Dev nD) (t : Fin cfg0.N) (r : Fin 512) (k : Fin 1024) :
    (iblk m c 3 t : Vec Ideal S512x1024 .f32) (ix2 r k) = arg3 m c (ix2 (row t r) k) := by
  unfold iblk
  rw [View.read_apply]
  show V m c main_arg3 _ = _
  rw [V_main_arg3]
  have h := place t
  blk_ext [h, row]

theorem blk4 (c : Dev nD) (t : Fin cfg0.N) (r : Fin 512) (k : Fin 1024) :
    (iblk m c 4 t : Vec Ideal S512x1024 .f32) (ix2 r k) = arg4 m c (ix2 (row t r) k) := by
  unfold iblk
  rw [View.read_apply]
  show V m c main_arg4 _ = _
  rw [V_main_arg4]
  have h := place t
  blk_ext [h, row]

theorem blk5 (c : Dev nD) (t : Fin cfg0.N) (j : Fin 1024) : (iblk m c 5 t : Vec Ideal S1x1024 .f32) (ix2 0 j) = arg5 m c (ix2 0 j) := by
  unfold iblk
  rw [View.read_apply]
  show V m c main_arg5 _ = _
  rw [V_main_arg5]
  have h := place t
  blk_ext [h]

theorem blk6 (c : Dev nD) (t : Fin cfg0.N) (a : Fin 8) (ha : a.val < 6) (j : Fin 1024) :
    (iblk m c 6 t : Vec Ideal S8x1024 .f32) (ix2 a j) = arg6 m c (ix2 ⟨a.val, ha⟩ j) := by
  rw [← V_v0]
  have h := place t
  blk_ext [iblk, h]

/-! ## The two halves of a block -/

theorem inb3 (p o : Nat) (hp : p + 1 ≤ 3) (h : o + 256 ≤ 512) :
    ∀ a, (![p, o, 0] : Fin 3 → Nat) a + (![1, 256, 512] : Fin 3 → Nat) a ≤ S3x512x512.size a := by
  intro a
  match a with
  | ⟨0, _⟩ => exact hp
  | ⟨1, _⟩ => exact h
  | ⟨2, _⟩ => exact le_refl 512

/-- Half of a block of one of the three parts. -/
def third {e : EltTy} (X : Vec Ideal S3x512x512 e) (p o : Nat) (hp : p + 1 ≤ 3) (h : o + 256 ≤ 512) : Vec Ideal S1x256x512 e :=
  View.ld X (Rect.unit ![p, o, 0] ![1, 256, 512] (inb3 p o hp h))

theorem third_apply {e : EltTy} (X : Vec Ideal S3x512x512 e) (p o : Nat) (hp : p + 1 ≤ 3) (h : o + 256 ≤ 512) (r : Fin 256) (k : Fin 512) :
    third X p o hp h (ix3 0 r k) = X (ix3 ⟨p, hp⟩ (hrow o h r) k) := by
  refine View.ld_unit_apply_of X _ _ _ _ (ix3 ⟨p, hp⟩ (hrow o h r) k) ?_
  intro a
  match a with
  | ⟨0, _⟩ => rfl
  | ⟨1, _⟩ => rfl
  | ⟨2, _⟩ => exact (Nat.zero_add k.val).symm

/-- The gradient that reaches the modulated rows of a half. -/
def dhv (c : Dev nD) (t : Fin cfg0.N) (o : Nat) (h : o + 256 ≤ 512) : FVec Ideal S256x1024 .f32 :=
  k0_pay5 (iblk m c 2 t) (half (iblk m c 0 t : Vec Ideal S512x1024 .bf16) o h) (third (iblk m c 1 t : Vec Ideal S3x512x512 .bf16) 0 o (by omega) h)
    (third (iblk m c 1 t : Vec Ideal S3x512x512 .bf16) 1 o (by omega) h) (third (iblk m c 1 t : Vec Ideal S3x512x512 .bf16) 2 o (by omega) h)

/-- A half's rows. -/
def xv (c : Dev nD) (t : Fin cfg0.N) (o : Nat) (h : o + 256 ≤ 512) : Vec Ideal S256x1024 .f32 := half (iblk m c 3 t : Vec Ideal S512x1024 .f32) o h

/-- The row of the scale. -/
def scv (c : Dev nD) (t : Fin cfg0.N) : Vec Ideal S1x1024 .f32 :=
  View.ld (iblk m c 6 t : Vec Ideal S8x1024 .f32) (Rect.unit ![1, 0] ![1, 1024] inb_S8x1024_S1x1024_1_0)

theorem scv_apply (c : Dev nD) (t : Fin cfg0.N) (j : Fin 1024) : scv m c t (ix2 0 j) = Proj.sc (arg6 m c) j := by
  refine (View.ld_unit_apply_of (iblk m c 6 t : Vec Ideal S8x1024 .f32) _ _ _ _ (ix2 1 j) ?_).trans (blk6 m c t 1 (by decide) j)
  intro a
  match a with
  | ⟨0, _⟩ => rfl
  | ⟨1, _⟩ => exact (Nat.zero_add j.val).symm

theorem place_eq {k K : Nat} (h : k < K) (h' : k / 320 * 320 + k % 320 < K) : (⟨k / 320 * 320 + k % 320, h'⟩ : Fin K) = ⟨k, h⟩ :=
  Fin.ext (Nat.div_add_mod' k 320)

theorem dhv_apply (c : Dev nD) (t : Fin cfg0.N) (o : Nat) (h : o + 256 ≤ 512) (r : Fin 256) (j : Fin 1024) :
    dhv m c t o h (ix2 r j) = Proj.dh (arg0 m c) (arg1 m c) (arg2 m c) (row t (hrow o h r)) j := by
  unfold dhv
  rw [pay5_apply, Proj.dh_parts]
  simp only [half_apply, third_apply, blk0, blk1, blk2, place_eq]
  rfl

theorem xv_apply (c : Dev nD) (t : Fin cfg0.N) (o : Nat) (h : o + 256 ≤ 512) (r : Fin 256) (j : Fin 1024) :
    xv m c t o h (ix2 r j) = Proj.xin (arg3 m c) (row t (hrow o h r)) j := by
  unfold xv
  rw [half_apply, blk3]
  rfl

/-! ## The rows' gradient -/

theorem dx_apply (c : Dev nD) (t : Fin cfg0.N) (o : Nat) (h : o + 256 ≤ 512) (r : Fin 256) (j : Fin 1024) :
    dxv (iblk m c 5 t) (dhv m c t o h) (xv m c t o h) (scv m c t) (half (iblk m c 4 t : Vec Ideal S512x1024 .f32) o h) (ix2 r j)
      = Proj.dx (arg0 m c) (arg1 m c) (arg2 m c) (arg3 m c) (arg4 m c) (arg5 m c) (arg6 m c) (row t (hrow o h r)) j := by
  rw [dxv_apply]
  simp only [pay13_apply, pay11_apply, dhv_apply, xv_apply, scv_apply, half_apply, blk4, blk5]
  rfl

theorem at7 (c : Dev nD) (t : Fin cfg0.N) (y : S512x1024.Idx) : (outsAt0 m c t.val t.isLt).1 y
    = Proj.dx (arg0 m c) (arg1 m c) (arg2 m c) (arg3 m c) (arg4 m c) (arg5 m c) (arg6 m c) (row t (y 0)) (y 1) := by
  by_cases h0 : t.val % 4 = 0
  · rw [outsAt0_A m c t h0]
    frame_out
    canon_tiles x h
    · refine ((congrArg _ (eq_ix2 x)).trans (dx_apply m c t 256 (by omega) (x 0) (x 1))).trans ?_
      refine congrArg₂ (Proj.dx _ _ _ _ _ _ _) (congrArg (row t) (Fin.ext ?_)) (Fin.ext ?_)
      · exact h0.symm
      · exact h1.symm
    · refine ((congrArg _ (eq_ix2 x)).trans (dx_apply m c t 0 (by omega) (x 0) (x 1))).trans ?_
      refine congrArg₂ (Proj.dx _ _ _ _ _ _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (dx_apply m c t 256 (by omega) (x 0) (x 1))).trans ?_
      refine congrArg₂ (Proj.dx _ _ _ _ _ _ _) (congrArg (row t) (Fin.ext ?_)) (Fin.ext ?_)
      · exact h0.symm
      · exact h1.symm
    · refine ((congrArg _ (eq_ix2 x)).trans (dx_apply m c t 0 (by omega) (x 0) (x 1))).trans ?_
      refine congrArg₂ (Proj.dx _ _ _ _ _ _ _) (congrArg (row t) (Fin.ext ?_)) (Fin.ext ?_)
      · exact (Nat.zero_add _).trans h0.symm
      · exact h1.symm

theorem arr7 (c : Dev nD) : (dats m 0 c).arrAt 7 cfg0.N =
    (fun i => Proj.dx (arg0 m c) (arg1 m c) (arg2 m c) (arg3 m c) (arg4 m c) (arg5 m c) (arg6 m c) (i 0) (i 1) : Vec Ideal S2048x1024 .f32) := by
  refine (dats m 0 c).arrAt_eq_of_covers 7 _ (by decide +kernel) fun t _ y => ?_
  show (outsAt0 m c t.val t.isLt).1 y = Proj.dx (arg0 m c) (arg1 m c) (arg2 m c) (arg3 m c) (arg4 m c) (arg5 m c) (arg6 m c) _ _
  rw [at7]
  have h := place t
  have e0 : win0_7.index t 0 = t.val := by rw [h.2.2.2.2.2.2.2]; rfl
  have e1 : win0_7.index t 1 = 0 := by rw [h.2.2.2.2.2.2.2]; rfl
  refine congrArg₂ (Proj.dx _ _ _ _ _ _ _) (Fin.ext ?_) (Fin.ext ?_)
  · show 512 * t.val + (y 0).val = win0_7.index t 0 * 512 + 1 * (y 0).val
    omega
  · show (y 1).val = win0_7.index t 1 * 1024 + 1 * (y 1).val
    omega

/-! ## The column sums -/

/-- The grid's point number `n`. -/
def pt (n : Nat) (h : n ≤ 3) : Fin cfg0.N := ⟨n, lt_of_lt_of_eq (Nat.lt_succ_of_le h) (show 4 = cfg0.N from N_0.symm)⟩
/-- The grid's last point. -/
def last : Fin cfg0.N := pt 3 le_rfl

theorem at8_A (c : Dev nD) (t : Fin cfg0.N) (h0 : t.val % 4 = 0) (j : Fin 1024) : (outsAt0 m c t.val t.isLt).2.1 (ix2 0 j)
    = k0_pay9 (dhv m c t 256 (by omega)) (k0_pay9 (dhv m c t 0 (by omega)) (k0_pay2 (F := Ideal))) (ix2 0 j) := by
  rw [outsAt0_A m c t h0]
  frame_out
  rfl

theorem at8_B (c : Dev nD) (t : Fin cfg0.N) (h0 : ¬t.val % 4 = 0) (j : Fin 1024) : (outsAt0 m c t.val t.isLt).2.1 (ix2 0 j)
    = k0_pay9 (dhv m c t 256 (by omega)) (k0_pay9 (dhv m c t 0 (by omega)) (outsAt0 m c (t.val - 1) (by have := t.isLt; omega)).2.1) (ix2 0 j) := by
  rw [outsAt0_B m c t h0]
  frame_out
  rfl

theorem step8 (c : Dev nD) (j : Fin 1024) (t : Fin cfg0.N) (a : Vec Ideal S1x1024 .f32) :
    k0_pay9 (dhv m c t 256 (by omega)) (k0_pay9 (dhv m c t 0 (by omega)) a) (ix2 0 j)
      = a (ix2 0 j) + ∑ r : Fin 512, Proj.dh (arg0 m c) (arg1 m c) (arg2 m c) (row t r) j := by
  rw [pay9_apply, pay9_apply]
  simp only [pay11_apply, dhv_apply, xv_apply, scv_apply, blk5]
  exact two_halves (a (ix2 0 j)) fun r => Proj.dh (arg0 m c) (arg1 m c) (arg2 m c) (row t r) j

def part8 (c : Dev nD) (j : Fin 1024) (n : Nat) (h : n ≤ 3) : EReal := (outsAt0 m c n (pt n h).isLt).2.1 (ix2 0 j)

theorem acc8 (c : Dev nD) (j : Fin 1024) : (outsAt0 m c last.val last.isLt).2.1 (ix2 0 j) = Proj.dsh (arg0 m c) (arg1 m c) (arg2 m c) j := by
  have h0 : part8 m c j 0 (Nat.zero_le 3) = ∑ r : Fin 512, (fun i => Proj.dh (arg0 m c) (arg1 m c) (arg2 m c) i j) ⟨512 * 0 + r.val, place_lt rfl (Nat.zero_le 3) r⟩ := by
    show (outsAt0 m c (pt 0 (Nat.zero_le 3)).val _).2.1 (ix2 0 j) = _
    rw [at8_A m c (pt 0 (Nat.zero_le 3)) rfl, step8, pay2_apply, zero_add]
    rfl
  have hs : ∀ n (h : n + 1 ≤ 3), part8 m c j (n + 1) h = part8 m c j n (Nat.le_of_succ_le h) + ∑ r : Fin 512, (fun i => Proj.dh (arg0 m c) (arg1 m c) (arg2 m c) i j) ⟨512 * (n + 1) + r.val, place_lt rfl h r⟩ := by
    intro n h
    show (outsAt0 m c (pt (n + 1) h).val _).2.1 (ix2 0 j) = _
    rw [at8_B m c (pt (n + 1) h) (show ¬(n + 1) % 4 = 0 by omega), step8]
    rfl
  exact sum_blocks 512 3 2048 rfl (fun i => Proj.dh (arg0 m c) (arg1 m c) (arg2 m c) i j) (part8 m c j) h0 hs

theorem arr8 (c : Dev nD) : (dats m 0 c).arrAt 8 cfg0.N =
    (fun i => Proj.dsh (arg0 m c) (arg1 m c) (arg2 m c) (i 1) : Vec Ideal S1x1024 .f32) := by
  refine (dats m 0 c).arrAt_eq_of_after_last 8 last (by decide +kernel) _ fun j => ?_
  rw [after0_8]
  exact (congrArg (outsAt0 m c last.val last.isLt).2.1 (eq_row j)).trans (acc8 m c (j 1))

theorem at9_A (c : Dev nD) (t : Fin cfg0.N) (h0 : t.val % 4 = 0) (j : Fin 1024) : (outsAt0 m c t.val t.isLt).2.2.1 (ix2 0 j)
    = k0_pay10 (iblk m c 5 t) (dhv m c t 256 (by omega)) (xv m c t 256 (by omega)) (k0_pay6 (xv m c t 256 (by omega))) cst (k0_pay10 (iblk m c 5 t) (dhv m c t 0 (by omega)) (xv m c t 0 (by omega)) (k0_pay6 (xv m c t 0 (by omega))) cst (k0_pay3 (F := Ideal))) (ix2 0 j) := by
  rw [outsAt0_A m c t h0]
  frame_out
  rfl

theorem at9_B (c : Dev nD) (t : Fin cfg0.N) (h0 : ¬t.val % 4 = 0) (j : Fin 1024) : (outsAt0 m c t.val t.isLt).2.2.1 (ix2 0 j)
    = k0_pay10 (iblk m c 5 t) (dhv m c t 256 (by omega)) (xv m c t 256 (by omega)) (k0_pay6 (xv m c t 256 (by omega))) cst (k0_pay10 (iblk m c 5 t) (dhv m c t 0 (by omega)) (xv m c t 0 (by omega)) (k0_pay6 (xv m c t 0 (by omega))) cst (outsAt0 m c (t.val - 1) (by have := t.isLt; omega)).2.2.1) (ix2 0 j) := by
  rw [outsAt0_B m c t h0]
  frame_out
  rfl

theorem step9 (c : Dev nD) (j : Fin 1024) (t : Fin cfg0.N) (a : Vec Ideal S1x1024 .f32) :
    k0_pay10 (iblk m c 5 t) (dhv m c t 256 (by omega)) (xv m c t 256 (by omega)) (k0_pay6 (xv m c t 256 (by omega))) cst (k0_pay10 (iblk m c 5 t) (dhv m c t 0 (by omega)) (xv m c t 0 (by omega)) (k0_pay6 (xv m c t 0 (by omega))) cst a) (ix2 0 j)
      = a (ix2 0 j) + ∑ r : Fin 512, Proj.dh (arg0 m c) (arg1 m c) (arg2 m c) (row t r) j * (xnorm (Proj.xin (arg3 m c)) (row t r) j * Proj.gw (arg5 m c) j) := by
  rw [pay10_apply, pay10_apply]
  simp only [pay11_apply, dhv_apply, xv_apply, scv_apply, blk5]
  exact two_halves (a (ix2 0 j)) fun r => Proj.dh (arg0 m c) (arg1 m c) (arg2 m c) (row t r) j * (xnorm (Proj.xin (arg3 m c)) (row t r) j * Proj.gw (arg5 m c) j)

def part9 (c : Dev nD) (j : Fin 1024) (n : Nat) (h : n ≤ 3) : EReal := (outsAt0 m c n (pt n h).isLt).2.2.1 (ix2 0 j)

theorem acc9 (c : Dev nD) (j : Fin 1024) : (outsAt0 m c last.val last.isLt).2.2.1 (ix2 0 j) = Proj.dsc (arg0 m c) (arg1 m c) (arg2 m c) (arg3 m c) (arg5 m c) j := by
  have h0 : part9 m c j 0 (Nat.zero_le 3) = ∑ r : Fin 512, (fun i => Proj.dh (arg0 m c) (arg1 m c) (arg2 m c) i j * (xnorm (Proj.xin (arg3 m c)) i j * Proj.gw (arg5 m c) j)) ⟨512 * 0 + r.val, place_lt rfl (Nat.zero_le 3) r⟩ := by
    show (outsAt0 m c (pt 0 (Nat.zero_le 3)).val _).2.2.1 (ix2 0 j) = _
    rw [at9_A m c (pt 0 (Nat.zero_le 3)) rfl, step9, pay3_apply, zero_add]
    rfl
  have hs : ∀ n (h : n + 1 ≤ 3), part9 m c j (n + 1) h = part9 m c j n (Nat.le_of_succ_le h) + ∑ r : Fin 512, (fun i => Proj.dh (arg0 m c) (arg1 m c) (arg2 m c) i j * (xnorm (Proj.xin (arg3 m c)) i j * Proj.gw (arg5 m c) j)) ⟨512 * (n + 1) + r.val, place_lt rfl h r⟩ := by
    intro n h
    show (outsAt0 m c (pt (n + 1) h).val _).2.2.1 (ix2 0 j) = _
    rw [at9_B m c (pt (n + 1) h) (show ¬(n + 1) % 4 = 0 by omega), step9]
    rfl
  exact sum_blocks 512 3 2048 rfl (fun i => Proj.dh (arg0 m c) (arg1 m c) (arg2 m c) i j * (xnorm (Proj.xin (arg3 m c)) i j * Proj.gw (arg5 m c) j)) (part9 m c j) h0 hs

theorem arr9 (c : Dev nD) : (dats m 0 c).arrAt 9 cfg0.N =
    (fun i => Proj.dsc (arg0 m c) (arg1 m c) (arg2 m c) (arg3 m c) (arg5 m c) (i 1) : Vec Ideal S1x1024 .f32) := by
  refine (dats m 0 c).arrAt_eq_of_after_last 9 last (by decide +kernel) _ fun j => ?_
  rw [after0_9]
  exact (congrArg (outsAt0 m c last.val last.isLt).2.2.1 (eq_row j)).trans (acc9 m c (j 1))

theorem at10_A (c : Dev nD) (t : Fin cfg0.N) (h0 : t.val % 4 = 0) (j : Fin 1024) : (outsAt0 m c t.val t.isLt).2.2.2 (ix2 0 j)
    = k0_pay12 (dhv m c t 256 (by omega)) (xv m c t 256 (by omega)) (k0_pay6 (xv m c t 256 (by omega))) cst (scv m c t) (k0_pay12 (dhv m c t 0 (by omega)) (xv m c t 0 (by omega)) (k0_pay6 (xv m c t 0 (by omega))) cst (scv m c t) (k0_pay4 (F := Ideal))) (ix2 0 j) := by
  rw [outsAt0_A m c t h0]
  frame_out
  rfl

theorem at10_B (c : Dev nD) (t : Fin cfg0.N) (h0 : ¬t.val % 4 = 0) (j : Fin 1024) : (outsAt0 m c t.val t.isLt).2.2.2 (ix2 0 j)
    = k0_pay12 (dhv m c t 256 (by omega)) (xv m c t 256 (by omega)) (k0_pay6 (xv m c t 256 (by omega))) cst (scv m c t) (k0_pay12 (dhv m c t 0 (by omega)) (xv m c t 0 (by omega)) (k0_pay6 (xv m c t 0 (by omega))) cst (scv m c t) (outsAt0 m c (t.val - 1) (by have := t.isLt; omega)).2.2.2) (ix2 0 j) := by
  rw [outsAt0_B m c t h0]
  frame_out
  rfl

theorem step10 (c : Dev nD) (j : Fin 1024) (t : Fin cfg0.N) (a : Vec Ideal S1x1024 .f32) :
    k0_pay12 (dhv m c t 256 (by omega)) (xv m c t 256 (by omega)) (k0_pay6 (xv m c t 256 (by omega))) cst (scv m c t) (k0_pay12 (dhv m c t 0 (by omega)) (xv m c t 0 (by omega)) (k0_pay6 (xv m c t 0 (by omega))) cst (scv m c t) a) (ix2 0 j)
      = a (ix2 0 j) + ∑ r : Fin 512, dscaled (Proj.dh (arg0 m c) (arg1 m c) (arg2 m c)) (Proj.sc (arg6 m c)) (row t r) j * xnorm (Proj.xin (arg3 m c)) (row t r) j := by
  rw [pay12_apply, pay12_apply]
  simp only [pay11_apply, dhv_apply, xv_apply, scv_apply, blk5]
  exact two_halves (a (ix2 0 j)) fun r => dscaled (Proj.dh (arg0 m c) (arg1 m c) (arg2 m c)) (Proj.sc (arg6 m c)) (row t r) j * xnorm (Proj.xin (arg3 m c)) (row t r) j

def part10 (c : Dev nD) (j : Fin 1024) (n : Nat) (h : n ≤ 3) : EReal := (outsAt0 m c n (pt n h).isLt).2.2.2 (ix2 0 j)

theorem acc10 (c : Dev nD) (j : Fin 1024) : (outsAt0 m c last.val last.isLt).2.2.2 (ix2 0 j) = Proj.dg (arg0 m c) (arg1 m c) (arg2 m c) (arg3 m c) (arg6 m c) j := by
  have h0 : part10 m c j 0 (Nat.zero_le 3) = ∑ r : Fin 512, (fun i => dscaled (Proj.dh (arg0 m c) (arg1 m c) (arg2 m c)) (Proj.sc (arg6 m c)) i j * xnorm (Proj.xin (arg3 m c)) i j) ⟨512 * 0 + r.val, place_lt rfl (Nat.zero_le 3) r⟩ := by
    show (outsAt0 m c (pt 0 (Nat.zero_le 3)).val _).2.2.2 (ix2 0 j) = _
    rw [at10_A m c (pt 0 (Nat.zero_le 3)) rfl, step10, pay4_apply, zero_add]
    rfl
  have hs : ∀ n (h : n + 1 ≤ 3), part10 m c j (n + 1) h = part10 m c j n (Nat.le_of_succ_le h) + ∑ r : Fin 512, (fun i => dscaled (Proj.dh (arg0 m c) (arg1 m c) (arg2 m c)) (Proj.sc (arg6 m c)) i j * xnorm (Proj.xin (arg3 m c)) i j) ⟨512 * (n + 1) + r.val, place_lt rfl h r⟩ := by
    intro n h
    show (outsAt0 m c (pt (n + 1) h).val _).2.2.2 (ix2 0 j) = _
    rw [at10_B m c (pt (n + 1) h) (show ¬(n + 1) % 4 = 0 by omega), step10]
    rfl
  exact sum_blocks 512 3 2048 rfl (fun i => dscaled (Proj.dh (arg0 m c) (arg1 m c) (arg2 m c)) (Proj.sc (arg6 m c)) i j * xnorm (Proj.xin (arg3 m c)) i j) (part10 m c j) h0 hs

theorem arr10 (c : Dev nD) : (dats m 0 c).arrAt 10 cfg0.N =
    (fun i => Proj.dg (arg0 m c) (arg1 m c) (arg2 m c) (arg3 m c) (arg6 m c) (i 1) : Vec Ideal S1x1024 .f32) := by
  refine (dats m 0 c).arrAt_eq_of_after_last 10 last (by decide +kernel) _ fun j => ?_
  rw [after0_10]
  exact (congrArg (outsAt0 m c last.val last.isLt).2.2.2 (eq_row j)).trans (acc10 m c (j 1))

end Cert.Kernel2Ideal.Blocks
-- ==== Proof.ProjRef.lean ====
module

public import proofs.«01_k».proof.Proof.ProjMath
public import proofs.«01_k».proof.Proof.Gen.Reference2Ideal.Read
public import Idealize.ShloMosaic.PureOps.Ideal.Laws
public import Idealize.ShloMosaic.Lib.Pointwise
public import Idealize.ShloMosaic.Lib.Pipeline.ValueKit

@[expose] public section

set_option maxRecDepth 16384

noncomputable section

namespace Cert.Reference2Ideal.Rows

open Cert.Reference2Ideal Cert.Reference2Ideal.Gen Cert.Reference2Ideal.Read
open Idealize.ShloMosaic Idealize.ShloMosaic.TcCoe Idealize.SL.Sem
open Cert.Rows Cert.Proj

variable (x0 : (⟨S2048x1024, .bf16⟩ : BufTy).Contents (Elt Ideal)) (x1 : (⟨S3x2048x512, .bf16⟩ : BufTy).Contents (Elt Ideal))
variable (x2 : (⟨S1024x2560, .f32⟩ : BufTy).Contents (Elt Ideal))
variable (x3 x4 : (⟨S2048x1024, .f32⟩ : BufTy).Contents (Elt Ideal)) (x5 : (⟨S1x1024, .f32⟩ : BufTy).Contents (Elt Ideal))
variable (x6 : (⟨S6x1024, .f32⟩ : BufTy).Contents (Elt Ideal))

theorem v7_at (i : Fin 2048) (k : Fin 2560) : val_main_v7 (F := Ideal) x0 x1 (ix2 i k) = ProjW.joined x0 x1 i k := by
  unfold ProjW.joined
  pointwise [val_main_v7, val_main_v6, val_main_v5, val_main_v4, val_main_v3, val_main_v2, val_main_v1, val_main_v0]
  split_ifs with h1 h2 h3
  · rfl
  all_goals blk_ext

theorem v32_at (i : Fin 2048) (j : Fin 1024) : val_main_v32 (F := Ideal) x0 x1 x2 (ix2 i j) = dh x0 x1 x2 i j := by
  pointwise [val_main_v32]
  simp only [v7_at]
  rfl

theorem v16_at (i : Fin 2048) : val_main_v16 (F := Ideal) x3 (ix2 i 0) = arg (xin x3 i) := by
  pointwise [val_main_v16, val_main_v15, val_main_cst, val_main_cst_0, val_main_cst_1, val_main_v14, val_main_v13, val_main_v12, val_main_v11, val_main_v10]
  rfl

theorem v17_at (i : Fin 2048) : val_main_v17 (F := Ideal) x3 (ix2 i 0) = rinv (xin x3 i) := by
  pointwise [val_main_v17]
  rw [v16_at]
  rfl

theorem v20_at (i : Fin 2048) : val_main_v20 (F := Ideal) x3 (ix2 i 0) = mhalf * Ideal.div (rinv (xin x3 i)) (arg (xin x3 i)) := by
  pointwise [val_main_v20, val_main_v19, val_main_v18, val_main_cst_2]
  rw [v16_at, v17_at]

theorem v22_at (i : Fin 2048) (j : Fin 1024) : val_main_v22 (F := Ideal) x3 (ix2 i j) = xnorm (xin x3) i j := by
  pointwise [val_main_v22, val_main_v21]
  rw [v17_at]
  rfl

theorem v24_at (i : Fin 2048) (j : Fin 1024) : val_main_v24 (F := Ideal) x3 x5 (ix2 i j) = xnorm (xin x3) i j * gw x5 j := by
  pointwise [val_main_v24, val_main_v23]
  rw [v22_at]
  rfl

theorem v39_at (i : Fin 2048) (j : Fin 1024) : val_main_v39 (F := Ideal) x0 x1 x2 x6 (ix2 i j) = dscaled (dh x0 x1 x2) (sc x6) i j := by
  pointwise [val_main_v39, val_main_v38, val_main_v26, val_main_v25, val_main_v9, val_main_cst_3]
  rw [v32_at, dscaled, one_eq]
  rfl

theorem v44_at (i : Fin 2048) (j : Fin 1024) : val_main_v44 (F := Ideal) x0 x1 x2 x5 x6 (ix2 i j) = dnorm (dh x0 x1 x2) (sc x6) (gw x5) i j := by
  pointwise [val_main_v44, val_main_v43]
  rw [v39_at]
  rfl

theorem v55_at (i : Fin 2048) (j : Fin 1024) : val_main_v55 (F := Ideal) x0 x1 x2 x3 x5 x6 (ix2 i j)
    = pull (xin x3 i) (dnorm (dh x0 x1 x2) (sc x6) (gw x5) i) := by
  pointwise [val_main_v55, val_main_v54, val_main_v53, val_main_v52, val_main_v51, val_main_v47, val_main_v46, val_main_v45, val_main_cst_7, val_main_cst_8, val_main_cst_9]
  simp only [v44_at, Fin.sum_univ_one, v20_at]
  rfl

theorem v59_at (i : Fin 2048) (j : Fin 1024) : val_main_v59 (F := Ideal) x0 x1 x2 x3 x4 x5 x6 (ix2 i j) = dx x0 x1 x2 x3 x4 x5 x6 i j := by
  unfold dx gradX
  rw [kdx_eq_rdx]
  pointwise [val_main_v59, val_main_v58, val_main_v57, val_main_v56, val_main_v50, val_main_v49, val_main_v48]
  simp only [v55_at, v44_at, v17_at]
  rfl

/-! ## The results, at an index -/

theorem v34_at (j : Fin 1024) : val_main_v34 (F := Ideal) x0 x1 x2 (ix2 0 j) = dsh x0 x1 x2 j := by
  pointwise [val_main_v34, val_main_v33, val_main_cst_4]
  simp only [v32_at]
  rfl

theorem v37_at (j : Fin 1024) : val_main_v37 (F := Ideal) x0 x1 x2 x3 x5 (ix2 0 j) = dsc x0 x1 x2 x3 x5 j := by
  pointwise [val_main_v37, val_main_v36, val_main_v35, val_main_cst_5]
  simp only [v32_at, v24_at]
  exact Finset.sum_congr rfl fun i _ => mul_comm _ _

theorem v42_at (j : Fin 1024) : val_main_v42 (F := Ideal) x0 x1 x2 x3 x6 (ix2 0 j) = dg x0 x1 x2 x3 x6 j := by
  pointwise [val_main_v42, val_main_v41, val_main_v40, val_main_cst_6]
  simp only [v22_at, v39_at]
  exact Finset.sum_congr rfl fun i _ => mul_comm _ _

/-! ## The reference's run -/

theorem whole_main_v59 : val_main_v59 (F := Ideal) x0 x1 x2 x3 x4 x5 x6 = (fun i => Proj.dx x0 x1 x2 x3 x4 x5 x6 (i 0) (i 1) : Vec Ideal S2048x1024 .f32) :=
  funext fun i => (congrArg (val_main_v59 (F := Ideal) x0 x1 x2 x3 x4 x5 x6) (eq_ix2 i)).trans (v59_at x0 x1 x2 x3 x4 x5 x6 (i 0) (i 1))

theorem whole_main_v34 : val_main_v34 (F := Ideal) x0 x1 x2 = (fun i => Proj.dsh x0 x1 x2 (i 1) : Vec Ideal S1x1024 .f32) :=
  funext fun i => (congrArg (val_main_v34 (F := Ideal) x0 x1 x2) (eq_row i)).trans (v34_at x0 x1 x2 (i 1))

theorem whole_main_v37 : val_main_v37 (F := Ideal) x0 x1 x2 x3 x5 = (fun i => Proj.dsc x0 x1 x2 x3 x5 (i 1) : Vec Ideal S1x1024 .f32) :=
  funext fun i => (congrArg (val_main_v37 (F := Ideal) x0 x1 x2 x3 x5) (eq_row i)).trans (v37_at x0 x1 x2 x3 x5 (i 1))

theorem whole_main_v42 : val_main_v42 (F := Ideal) x0 x1 x2 x3 x6 = (fun i => Proj.dg x0 x1 x2 x3 x6 (i 1) : Vec Ideal S1x1024 .f32) :=
  funext fun i => (congrArg (val_main_v42 (F := Ideal) x0 x1 x2 x3 x6) (eq_row i)).trans (v42_at x0 x1 x2 x3 x6 (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = (fun i => Proj.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) : Vec Ideal S2048x1024 .f32)
      ∧ r.2.mem ((c.tc : Thread nD τ).loc main_v34) = (fun i => Proj.dsh (m ((c.tc : Thread nD τ).loc main_arg0)) (m ((c.tc : Thread nD τ).loc main_arg1)) (m ((c.tc : Thread nD τ).loc main_arg2)) (i 1) : Vec Ideal S1x1024 .f32)
      ∧ r.2.mem ((c.tc : Thread nD τ).loc main_v37) = (fun i => Proj.dsc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (i 1) : Vec Ideal S1x1024 .f32)
      ∧ r.2.mem ((c.tc : Thread nD τ).loc main_v42) = (fun i => Proj.dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (i 1) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference2Ideal.Value.run m ρ)
  obtain ⟨k0, k1, k2, k3, ha⟩ := h c
  exact ⟨(k0.trans (val_main_v59_eq m c)).trans (whole_main_v59 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (k1.trans (val_main_v34_eq (m ((c.tc : Thread nD τ).loc main_arg0)) (m ((c.tc : Thread nD τ).loc main_arg1)) (m ((c.tc : Thread nD τ).loc main_arg2)))).trans (whole_main_v34 (m ((c.tc : Thread nD τ).loc main_arg0)) (m ((c.tc : Thread nD τ).loc main_arg1)) (m ((c.tc : Thread nD τ).loc main_arg2))),
    (k2.trans (val_main_v37_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)))).trans (whole_main_v37 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))),
    (k3.trans (val_main_v42_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)))).trans (whole_main_v42 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))), ha⟩

end Cert.Reference2Ideal.Rows
-- ==== Proof.ProjFinal.lean ====
module

public import proofs.«01_k».proof.Defs
public import proofs.«01_k».proof.Proof.ProjArrays
public import proofs.«01_k».proof.Proof.ProjRef
public import Idealize.ShloMosaic.Adequacy
public import Idealize.ShloMosaic.Init

/-! # The two runs side by side -/

@[expose] public section

set_option maxRecDepth 16384

noncomputable section

namespace Cert.Proj

open Idealize.ShloMosaic Idealize.SL.Sem

theorem frame_ref : Cert.quiescent_Reference2Ideal := by
  intro m ρ _
  exact (θ_run Cert.Reference2Ideal.defs _ _).mono (fun r h => ⟨fun c => (h c).2.2.2.2, sem_eq_zero_of_no_sems (by decide) r.2⟩) (Cert.Reference2Ideal.Rows.run_whole m ρ)

theorem algebraic : Cert.algebraic_Kernel2Ideal_Reference2Ideal := by
  intro m g m' g' _ hag
  refine ⟨fun c => fun i => Cert.Proj.dx (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (i 0) (i 1), fun c => fun i => Cert.Proj.dsh (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (i 1), fun c => fun i => Cert.Proj.dsc (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg5)) (i 1), fun c => fun i => Cert.Proj.dg (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg6)) (i 1), ?_, ?_⟩
  · refine (θ_run Cert.Kernel2Ideal.defs _ _).mono (fun r h c => ?_) (Cert.Kernel2Ideal.Value.run_blocks m g)
    obtain ⟨k0, k1, k2, k3, ha⟩ := h c
    exact ⟨k0.trans (Cert.Kernel2Ideal.Blocks.arr7 m c), k1.trans (Cert.Kernel2Ideal.Blocks.arr8 m c), k2.trans (Cert.Kernel2Ideal.Blocks.arr9 m c), k3.trans (Cert.Kernel2Ideal.Blocks.arr10 m c), ha⟩
  · refine (θ_run Cert.Reference2Ideal.defs _ _).mono (fun r h c => ?_) (Cert.Reference2Ideal.Rows.run_whole m' g')
    obtain ⟨k0, k1, k2, k3, ha⟩ := h c
    obtain ⟨e0, e1, e2, e3, e4, e5, e6⟩ := hag c
    rw [e0, e1, e2, e3, e4, e5, e6] at k0
    rw [e0, e1, e2] at k1
    rw [e0, e1, e2, e3, e5] at k2
    rw [e0, e1, e2, e3, e6] at k3
    exact ⟨k0, k1, k2, k3, ha⟩

end Cert.Proj
-- ==== Proof.UpW.lean ====
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Adequacy
public import Idealize.ShloMosaic.Init

/-! # The gradient of the channel sub-layer's first weight -/

@[expose] public section

set_option maxRecDepth 16384

noncomputable section

namespace Cert.UpW

open Idealize.ShloMosaic Idealize.SL.Sem

variable (x0 : Vec Ideal ⟨3, ![2, 2048, 2816]⟩ .bf16) (x1 : Vec Ideal ⟨2, ![2048, 1024]⟩ .bf16)

/-- An entry of half `a` of the weight's gradient: the column of that half of the incoming gradient against the column of the rows. -/
def out (a : Fin 2) (i : Fin 2816) (j : Fin 1024) : EReal := ∑ k : Fin 2048, x0 (ix3 a k i) * x1 (ix2 k j)

end Cert.UpW

/-! ## The kernel's array -/

namespace Cert.Kernel3Ideal.Blocks

open Cert.Kernel3Ideal Cert.Kernel3Ideal.Gen Cert.Kernel3Ideal.Value
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S2x2048x2816 .bf16 := m ((c : Thread nD τ).loc main_arg0)
abbrev arg1 (c : Dev nD) : Vec Ideal S2048x1024 .bf16 := m ((c : Thread nD τ).loc main_arg1)

theorem pay1_apply (a : Vec Ideal S1x2048x256 .bf16) (b : Vec Ideal S2048x1024 .bf16) (r : Fin 256) (j : Fin 1024) :
    k0_pay1 a b (ix3 0 r j) = ∑ k : Fin 2048, a (ix3 0 k r) * b (ix2 k j) := by
  pointwise [k0_pay1]

theorem place : ∀ t : Fin cfg0.N, win0_0.index t = ![t.val / 11, 0, t.val % 11] ∧ win0_1.index t = ![0, 0] ∧ win0_2.index t = ![t.val / 11, t.val % 11, 0] :=
  (by decide +kernel : ∀ t : Fin grid0.N, win0_0.index t = ![t.val / 11, 0, t.val % 11] ∧ win0_1.index t = ![0, 0] ∧ win0_2.index t = ![t.val / 11, t.val % 11, 0])

/-- An index of an array with one leading layer is its row and its column. -/
theorem eq_layer (y : S1x256x1024.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

theorem arr2 (c : Dev nD) : (dats m 0 c).arrAt 2 cfg0.N =
    (fun i => UpW.out (arg0 m c) (arg1 m c) (i 0) (i 1) (i 2) : Vec Ideal S2x2816x1024 .bf16) := by
  refine (dats m 0 c).arrAt_eq_of_covers 2 _ (by decide +kernel) fun t _ y => ?_
  rw [after0_2]
  frame_out
  have h := place t
  refine ((congrArg (k0_pay1 _ _) (eq_layer y)).trans (pay1_apply _ _ (y 1) (y 2))).trans ?_
  unfold UpW.out
  refine Finset.sum_congr rfl fun k _ => ?_
  congr 1 <;> blk_ext [iblk, V, h]

end Cert.Kernel3Ideal.Blocks

/-! ## The reference -/

namespace Cert.Reference3Ideal.Rows

open Cert.Reference3Ideal Cert.Reference3Ideal.Gen Cert.Reference3Ideal.Read
open Idealize.ShloMosaic Idealize.ShloMosaic.TcCoe Idealize.SL.Sem

variable (x0 : Vec Ideal S2x2048x2816 .bf16) (x1 : Vec Ideal S2048x1024 .bf16)

theorem v4_at (a : Fin 2) (k : Fin 2048) (i : Fin 2816) (h : a.val * 2816 + i.val < 5632) :
    val_main_v4 (F := Ideal) x0 (ix2 k ⟨a.val * 2816 + i.val, h⟩) = x0 (ix3 a k i) := by
  fin_cases a
  · pointwise [val_main_v4, val_main_v3, val_main_v2, val_main_v1, val_main_v0]
  · pointwise [val_main_v4, val_main_v3, val_main_v2, val_main_v1, val_main_v0]

theorem out_at (a : Fin 2) (i : Fin 2816) (j : Fin 1024) : val_main_v13 (F := Ideal) x0 x1 (ix3 a i j) = UpW.out x0 x1 a i j := by
  pointwise [val_main_v13, val_main_v12, val_main_v11, val_main_v10, val_main_v9, val_main_v6, val_main_v5]
  exact Finset.sum_congr rfl fun k _ => congrArg₂ _ (v4_at _ _ _ _ _) rfl

theorem whole : val_main_v13 (F := Ideal) x0 x1 = (fun i => UpW.out x0 x1 (i 0) (i 1) (i 2) : Vec Ideal S2x2816x1024 .bf16) :=
  funext fun i => (congrArg (val_main_v13 (F := Ideal) x0 x1) (eq_ix3 i)).trans (out_at x0 x1 (i 0) (i 1) (i 2))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = (fun i => UpW.out (m ((c.tc : Thread nD τ).loc main_arg0)) (m ((c.tc : Thread nD τ).loc main_arg1)) (i 0) (i 1) (i 2) : Vec Ideal S2x2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference3Ideal.Value.run m ρ)
  obtain ⟨k0, ha⟩ := h c
  exact ⟨(k0.trans (val_main_v13_eq (m ((c.tc : Thread nD τ).loc main_arg0)) (m ((c.tc : Thread nD τ).loc main_arg1)))).trans (whole (m ((c.tc : Thread nD τ).loc main_arg0)) (m ((c.tc : Thread nD τ).loc main_arg1))), ha⟩

end Cert.Reference3Ideal.Rows

/-! ## The two runs side by side -/

namespace Cert.UpW

open Idealize.ShloMosaic Idealize.SL.Sem

theorem frame_ref : Cert.quiescent_Reference3Ideal := by
  intro m ρ _
  exact (θ_run Cert.Reference3Ideal.defs _ _).mono (fun r h => ⟨fun c => (h c).2, sem_eq_zero_of_no_sems (by decide) r.2⟩) (Cert.Reference3Ideal.Rows.run_whole m ρ)

theorem algebraic : Cert.algebraic_Kernel3Ideal_Reference3Ideal := by
  intro m g m' g' _ hag
  refine ⟨fun c => fun i => Cert.UpW.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (i 0) (i 1) (i 2), ?_, ?_⟩
  · refine (θ_run Cert.Kernel3Ideal.defs _ _).mono (fun r h c => ?_) (Cert.Kernel3Ideal.Value.run_blocks m g)
    obtain ⟨k0, ha⟩ := h c
    exact ⟨k0.trans (Cert.Kernel3Ideal.Blocks.arr2 m c), ha⟩
  · refine (θ_run Cert.Reference3Ideal.defs _ _).mono (fun r h c => ?_) (Cert.Reference3Ideal.Rows.run_whole m' g')
    obtain ⟨k0, ha⟩ := h c
    obtain ⟨e0, e1⟩ := hag c
    rw [e0, e1] at k0
    exact ⟨k0, ha⟩

end Cert.UpW
-- ==== Proof.DownW.lean ====
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Adequacy
public import Idealize.ShloMosaic.Init

/-! # The gradient of the channel sub-layer's last weight -/

@[expose] public section

set_option maxRecDepth 16384

noncomputable section

namespace Cert.DownW

open Idealize.ShloMosaic Idealize.SL.Sem

variable (x0 : Vec Ideal ⟨2, ![2048, 2816]⟩ .bf16) (x1 : Vec Ideal ⟨2, ![2048, 1024]⟩ .bf16)

/-- An entry of the weight's gradient: the column of the activations against the column of the gradient, over the rows. -/
def out (i : Fin 2816) (j : Fin 1024) : EReal := ∑ k : Fin 2048, x0 (ix2 k i) * x1 (ix2 k j)

end Cert.DownW

/-! ## The kernel's array -/

namespace Cert.Kernel4Ideal.Blocks

open Cert.Kernel4Ideal Cert.Kernel4Ideal.Gen Cert.Kernel4Ideal.Value
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S2048x2816 .bf16 := m ((c : Thread nD τ).loc main_arg0)
abbrev arg1 (c : Dev nD) : Vec Ideal S2048x1024 .bf16 := m ((c : Thread nD τ).loc main_arg1)

theorem pay1_apply (b : Vec Ideal S2048x1024 .bf16) (a : Vec Ideal S2048x256 .bf16) (r : Fin 256) (j : Fin 1024) :
    k0_pay1 b a (ix2 r j) = ∑ k : Fin 2048, a (ix2 k r) * b (ix2 k j) := by
  pointwise [k0_pay1]

theorem place : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem arr2 (c : Dev nD) : (dats m 0 c).arrAt 2 cfg0.N =
    (fun i => DownW.out (arg0 m c) (arg1 m c) (i 0) (i 1) : Vec Ideal S2816x1024 .bf16) := by
  refine (dats m 0 c).arrAt_eq_of_covers 2 _ (by decide +kernel) fun t _ y => ?_
  rw [after0_2]
  frame_out
  have h := place t
  refine ((congrArg (k0_pay1 _ _) (eq_ix2 y)).trans (pay1_apply _ _ (y 0) (y 1))).trans ?_
  unfold DownW.out
  refine Finset.sum_congr rfl fun k _ => ?_
  congr 1 <;> blk_ext [iblk, V, h]

end Cert.Kernel4Ideal.Blocks

/-! ## The reference -/

namespace Cert.Reference4Ideal.Rows

open Cert.Reference4Ideal Cert.Reference4Ideal.Gen Cert.Reference4Ideal.Read
open Idealize.ShloMosaic Idealize.ShloMosaic.TcCoe Idealize.SL.Sem

variable (x0 : Vec Ideal S2048x2816 .bf16) (x1 : Vec Ideal S2048x1024 .bf16)

theorem out_at (i : Fin 2816) (j : Fin 1024) : val_main_v6 (F := Ideal) x0 x1 (ix2 i j) = DownW.out x0 x1 i j := by
  pointwise [val_main_v6, val_main_v5, val_main_v4, val_main_v3, val_main_v0]
  exact Finset.sum_congr rfl fun k _ => mul_comm _ _

theorem whole : val_main_v6 (F := Ideal) x0 x1 = (fun i => DownW.out x0 x1 (i 0) (i 1) : Vec Ideal S2816x1024 .bf16) :=
  funext fun i => (congrArg (val_main_v6 (F := Ideal) x0 x1) (eq_ix2 i)).trans (out_at x0 x1 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = (fun i => DownW.out (m ((c.tc : Thread nD τ).loc main_arg0)) (m ((c.tc : Thread nD τ).loc main_arg1)) (i 0) (i 1) : Vec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference4Ideal.Value.run m ρ)
  obtain ⟨k0, ha⟩ := h c
  exact ⟨(k0.trans (val_main_v6_eq (m ((c.tc : Thread nD τ).loc main_arg0)) (m ((c.tc : Thread nD τ).loc main_arg1)))).trans (whole (m ((c.tc : Thread nD τ).loc main_arg0)) (m ((c.tc : Thread nD τ).loc main_arg1))), ha⟩

end Cert.Reference4Ideal.Rows

/-! ## The two runs side by side -/

namespace Cert.DownW

open Idealize.ShloMosaic Idealize.SL.Sem

theorem frame_ref : Cert.quiescent_Reference4Ideal := by
  intro m ρ _
  exact (θ_run Cert.Reference4Ideal.defs _ _).mono (fun r h => ⟨fun c => (h c).2, sem_eq_zero_of_no_sems (by decide) r.2⟩) (Cert.Reference4Ideal.Rows.run_whole m ρ)

theorem algebraic : Cert.algebraic_Kernel4Ideal_Reference4Ideal := by
  intro m g m' g' _ hag
  refine ⟨fun c => fun i => Cert.DownW.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1), ?_, ?_⟩
  · refine (θ_run Cert.Kernel4Ideal.defs _ _).mono (fun r h c => ?_) (Cert.Kernel4Ideal.Value.run_blocks m g)
    obtain ⟨k0, ha⟩ := h c
    exact ⟨k0.trans (Cert.Kernel4Ideal.Blocks.arr2 m c), ha⟩
  · refine (θ_run Cert.Reference4Ideal.defs _ _).mono (fun r h c => ?_) (Cert.Reference4Ideal.Rows.run_whole m' g')
    obtain ⟨k0, ha⟩ := h c
    obtain ⟨e0, e1⟩ := hag c
    rw [e0, e1] at k0
    exact ⟨k0, ha⟩

end Cert.DownW
-- ==== Proof.DownX.lean ====
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Adequacy
public import Idealize.ShloMosaic.Init

/-! # Back through the channel sub-layer's last product -/

@[expose] public section

set_option maxRecDepth 16384

noncomputable section

namespace Cert.DownX

open Idealize.ShloMosaic Idealize.SL.Sem

variable (x0 : Vec Ideal ⟨2, ![2048, 1024]⟩ .bf16) (x1 : Vec Ideal ⟨2, ![2816, 1024]⟩ .f32)

/-- An entry of the activations' gradient: the row of the incoming gradient against the row of the weight. -/
def out (i : Fin 2048) (j : Fin 2816) : EReal := ∑ k : Fin 1024, x0 (ix2 i k) * x1 (ix2 j k)

end Cert.DownX

/-! ## The kernel's array -/

namespace Cert.Kernel5Ideal.Blocks

open Cert.Kernel5Ideal Cert.Kernel5Ideal.Gen Cert.Kernel5Ideal.Value
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S2048x1024 .bf16 := m ((c : Thread nD τ).loc main_arg0)
abbrev arg1 (c : Dev nD) : Vec Ideal S2816x1024 .f32 := m ((c : Thread nD τ).loc main_arg1)

theorem V_v0 (c : Dev nD) (i : Fin 2816) (j : Fin 1024) : (V m c main_v0 : Vec Ideal S2816x1024 .bf16) (ix2 i j) = arg1 m c (ix2 i j) := by
  unfold V
  simp only [hostOps0]
  after_results
  pointwise

theorem pay1_apply (b : Vec Ideal S1408x1024 .bf16) (a : Vec Ideal S512x1024 .bf16) (r : Fin 512) (j : Fin 1408) :
    k0_pay1 b a (ix2 r j) = ∑ k : Fin 1024, a (ix2 r k) * b (ix2 j k) := by
  pointwise [k0_pay1]

theorem place : ∀ t : Fin cfg0.N, win0_0.index t = ![t.val % 4, 0] ∧ win0_1.index t = ![t.val / 4, 0] ∧ win0_2.index t = ![t.val % 4, t.val / 4] :=
  (by decide +kernel : ∀ t : Fin grid0.N, win0_0.index t = ![t.val % 4, 0] ∧ win0_1.index t = ![t.val / 4, 0] ∧ win0_2.index t = ![t.val % 4, t.val / 4])

theorem pt_lt (t : Fin cfg0.N) : t.val < 8 := lt_of_lt_of_eq t.isLt (show cfg0.N = 8 from N_0)

theorem blk1 (c : Dev nD) (t : Fin cfg0.N) (r : Fin 1408) (j : Fin 1024) (hr : t.val / 4 * 1408 + r.val < 2816) :
    (iblk m c 1 t : Vec Ideal S1408x1024 .bf16) (ix2 r j) = arg1 m c (ix2 ⟨t.val / 4 * 1408 + r.val, hr⟩ j) := by
  rw [← V_v0]
  have h := place t
  blk_ext [iblk, h]

theorem arr2 (c : Dev nD) : (dats m 0 c).arrAt 2 cfg0.N =
    (fun i => DownX.out (arg0 m c) (arg1 m c) (i 0) (i 1) : Vec Ideal S2048x2816 .f32) := by
  refine (dats m 0 c).arrAt_eq_of_covers 2 _ (by decide +kernel) fun t _ y => ?_
  rw [after0_2]
  frame_out
  have h := place t
  refine ((congrArg (k0_pay1 _ _) (eq_ix2 y)).trans (pay1_apply _ _ (y 0) (y 1))).trans ?_
  unfold DownX.out
  refine Finset.sum_congr rfl fun k _ => ?_
  congr 1
  · unfold iblk
    rw [View.read_apply]
    show V m c main_arg0 _ = _
    rw [V_main_arg0]
    blk_ext [h]
  · refine (blk1 m c t (y 1) k (by have hy : (y 1).val < 1408 := (y 1).isLt; have := pt_lt t; show t.val / 4 * 1408 + (y 1).val < 2816; omega)).trans ?_
    blk_ext [h]

end Cert.Kernel5Ideal.Blocks

/-! ## The reference -/

namespace Cert.Reference5Ideal.Rows

open Cert.Reference5Ideal Cert.Reference5Ideal.Gen Cert.Reference5Ideal.Read
open Idealize.ShloMosaic Idealize.ShloMosaic.TcCoe Idealize.SL.Sem

variable (x0 : Vec Ideal S2048x1024 .bf16) (x1 : Vec Ideal S2816x1024 .f32)

theorem out_at (i : Fin 2048) (j : Fin 2816) : val_main_v3 (F := Ideal) x0 x1 (ix2 i j) = DownX.out x0 x1 i j := by
  pointwise [val_main_v3, val_main_v2]
  rfl

theorem whole : val_main_v3 (F := Ideal) x0 x1 = (fun i => DownX.out x0 x1 (i 0) (i 1) : Vec Ideal S2048x2816 .f32) :=
  funext fun i => (congrArg (val_main_v3 (F := Ideal) x0 x1) (eq_ix2 i)).trans (out_at x0 x1 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i => DownX.out (m ((c.tc : Thread nD τ).loc main_arg0)) (m ((c.tc : Thread nD τ).loc main_arg1)) (i 0) (i 1) : Vec Ideal S2048x2816 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference5Ideal.Value.run m ρ)
  obtain ⟨k0, ha⟩ := h c
  exact ⟨(k0.trans (val_main_v3_eq (m ((c.tc : Thread nD τ).loc main_arg0)) (m ((c.tc : Thread nD τ).loc main_arg1)))).trans (whole (m ((c.tc : Thread nD τ).loc main_arg0)) (m ((c.tc : Thread nD τ).loc main_arg1))), ha⟩

end Cert.Reference5Ideal.Rows

/-! ## The two runs side by side -/

namespace Cert.DownX

open Idealize.ShloMosaic Idealize.SL.Sem

theorem frame_ref : Cert.quiescent_Reference5Ideal := by
  intro m ρ _
  exact (θ_run Cert.Reference5Ideal.defs _ _).mono (fun r h => ⟨fun c => (h c).2, sem_eq_zero_of_no_sems (by decide) r.2⟩) (Cert.Reference5Ideal.Rows.run_whole m ρ)

theorem algebraic : Cert.algebraic_Kernel5Ideal_Reference5Ideal := by
  intro m g m' g' _ hag
  refine ⟨fun c => fun i => Cert.DownX.out (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (i 0) (i 1), ?_, ?_⟩
  · refine (θ_run Cert.Kernel5Ideal.defs _ _).mono (fun r h c => ?_) (Cert.Kernel5Ideal.Value.run_blocks m g)
    obtain ⟨k0, ha⟩ := h c
    exact ⟨k0.trans (Cert.Kernel5Ideal.Blocks.arr2 m c), ha⟩
  · refine (θ_run Cert.Reference5Ideal.defs _ _).mono (fun r h c => ?_) (Cert.Reference5Ideal.Rows.run_whole m' g')
    obtain ⟨k0, ha⟩ := h c
    obtain ⟨e0, e1⟩ := hag c
    rw [e0, e1] at k0
    exact ⟨k0, ha⟩

end Cert.DownX
-- ==== Proof.OutProjW.lean ====
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Adequacy
public import Idealize.ShloMosaic.Init

/-! # The gradient of the mixing sub-layer's last weight -/

@[expose] public section

set_option maxRecDepth 16384

noncomputable section

namespace Cert.OutProjW

open Idealize.ShloMosaic Idealize.SL.Sem

variable (x0 : Vec Ideal ⟨2, ![2048, 1024]⟩ .bf16) (x1 : Vec Ideal ⟨2, ![2048, 1024]⟩ .bf16)

/-- An entry of the weight's gradient: the column of the mixed rows against the column of the gradient, over the rows. -/
def out (i : Fin 1024) (j : Fin 1024) : EReal := ∑ k : Fin 2048, x0 (ix2 k i) * x1 (ix2 k j)

end Cert.OutProjW

/-! ## The kernel's array -/

namespace Cert.Kernel7Ideal.Blocks

open Cert.Kernel7Ideal Cert.Kernel7Ideal.Gen Cert.Kernel7Ideal.Value
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S2048x1024 .bf16 := m ((c : Thread nD τ).loc main_arg0)
abbrev arg1 (c : Dev nD) : Vec Ideal S2048x1024 .bf16 := m ((c : Thread nD τ).loc main_arg1)

theorem pay1_apply (b : Vec Ideal S2048x1024 .bf16) (a : Vec Ideal S2048x256 .bf16) (r : Fin 256) (j : Fin 1024) :
    k0_pay1 b a (ix2 r j) = ∑ k : Fin 2048, a (ix2 k r) * b (ix2 k j) := by
  pointwise [k0_pay1]

theorem place : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

theorem arr2 (c : Dev nD) : (dats m 0 c).arrAt 2 cfg0.N =
    (fun i => OutProjW.out (arg0 m c) (arg1 m c) (i 0) (i 1) : Vec Ideal S1024x1024 .bf16) := by
  refine (dats m 0 c).arrAt_eq_of_covers 2 _ (by decide +kernel) fun t _ y => ?_
  rw [after0_2]
  frame_out
  have h := place t
  refine ((congrArg (k0_pay1 _ _) (eq_ix2 y)).trans (pay1_apply _ _ (y 0) (y 1))).trans ?_
  unfold OutProjW.out
  refine Finset.sum_congr rfl fun k _ => ?_
  congr 1 <;> blk_ext [iblk, V, h]

end Cert.Kernel7Ideal.Blocks

/-! ## The reference -/

namespace Cert.Reference7Ideal.Rows

open Cert.Reference7Ideal Cert.Reference7Ideal.Gen Cert.Reference7Ideal.Read
open Idealize.ShloMosaic Idealize.ShloMosaic.TcCoe Idealize.SL.Sem

variable (x0 : Vec Ideal S2048x1024 .bf16) (x1 : Vec Ideal S2048x1024 .bf16)

theorem out_at (i : Fin 1024) (j : Fin 1024) : val_main_v6 (F := Ideal) x0 x1 (ix2 i j) = OutProjW.out x0 x1 i j := by
  pointwise [val_main_v6, val_main_v5, val_main_v4, val_main_v3, val_main_v0]
  exact Finset.sum_congr rfl fun k _ => mul_comm _ _

theorem whole : val_main_v6 (F := Ideal) x0 x1 = (fun i => OutProjW.out x0 x1 (i 0) (i 1) : Vec Ideal S1024x1024 .bf16) :=
  funext fun i => (congrArg (val_main_v6 (F := Ideal) x0 x1) (eq_ix2 i)).trans (out_at x0 x1 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = (fun i => OutProjW.out (m ((c.tc : Thread nD τ).loc main_arg0)) (m ((c.tc : Thread nD τ).loc main_arg1)) (i 0) (i 1) : Vec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.Reference7Ideal.Value.run m ρ)
  obtain ⟨k0, ha⟩ := h c
  exact ⟨(k0.trans (val_main_v6_eq (m ((c.tc : Thread nD τ).loc main_arg0)) (m ((c.tc : Thread nD τ).loc main_arg1)))).trans (whole (m ((c.tc : Thread nD τ).loc main_arg0)) (m ((c.tc : Thread nD τ).loc main_arg1))), ha⟩

end Cert.Reference7Ideal.Rows

/-! ## The two runs side by side -/

namespace Cert.OutProjW

open Idealize.ShloMosaic Idealize.SL.Sem

theorem frame_ref : Cert.quiescent_Reference7Ideal := by
  intro m ρ _
  exact (θ_run Cert.Reference7Ideal.defs _ _).mono (fun r h => ⟨fun c => (h c).2, sem_eq_zero_of_no_sems (by decide) r.2⟩) (Cert.Reference7Ideal.Rows.run_whole m ρ)

theorem algebraic : Cert.algebraic_Kernel7Ideal_Reference7Ideal := by
  intro m g m' g' _ hag
  refine ⟨fun c => fun i => Cert.OutProjW.out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (i 0) (i 1), ?_, ?_⟩
  · refine (θ_run Cert.Kernel7Ideal.defs _ _).mono (fun r h c => ?_) (Cert.Kernel7Ideal.Value.run_blocks m g)
    obtain ⟨k0, ha⟩ := h c
    exact ⟨k0.trans (Cert.Kernel7Ideal.Blocks.arr2 m c), ha⟩
  · refine (θ_run Cert.Reference7Ideal.defs _ _).mono (fun r h c => ?_) (Cert.Reference7Ideal.Rows.run_whole m' g')
    obtain ⟨k0, ha⟩ := h c
    obtain ⟨e0, e1⟩ := hag c
    rw [e0, e1] at k0
    exact ⟨k0, ha⟩

end Cert.OutProjW
-- ==== Proof.LossMath.lean ====
module

public import proofs.«01_k».proof.Proof.UpMath

/-! # The loss and the gradients that start at it -/

@[expose] public section

set_option maxRecDepth 16384

noncomputable section

namespace Cert.Loss

open Idealize.ShloMosaic
open Cert.Rows

variable (x0 : Vec Ideal ⟨2, ![2048, 2816]⟩ .bf16) (x1 : Vec Ideal ⟨2, ![2816, 1024]⟩ .f32)
variable (x2 x3 : Vec Ideal ⟨2, ![2048, 1024]⟩ .f32) (x4 : Vec Ideal ⟨2, ![1, 1024]⟩ .f32) (x5 : Vec Ideal ⟨2, ![6, 1024]⟩ .f32)

/-- One half, as a float word's value. -/
abbrev oneHalf : EReal := Ideal.ofBits .f32 0x3F000000#32
/-- The derivative of a row's mean square error, halved, is the error times this. -/
abbrev share : EReal := Ideal.ofBits .f32 0x3A800000#32

theorem oneHalf_eq : oneHalf = ((1/2 : ℝ) : EReal) := by
  simp [oneHalf, Ideal.ofBits, Ideal.ieee, -EReal.coe_mul]; norm_num

theorem share_eq : share = ((1/1024 : ℝ) : EReal) := by
  simp [share, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- A real into a sum. -/
theorem oneHalf_sum {ι : Type*} (s : Finset ι) (f : ι → EReal) : oneHalf * ∑ i ∈ s, f i = ∑ i ∈ s, oneHalf * f i := by
  rw [oneHalf_eq]
  exact mul_sum_real s f _ (by norm_num)

/-- The chain rule through the mean and the square, one factor after the other. -/
theorem chain (e : EReal) : Ideal.div (oneHalf * Ideal.ofBits .f32 0x3F800000#32) width * (Ideal.ofBits .f32 0x40000000#32 * e) = e * share := by
  rw [one_eq, mul_one, div_width, oneHalf_eq, two_eq, share_eq, ← mul_assoc, ← EReal.coe_mul, ← EReal.coe_mul, mul_comm]
  congr 2
  norm_num

/-- The last product of the forward pass. -/
def y2 (i : Fin 2048) (j : Fin 1024) : EReal := ∑ k : Fin 2816, x0 (ix2 i k) * x1 (ix2 k j)
/-- The gate. -/
def ga (j : Fin 1024) : EReal := x5 (ix2 5 j)
/-- The rows that the last norm reads. -/
def x2r (i : Fin 2048) (j : Fin 1024) : EReal := x2 (ix2 i j) + ga x5 j * y2 x0 x1 i j
/-- The difference from the target. -/
def err (i : Fin 2048) (j : Fin 1024) : EReal := xnorm (x2r x0 x1 x2 x5) i j * x4 (ix2 0 j) - x3 (ix2 i j)
/-- A row's mean square error. -/
def rowLoss (i : Fin 2048) : EReal := Ideal.div (∑ k, err x0 x1 x2 x3 x4 x5 i k * err x0 x1 x2 x3 x4 x5 i k) width
/-- The loss of the device's rows. -/
def loss : EReal := oneHalf * ∑ i, rowLoss x0 x1 x2 x3 x4 x5 i
/-- The gradient at the norm's weighted rows. -/
def dout (i : Fin 2048) (j : Fin 1024) : EReal := err x0 x1 x2 x3 x4 x5 i j * share
/-- The gradient of the rows that the norm reads. -/
def dx (i : Fin 2048) (j : Fin 1024) : EReal :=
  kdx (fun _ => 0) (x2r x0 x1 x2 x5 i) (fun k => dout x0 x1 x2 x3 x4 x5 i k * x4 (ix2 0 k)) j
/-- The gradient of the last product. -/
def dy (i : Fin 2048) (j : Fin 1024) : EReal := dx x0 x1 x2 x3 x4 x5 i j * ga x5 j
/-- The gradient of the norm's weights. -/
def dg (j : Fin 1024) : EReal := ∑ i, dout x0 x1 x2 x3 x4 x5 i j * xnorm (x2r x0 x1 x2 x5) i j
/-- The gradient of the gate. -/
def dga (j : Fin 1024) : EReal := ∑ i, dx x0 x1 x2 x3 x4 x5 i j * y2 x0 x1 i j

end Cert.Loss
-- ==== Proof.LossValue.lean ====
module

public import proofs.«01_k».proof.Proof.LossMath
public import proofs.«01_k».proof.Proof.Gen.Kernel8Ideal.Value
public import Idealize.ShloMosaic.Lib.Pointwise
public import Idealize.ShloMosaic.Lib.Pipeline.ValueKit

/-! # What the kernel computes of a half's rows -/

@[expose] public section

set_option maxRecDepth 16384

noncomputable section

namespace Cert.Kernel8Ideal.Blocks

open Cert.Kernel8Ideal Cert.Kernel8Ideal.Gen
open Idealize.ShloMosaic Idealize.ShloMosaic.TcCoe
open Cert.Rows Cert.Loss

theorem pay6_apply (a : Vec Ideal S256x2816 .bf16) (w : Vec Ideal S2816x1024 .bf16) (r : Fin 256) (j : Fin 1024) :
    k0_pay6 a w (ix2 r j) = ∑ k : Fin 2816, a (ix2 r k) * w (ix2 k j) := by
  pointwise [k0_pay6]

theorem pay7_apply (s : Vec Ideal S1x1024 .f32) (a : Vec Ideal S256x2816 .bf16) (w : Vec Ideal S2816x1024 .bf16) (x : Vec Ideal S256x1024 .f32) (r : Fin 256) (j : Fin 1024) :
    k0_pay7 s a w x (ix2 r j) = x (ix2 r j) + s (ix2 0 j) * k0_pay6 a w (ix2 r j) := by
  pointwise [k0_pay7, k0_pay5]

theorem pay8_apply (s : Vec Ideal S1x1024 .f32) (a : Vec Ideal S256x2816 .bf16) (w : Vec Ideal S2816x1024 .bf16) (x : Vec Ideal S256x1024 .f32) (r : Fin 256) :
    k0_pay8 s a w x (ix2 r 0) = rinv (fun k => k0_pay7 s a w x (ix2 r k)) := by
  pointwise [k0_pay8]
  rfl

theorem pay9_apply (s : Vec Ideal S1x1024 .f32) (a : Vec Ideal S256x2816 .bf16) (w : Vec Ideal S2816x1024 .bf16) (x : Vec Ideal S256x1024 .f32) (r : Fin 256) (j : Fin 1024) :
    k0_pay9 s a w x (ix2 r j) = k0_pay7 s a w x (ix2 r j) * rinv (fun k => k0_pay7 s a w x (ix2 r k)) := by
  rw [← pay8_apply]
  pointwise [k0_pay9]

theorem pay10_apply (s : Vec Ideal S1x1024 .f32) (a : Vec Ideal S256x2816 .bf16) (w : Vec Ideal S2816x1024 .bf16) (x : Vec Ideal S256x1024 .f32) (g : Vec Ideal S1x1024 .f32) (tg : Vec Ideal S256x1024 .f32) (r : Fin 256) (j : Fin 1024) :
    k0_pay10 s a w x g tg (ix2 r j) = k0_pay9 s a w x (ix2 r j) * g (ix2 0 j) - tg (ix2 r j) := by
  pointwise [k0_pay10]

theorem pay13_apply (s : Vec Ideal S1x1024 .f32) (a : Vec Ideal S256x2816 .bf16) (w : Vec Ideal S2816x1024 .bf16) (x : Vec Ideal S256x1024 .f32) (g : Vec Ideal S1x1024 .f32) (tg : Vec Ideal S256x1024 .f32) (a0 : Vec Ideal S8x128 .f32) (p : Fin 8) (q : Fin 128) :
    k0_pay13 (k0_pay11 a0) (k0_pay12 s a w x g tg) (ix2 p q) = a0 (ix2 p q) + oneHalf * ∑ r : Fin 256,
      Ideal.div (∑ k, k0_pay10 s a w x g tg (ix2 r k) * k0_pay10 s a w x g tg (ix2 r k)) width := by
  pointwise [k0_pay13, k0_pay12, k0_pay11]
  simp only [Fin.sum_univ_one]

theorem pay15_apply (xn e : FVec Ideal S256x1024 .f32) (a0 : Vec Ideal S1x1024 .f32) (j : Fin 1024) :
    k0_pay15 xn e a0 (ix2 0 j) = a0 (ix2 0 j) + ∑ r : Fin 256, e (ix2 r j) * share * xn (ix2 r j) := by
  pointwise [k0_pay15, k0_pay14]

theorem pay16_apply (s : Vec Ideal S1x1024 .f32) (a : Vec Ideal S256x2816 .bf16) (w : Vec Ideal S2816x1024 .bf16) (x : Vec Ideal S256x1024 .f32) (e : FVec Ideal S256x1024 .f32) (g : Vec Ideal S1x1024 .f32) (r : Fin 256) (j : Fin 1024) :
    k0_pay16 (k0_pay8 s a w x) (k0_pay9 s a w x) e g (ix2 r j) =
      kdx (fun _ => 0) (fun k => k0_pay7 s a w x (ix2 r k)) (fun k => e (ix2 r k) * share * g (ix2 0 k)) j := by
  unfold kdx
  rw [zero_add]
  pointwise [k0_pay16, k0_pay14]
  simp only [pay9_apply, pay8_apply]

theorem pay17_apply (s g : Vec Ideal S1x1024 .f32) (rv : FVec Ideal S256x1 .f32) (xn e : FVec Ideal S256x1024 .f32) (r : Fin 256) (j : Fin 1024) :
    k0_pay17 (k0_pay5 s) rv xn e g (ix2 r j) = k0_pay16 rv xn e g (ix2 r j) * s (ix2 0 j) := by
  pointwise [k0_pay17, k0_pay5]

theorem pay19_apply (y d : FVec Ideal S256x1024 .f32) (a0 : Vec Ideal S1x1024 .f32) (j : Fin 1024) :
    k0_pay19 y d (k0_pay18 a0) (ix2 0 j) = a0 (ix2 0 j) + ∑ r : Fin 256, d (ix2 r j) * y (ix2 r j) := by
  pointwise [k0_pay19, k0_pay18]

theorem pay2_apply (p : Fin 8) (q : Fin 128) : (k0_pay2 (F := Ideal)) (ix2 p q) = 0 := by
  pointwise [k0_pay2]

theorem pay3_apply (j : Fin 1024) : (k0_pay3 (F := Ideal)) (ix2 0 j) = 0 := by
  pointwise [k0_pay3]

theorem pay4_apply (j : Fin 1024) : (k0_pay4 (F := Ideal)) (ix2 0 j) = 0 := by
  pointwise [k0_pay4]

end Cert.Kernel8Ideal.Blocks
-- ==== Proof.LossArrays.lean ====
module

public import proofs.«01_k».proof.Proof.LossValue
public import proofs.«01_k».proof.Proof.Halves

/-! # The kernel's blocks and arrays -/

@[expose] public section

set_option maxRecDepth 16384

noncomputable section

namespace Cert.Kernel8Ideal.Blocks

open Cert.Kernel8Ideal Cert.Kernel8Ideal.Gen Cert.Kernel8Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x2816 .bf16 := m ((c : Thread nD τ).loc main_arg0)
abbrev arg1 (c : Dev nD) : Vec Ideal S2816x1024 .f32 := m ((c : Thread nD τ).loc main_arg1)
abbrev arg2 (c : Dev nD) : Vec Ideal S2048x1024 .f32 := m ((c : Thread nD τ).loc main_arg2)
abbrev arg3 (c : Dev nD) : Vec Ideal S2048x1024 .f32 := m ((c : Thread nD τ).loc main_arg3)
abbrev arg4 (c : Dev nD) : Vec Ideal S1x1024 .f32 := m ((c : Thread nD τ).loc main_arg4)
abbrev arg5 (c : Dev nD) : Vec Ideal S6x1024 .f32 := m ((c : Thread nD τ).loc main_arg5)

theorem V_v1 (c : Dev nD) (k : Fin 2816) (j : Fin 1024) : (V m c main_v1 : Vec Ideal S2816x1024 .bf16) (ix2 k j) = arg1 m c (ix2 k j) := by
  unfold V
  simp only [hostOps0, hostOps0_1, hostOps0_2, List.flatten_cons, List.flatten_nil, List.append_nil, List.cons_append, List.nil_append]
  after_results
  pointwise

theorem V_v0 (c : Dev nD) (a : Fin 8) (ha : a.val < 6) (j : Fin 1024) :
    (V m c main_v0 : Vec Ideal S8x1024 .f32) (ix2 a j) = arg5 m c (ix2 ⟨a.val, ha⟩ j) := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  exact dif_pos ha

/-! ## The blocks of a point, read off the arrays -/

theorem pt_lt (t : Fin cfg0.N) : t.val < 4 := lt_of_lt_of_eq t.isLt (show cfg0.N = 4 from N_0)

/-- A block's row, among the rows of the whole array. -/
def row (t : Fin cfg0.N) (r : Fin 512) : Fin 2048 := ⟨512 * t.val + r.val, by have := pt_lt t; omega⟩

theorem place : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_7.index t = ![t.val, 0] ∧ win0_8.index t = ![t.val, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_7.index t = ![t.val, 0] ∧ win0_8.index t = ![t.val, 0])

theorem blk0 (c : Dev nD) (t : Fin cfg0.N) (r : Fin 512) (k : Fin 2816) :
    (iblk m c 0 t : Vec Ideal S512x2816 .bf16) (ix2 r k) = arg0 m c (ix2 (row t r) k) := by
  unfold iblk
  rw [View.read_apply]
  show V m c main_arg0 _ = _
  rw [V_main_arg0]
  have h := place t
  blk_ext [h, row]

theorem blk2 (c : Dev nD) (t : Fin cfg0.N) (r : Fin 512) (k : Fin 1024) :
    (iblk m c 2 t : Vec Ideal S512x1024 .f32) (ix2 r k) = arg2 m c (ix2 (row t r) k) := by
  unfold iblk
  rw [View.read_apply]
  show V m c main_arg2 _ = _
  rw [V_main_arg2]
  have h := place t
  blk_ext [h, row]

theorem blk3 (c : Dev nD) (t : Fin cfg0.N) (r : Fin 512) (k : Fin 1024) :
    (iblk m c 3 t : Vec Ideal S512x1024 .f32) (ix2 r k) = arg3 m c (ix2 (row t r) k) := by
  unfold iblk
  rw [View.read_apply]
  show V m c main_arg3 _ = _
  rw [V_main_arg3]
  have h := place t
  blk_ext [h, row]

theorem blk1 (c : Dev nD) (t : Fin cfg0.N) (k : Fin 2816) (j : Fin 1024) :
    (iblk m c 1 t : Vec Ideal S2816x1024 .bf16) (ix2 k j) = arg1 m c (ix2 k j) := by
  rw [← V_v1]
  have h := place t
  blk_ext [iblk, h]

theorem blk4 (c : Dev nD) (t : Fin cfg0.N) (j : Fin 1024) : (iblk m c 4 t : Vec Ideal S1x1024 .f32) (ix2 0 j) = arg4 m c (ix2 0 j) := by
  unfold iblk
  rw [View.read_apply]
  show V m c main_arg4 _ = _
  rw [V_main_arg4]
  have h := place t
  blk_ext [h]

theorem blk5 (c : Dev nD) (t : Fin cfg0.N) (a : Fin 8) (ha : a.val < 6) (j : Fin 1024) :
    (iblk m c 5 t : Vec Ideal S8x1024 .f32) (ix2 a j) = arg5 m c (ix2 ⟨a.val, ha⟩ j) := by
  rw [← V_v0]
  have h := place t
  blk_ext [iblk, h]

/-! ## The two halves of a block -/

/-- The row of the gate. -/
def gav (c : Dev nD) (t : Fin cfg0.N) : Vec Ideal S1x1024 .f32 :=
  View.ld (iblk m c 5 t : Vec Ideal S8x1024 .f32) (Rect.unit ![5, 0] ![1, 1024] inb_S8x1024_S1x1024_5_0)

theorem gav_apply (c : Dev nD) (t : Fin cfg0.N) (j : Fin 1024) : gav m c t (ix2 0 j) = Loss.ga (arg5 m c) j := by
  refine (View.ld_unit_apply_of (iblk m c 5 t : Vec Ideal S8x1024 .f32) _ _ _ _ (ix2 5 j) ?_).trans (blk5 m c t 5 (by decide) j)
  intro a
  match a with
  | ⟨0, _⟩ => rfl
  | ⟨1, _⟩ => exact (Nat.zero_add j.val).symm

/-- The last product's rows. -/
def yv (c : Dev nD) (t : Fin cfg0.N) (o : Nat) (h : o + 256 ≤ 512) : FVec Ideal S256x1024 .f32 := k0_pay6 (half (iblk m c 0 t : Vec Ideal S512x2816 .bf16) o h) (iblk m c 1 t)
/-- The rows that the norm reads. -/
def xv (c : Dev nD) (t : Fin cfg0.N) (o : Nat) (h : o + 256 ≤ 512) : FVec Ideal S256x1024 .f32 := k0_pay7 (gav m c t) (half (iblk m c 0 t : Vec Ideal S512x2816 .bf16) o h) (iblk m c 1 t) (half (iblk m c 2 t : Vec Ideal S512x1024 .f32) o h)
/-- The factors of the norm. -/
def rv (c : Dev nD) (t : Fin cfg0.N) (o : Nat) (h : o + 256 ≤ 512) : FVec Ideal S256x1 .f32 := k0_pay8 (gav m c t) (half (iblk m c 0 t : Vec Ideal S512x2816 .bf16) o h) (iblk m c 1 t) (half (iblk m c 2 t : Vec Ideal S512x1024 .f32) o h)
/-- The normalised rows. -/
def nv (c : Dev nD) (t : Fin cfg0.N) (o : Nat) (h : o + 256 ≤ 512) : FVec Ideal S256x1024 .f32 := k0_pay9 (gav m c t) (half (iblk m c 0 t : Vec Ideal S512x2816 .bf16) o h) (iblk m c 1 t) (half (iblk m c 2 t : Vec Ideal S512x1024 .f32) o h)
/-- The errors. -/
def ev (c : Dev nD) (t : Fin cfg0.N) (o : Nat) (h : o + 256 ≤ 512) : FVec Ideal S256x1024 .f32 := k0_pay10 (gav m c t) (half (iblk m c 0 t : Vec Ideal S512x2816 .bf16) o h) (iblk m c 1 t) (half (iblk m c 2 t : Vec Ideal S512x1024 .f32) o h) (iblk m c 4 t) (half (iblk m c 3 t : Vec Ideal S512x1024 .f32) o h)
/-- The rows' mean square errors. -/
def lv (c : Dev nD) (t : Fin cfg0.N) (o : Nat) (h : o + 256 ≤ 512) : FVec Ideal S1x256x1 .f32 := k0_pay12 (gav m c t) (half (iblk m c 0 t : Vec Ideal S512x2816 .bf16) o h) (iblk m c 1 t) (half (iblk m c 2 t : Vec Ideal S512x1024 .f32) o h) (iblk m c 4 t) (half (iblk m c 3 t : Vec Ideal S512x1024 .f32) o h)
/-- The rows' gradient. -/
def dv (c : Dev nD) (t : Fin cfg0.N) (o : Nat) (h : o + 256 ≤ 512) : FVec Ideal S256x1024 .f32 := k0_pay16 (rv m c t o h) (nv m c t o h) (ev m c t o h) (iblk m c 4 t)
/-- The last product's gradient. -/
def dyv (c : Dev nD) (t : Fin cfg0.N) (o : Nat) (h : o + 256 ≤ 512) : FVec Ideal S256x1024 .bf16 := k0_pay17 (k0_pay5 (gav m c t)) (rv m c t o h) (nv m c t o h) (ev m c t o h) (iblk m c 4 t)

theorem yv_apply (c : Dev nD) (t : Fin cfg0.N) (o : Nat) (h : o + 256 ≤ 512) (r : Fin 256) (j : Fin 1024) : yv m c t o h (ix2 r j) = Loss.y2 (arg0 m c) (arg1 m c) (row t (hrow o h r)) j := by
  unfold yv
  rw [pay6_apply]
  simp only [half_apply, blk0, blk1]
  rfl

theorem xv_apply (c : Dev nD) (t : Fin cfg0.N) (o : Nat) (h : o + 256 ≤ 512) (r : Fin 256) (j : Fin 1024) : xv m c t o h (ix2 r j) = Loss.x2r (arg0 m c) (arg1 m c) (arg2 m c) (arg5 m c) (row t (hrow o h r)) j := by
  unfold xv
  rw [pay7_apply, half_apply, blk2, gav_apply]
  refine congrArg (arg2 m c (ix2 (row t (hrow o h r)) j) + ·) (congrArg (Loss.ga (arg5 m c) j * ·) (yv_apply m c t o h r j))

theorem nv_apply (c : Dev nD) (t : Fin cfg0.N) (o : Nat) (h : o + 256 ≤ 512) (r : Fin 256) (j : Fin 1024) : nv m c t o h (ix2 r j) = xnorm (Loss.x2r (arg0 m c) (arg1 m c) (arg2 m c) (arg5 m c)) (row t (hrow o h r)) j := by
  refine (pay9_apply _ _ _ _ r j).trans ?_
  show xv m c t o h (ix2 r j) * rinv (fun k => xv m c t o h (ix2 r k)) = _
  simp only [xv_apply]
  rfl

theorem ev_apply (c : Dev nD) (t : Fin cfg0.N) (o : Nat) (h : o + 256 ≤ 512) (r : Fin 256) (j : Fin 1024) : ev m c t o h (ix2 r j) = Loss.err (arg0 m c) (arg1 m c) (arg2 m c) (arg3 m c) (arg4 m c) (arg5 m c) (row t (hrow o h r)) j := by
  refine (pay10_apply _ _ _ _ _ _ r j).trans ?_
  show nv m c t o h (ix2 r j) * _ - _ = _
  rw [nv_apply, half_apply, blk3, blk4]
  rfl

theorem dv_apply (c : Dev nD) (t : Fin cfg0.N) (o : Nat) (h : o + 256 ≤ 512) (r : Fin 256) (j : Fin 1024) : dv m c t o h (ix2 r j) = Loss.dx (arg0 m c) (arg1 m c) (arg2 m c) (arg3 m c) (arg4 m c) (arg5 m c) (row t (hrow o h r)) j := by
  refine (pay16_apply _ _ _ _ _ _ r j).trans ?_
  show kdx _ (fun k => xv m c t o h (ix2 r k)) _ j = _
  simp only [xv_apply, ev_apply, blk4]
  rfl

theorem dyv_apply (c : Dev nD) (t : Fin cfg0.N) (o : Nat) (h : o + 256 ≤ 512) (r : Fin 256) (j : Fin 1024) : dyv m c t o h (ix2 r j) = Loss.dy (arg0 m c) (arg1 m c) (arg2 m c) (arg3 m c) (arg4 m c) (arg5 m c) (row t (hrow o h r)) j := by
  refine (pay17_apply _ _ _ _ _ r j).trans ?_
  show dv m c t o h (ix2 r j) * _ = _
  rw [dv_apply, gav_apply]
  rfl

/-! ## The arrays written row by row -/

theorem at7 (c : Dev nD) (t : Fin cfg0.N) (y : S512x1024.Idx) : (outsAt0 m c t.val t.isLt).2.1 y
    = Loss.dx (arg0 m c) (arg1 m c) (arg2 m c) (arg3 m c) (arg4 m c) (arg5 m c) (row t (y 0)) (y 1) := by
  by_cases h0 : t.val % 4 = 0
  · rw [outsAt0_A m c t h0]
    frame_out
    canon_tiles x h
    · refine ((congrArg _ (eq_ix2 x)).trans (dv_apply m c t 256 (by omega) (x 0) (x 1))).trans ?_
      refine congrArg₂ (Loss.dx _ _ _ _ _ _) (congrArg (row t) (Fin.ext ?_)) (Fin.ext ?_)
      · exact h0.symm
      · exact h1.symm
    · refine ((congrArg _ (eq_ix2 x)).trans (dv_apply m c t 0 (by omega) (x 0) (x 1))).trans ?_
      refine congrArg₂ (Loss.dx _ _ _ _ _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (dv_apply m c t 256 (by omega) (x 0) (x 1))).trans ?_
      refine congrArg₂ (Loss.dx _ _ _ _ _ _) (congrArg (row t) (Fin.ext ?_)) (Fin.ext ?_)
      · exact h0.symm
      · exact h1.symm
    · refine ((congrArg _ (eq_ix2 x)).trans (dv_apply m c t 0 (by omega) (x 0) (x 1))).trans ?_
      refine congrArg₂ (Loss.dx _ _ _ _ _ _) (congrArg (row t) (Fin.ext ?_)) (Fin.ext ?_)
      · exact (Nat.zero_add _).trans h0.symm
      · exact h1.symm

theorem arr7 (c : Dev nD) : (dats m 0 c).arrAt 7 cfg0.N =
    (fun i => Loss.dx (arg0 m c) (arg1 m c) (arg2 m c) (arg3 m c) (arg4 m c) (arg5 m c) (i 0) (i 1) : Vec Ideal S2048x1024 .f32) := by
  refine (dats m 0 c).arrAt_eq_of_covers 7 _ (by decide +kernel) fun t _ y => ?_
  show (outsAt0 m c t.val t.isLt).2.1 y = Loss.dx (arg0 m c) (arg1 m c) (arg2 m c) (arg3 m c) (arg4 m c) (arg5 m c) _ _
  rw [at7]
  have h := place t
  have e0 : win0_7.index t 0 = t.val := by rw [h.2.2.2.2.2.2.1]; rfl
  have e1 : win0_7.index t 1 = 0 := by rw [h.2.2.2.2.2.2.1]; rfl
  refine congrArg₂ (Loss.dx _ _ _ _ _ _) (Fin.ext ?_) (Fin.ext ?_)
  · show 512 * t.val + (y 0).val = win0_7.index t 0 * 512 + 1 * (y 0).val
    omega
  · show (y 1).val = win0_7.index t 1 * 1024 + 1 * (y 1).val
    omega

theorem at8 (c : Dev nD) (t : Fin cfg0.N) (y : S512x1024.Idx) : (outsAt0 m c t.val t.isLt).2.2.1 y
    = Loss.dy (arg0 m c) (arg1 m c) (arg2 m c) (arg3 m c) (arg4 m c) (arg5 m c) (row t (y 0)) (y 1) := by
  by_cases h0 : t.val % 4 = 0
  · rw [outsAt0_A m c t h0]
    frame_out
    canon_tiles x h
    · refine ((congrArg _ (eq_ix2 x)).trans (dyv_apply m c t 256 (by omega) (x 0) (x 1))).trans ?_
      refine congrArg₂ (Loss.dy _ _ _ _ _ _) (congrArg (row t) (Fin.ext ?_)) (Fin.ext ?_)
      · exact h0.symm
      · exact h1.symm
    · refine ((congrArg _ (eq_ix2 x)).trans (dyv_apply m c t 0 (by omega) (x 0) (x 1))).trans ?_
      refine congrArg₂ (Loss.dy _ _ _ _ _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (dyv_apply m c t 256 (by omega) (x 0) (x 1))).trans ?_
      refine congrArg₂ (Loss.dy _ _ _ _ _ _) (congrArg (row t) (Fin.ext ?_)) (Fin.ext ?_)
      · exact h0.symm
      · exact h1.symm
    · refine ((congrArg _ (eq_ix2 x)).trans (dyv_apply m c t 0 (by omega) (x 0) (x 1))).trans ?_
      refine congrArg₂ (Loss.dy _ _ _ _ _ _) (congrArg (row t) (Fin.ext ?_)) (Fin.ext ?_)
      · exact (Nat.zero_add _).trans h0.symm
      · exact h1.symm

theorem arr8 (c : Dev nD) : (dats m 0 c).arrAt 8 cfg0.N =
    (fun i => Loss.dy (arg0 m c) (arg1 m c) (arg2 m c) (arg3 m c) (arg4 m c) (arg5 m c) (i 0) (i 1) : Vec Ideal S2048x1024 .bf16) := by
  refine (dats m 0 c).arrAt_eq_of_covers 8 _ (by decide +kernel) fun t _ y => ?_
  show (outsAt0 m c t.val t.isLt).2.2.1 y = Loss.dy (arg0 m c) (arg1 m c) (arg2 m c) (arg3 m c) (arg4 m c) (arg5 m c) _ _
  rw [at8]
  have h := place t
  have e0 : win0_8.index t 0 = t.val := by rw [h.2.2.2.2.2.2.2]; rfl
  have e1 : win0_8.index t 1 = 0 := by rw [h.2.2.2.2.2.2.2]; rfl
  refine congrArg₂ (Loss.dy _ _ _ _ _ _) (Fin.ext ?_) (Fin.ext ?_)
  · show 512 * t.val + (y 0).val = win0_8.index t 0 * 512 + 1 * (y 0).val
    omega
  · show (y 1).val = win0_8.index t 1 * 1024 + 1 * (y 1).val
    omega

/-! ## The sums over the rows -/

/-- The grid's point number `n`. -/
def pt (n : Nat) (h : n ≤ 3) : Fin cfg0.N := ⟨n, lt_of_lt_of_eq (Nat.lt_succ_of_le h) (show 4 = cfg0.N from N_0.symm)⟩
/-- The grid's last point. -/
def last : Fin cfg0.N := pt 3 le_rfl

theorem at6_A (c : Dev nD) (t : Fin cfg0.N) (h0 : t.val % 4 = 0) (p : Fin 8) (q : Fin 128) : (outsAt0 m c t.val t.isLt).1 (ix2 p q)
    = k0_pay13 (k0_pay11 (k0_pay13 (k0_pay11 (k0_pay2 (F := Ideal))) (lv m c t 0 (by omega)))) (lv m c t 256 (by omega)) (ix2 p q) := by
  rw [outsAt0_A m c t h0]
  frame_out
  rfl

theorem at6_B (c : Dev nD) (t : Fin cfg0.N) (h0 : ¬t.val % 4 = 0) (p : Fin 8) (q : Fin 128) : (outsAt0 m c t.val t.isLt).1 (ix2 p q)
    = k0_pay13 (k0_pay11 (k0_pay13 (k0_pay11 (outsAt0 m c (t.val - 1) (by have := t.isLt; omega)).1) (lv m c t 0 (by omega)))) (lv m c t 256 (by omega)) (ix2 p q) := by
  rw [outsAt0_B m c t h0]
  frame_out
  rfl

theorem step6 (c : Dev nD) (p : Fin 8) (q : Fin 128) (t : Fin cfg0.N) (a : Vec Ideal S8x128 .f32) :
    k0_pay13 (k0_pay11 (k0_pay13 (k0_pay11 a) (lv m c t 0 (by omega)))) (lv m c t 256 (by omega)) (ix2 p q)
      = a (ix2 p q) + ∑ r : Fin 512, Loss.oneHalf * Loss.rowLoss (arg0 m c) (arg1 m c) (arg2 m c) (arg3 m c) (arg4 m c) (arg5 m c) (row t r) := by
  unfold lv
  rw [pay13_apply, pay13_apply, Loss.oneHalf_sum, Loss.oneHalf_sum]
  refine Eq.trans ?_ (two_halves (a (ix2 p q)) fun r => Loss.oneHalf * Loss.rowLoss (arg0 m c) (arg1 m c) (arg2 m c) (arg3 m c) (arg4 m c) (arg5 m c) (row t r))
  refine congrArg₂ (· + ·) (congrArg (a (ix2 p q) + ·) (Finset.sum_congr rfl fun r _ => ?_)) (Finset.sum_congr rfl fun r _ => ?_)
  all_goals refine congrArg (Loss.oneHalf * ·) (congrArg (Ideal.div · width) (Finset.sum_congr rfl fun k _ => ?_))
  · exact congrArg₂ (· * ·) (ev_apply m c t 0 (by omega) r k) (ev_apply m c t 0 (by omega) r k)
  · exact congrArg₂ (· * ·) (ev_apply m c t 256 (by omega) r k) (ev_apply m c t 256 (by omega) r k)

def part6 (c : Dev nD) (p : Fin 8) (q : Fin 128) (n : Nat) (h : n ≤ 3) : EReal := (outsAt0 m c n (pt n h).isLt).1 (ix2 p q)

theorem acc6 (c : Dev nD) (p : Fin 8) (q : Fin 128) : (outsAt0 m c last.val last.isLt).1 (ix2 p q) = Loss.loss (arg0 m c) (arg1 m c) (arg2 m c) (arg3 m c) (arg4 m c) (arg5 m c) := by
  have h0 : part6 m c p q 0 (Nat.zero_le 3) = ∑ r : Fin 512, (fun i => Loss.oneHalf * Loss.rowLoss (arg0 m c) (arg1 m c) (arg2 m c) (arg3 m c) (arg4 m c) (arg5 m c) i) ⟨512 * 0 + r.val, place_lt rfl (Nat.zero_le 3) r⟩ := by
    show (outsAt0 m c (pt 0 (Nat.zero_le 3)).val _).1 (ix2 p q) = _
    rw [at6_A m c (pt 0 (Nat.zero_le 3)) rfl, step6, pay2_apply, zero_add]
    rfl
  have hs : ∀ n (h : n + 1 ≤ 3), part6 m c p q (n + 1) h = part6 m c p q n (Nat.le_of_succ_le h) + ∑ r : Fin 512, (fun i => Loss.oneHalf * Loss.rowLoss (arg0 m c) (arg1 m c) (arg2 m c) (arg3 m c) (arg4 m c) (arg5 m c) i) ⟨512 * (n + 1) + r.val, place_lt rfl h r⟩ := by
    intro n h
    show (outsAt0 m c (pt (n + 1) h).val _).1 (ix2 p q) = _
    rw [at6_B m c (pt (n + 1) h) (show ¬(n + 1) % 4 = 0 by omega), step6]
    rfl
  exact (sum_blocks 512 3 2048 rfl (fun i => Loss.oneHalf * Loss.rowLoss (arg0 m c) (arg1 m c) (arg2 m c) (arg3 m c) (arg4 m c) (arg5 m c) i) (part6 m c p q) h0 hs).trans (Loss.oneHalf_sum _ _).symm

theorem arr6 (c : Dev nD) : (dats m 0 c).arrAt 6 cfg0.N =
    (fun _ => Loss.loss (arg0 m c) (arg1 m c) (arg2 m c) (arg3 m c) (arg4 m c) (arg5 m c) : Vec Ideal S8x128 .f32) := by
  refine (dats m 0 c).arrAt_eq_of_after_last 6 last (by decide +kernel) _ fun j => ?_
  rw [after0_6]
  exact (congrArg (outsAt0 m c last.val last.isLt).1 (eq_ix2 j)).trans (acc6 m c (j 0) (j 1))

theorem at9_A (c : Dev nD) (t : Fin cfg0.N) (h0 : t.val % 4 = 0) (j : Fin 1024) : (outsAt0 m c t.val t.isLt).2.2.2.1 (ix2 0 j)
    = k0_pay15 (nv m c t 256 (by omega)) (ev m c t 256 (by omega)) (k0_pay15 (nv m c t 0 (by omega)) (ev m c t 0 (by omega)) (k0_pay3 (F := Ideal))) (ix2 0 j) := by
  rw [outsAt0_A m c t h0]
  frame_out
  rfl

theorem at9_B (c : Dev nD) (t : Fin cfg0.N) (h0 : ¬t.val % 4 = 0) (j : Fin 1024) : (outsAt0 m c t.val t.isLt).2.2.2.1 (ix2 0 j)
    = k0_pay15 (nv m c t 256 (by omega)) (ev m c t 256 (by omega)) (k0_pay15 (nv m c t 0 (by omega)) (ev m c t 0 (by omega)) (outsAt0 m c (t.val - 1) (by have := t.isLt; omega)).2.2.2.1) (ix2 0 j) := by
  rw [outsAt0_B m c t h0]
  frame_out
  rfl

theorem step9 (c : Dev nD) (j : Fin 1024) (t : Fin cfg0.N) (a : Vec Ideal S1x1024 .f32) :
    k0_pay15 (nv m c t 256 (by omega)) (ev m c t 256 (by omega)) (k0_pay15 (nv m c t 0 (by omega)) (ev m c t 0 (by omega)) a) (ix2 0 j)
      = a (ix2 0 j) + ∑ r : Fin 512, Loss.dout (arg0 m c) (arg1 m c) (arg2 m c) (arg3 m c) (arg4 m c) (arg5 m c) (row t r) j * xnorm (Loss.x2r (arg0 m c) (arg1 m c) (arg2 m c) (arg5 m c)) (row t r) j := by
  rw [pay15_apply, pay15_apply]
  simp only [nv_apply, ev_apply, dv_apply, yv_apply]
  exact two_halves (a (ix2 0 j)) fun r => Loss.dout (arg0 m c) (arg1 m c) (arg2 m c) (arg3 m c) (arg4 m c) (arg5 m c) (row t r) j * xnorm (Loss.x2r (arg0 m c) (arg1 m c) (arg2 m c) (arg5 m c)) (row t r) j

def part9 (c : Dev nD) (j : Fin 1024) (n : Nat) (h : n ≤ 3) : EReal := (outsAt0 m c n (pt n h).isLt).2.2.2.1 (ix2 0 j)

theorem acc9 (c : Dev nD) (j : Fin 1024) : (outsAt0 m c last.val last.isLt).2.2.2.1 (ix2 0 j) = Loss.dg (arg0 m c) (arg1 m c) (arg2 m c) (arg3 m c) (arg4 m c) (arg5 m c) j := by
  have h0 : part9 m c j 0 (Nat.zero_le 3) = ∑ r : Fin 512, (fun i => Loss.dout (arg0 m c) (arg1 m c) (arg2 m c) (arg3 m c) (arg4 m c) (arg5 m c) i j * xnorm (Loss.x2r (arg0 m c) (arg1 m c) (arg2 m c) (arg5 m c)) i j) ⟨512 * 0 + r.val, place_lt rfl (Nat.zero_le 3) r⟩ := by
    show (outsAt0 m c (pt 0 (Nat.zero_le 3)).val _).2.2.2.1 (ix2 0 j) = _
    rw [at9_A m c (pt 0 (Nat.zero_le 3)) rfl, step9, pay3_apply, zero_add]
    rfl
  have hs : ∀ n (h : n + 1 ≤ 3), part9 m c j (n + 1) h = part9 m c j n (Nat.le_of_succ_le h) + ∑ r : Fin 512, (fun i => Loss.dout (arg0 m c) (arg1 m c) (arg2 m c) (arg3 m c) (arg4 m c) (arg5 m c) i j * xnorm (Loss.x2r (arg0 m c) (arg1 m c) (arg2 m c) (arg5 m c)) i j) ⟨512 * (n + 1) + r.val, place_lt rfl h r⟩ := by
    intro n h
    show (outsAt0 m c (pt (n + 1) h).val _).2.2.2.1 (ix2 0 j) = _
    rw [at9_B m c (pt (n + 1) h) (show ¬(n + 1) % 4 = 0 by omega), step9]
    rfl
  exact sum_blocks 512 3 2048 rfl (fun i => Loss.dout (arg0 m c) (arg1 m c) (arg2 m c) (arg3 m c) (arg4 m c) (arg5 m c) i j * xnorm (Loss.x2r (arg0 m c) (arg1 m c) (arg2 m c) (arg5 m c)) i j) (part9 m c j) h0 hs

theorem arr9 (c : Dev nD) : (dats m 0 c).arrAt 9 cfg0.N =
    (fun i => Loss.dg (arg0 m c) (arg1 m c) (arg2 m c) (arg3 m c) (arg4 m c) (arg5 m c) (i 1) : Vec Ideal S1x1024 .f32) := by
  refine (dats m 0 c).arrAt_eq_of_after_last 9 last (by decide +kernel) _ fun j => ?_
  rw [after0_9]
  exact (congrArg (outsAt0 m c last.val last.isLt).2.2.2.1 (eq_row j)).trans (acc9 m c (j 1))

theorem at10_A (c : Dev nD) (t : Fin cfg0.N) (h0 : t.val % 4 = 0) (j : Fin 1024) : (outsAt0 m c t.val t.isLt).2.2.2.2 (ix2 0 j)
    = k0_pay19 (yv m c t 256 (by omega)) (dv m c t 256 (by omega)) (k0_pay18 (k0_pay19 (yv m c t 0 (by omega)) (dv m c t 0 (by omega)) (k0_pay18 (k0_pay4 (F := Ideal))))) (ix2 0 j) := by
  rw [outsAt0_A m c t h0]
  frame_out
  rfl

theorem at10_B (c : Dev nD) (t : Fin cfg0.N) (h0 : ¬t.val % 4 = 0) (j : Fin 1024) : (outsAt0 m c t.val t.isLt).2.2.2.2 (ix2 0 j)
    = k0_pay19 (yv m c t 256 (by omega)) (dv m c t 256 (by omega)) (k0_pay18 (k0_pay19 (yv m c t 0 (by omega)) (dv m c t 0 (by omega)) (k0_pay18 (outsAt0 m c (t.val - 1) (by have := t.isLt; omega)).2.2.2.2))) (ix2 0 j) := by
  rw [outsAt0_B m c t h0]
  frame_out
  rfl

theorem step10 (c : Dev nD) (j : Fin 1024) (t : Fin cfg0.N) (a : Vec Ideal S1x1024 .f32) :
    k0_pay19 (yv m c t 256 (by omega)) (dv m c t 256 (by omega)) (k0_pay18 (k0_pay19 (yv m c t 0 (by omega)) (dv m c t 0 (by omega)) (k0_pay18 a))) (ix2 0 j)
      = a (ix2 0 j) + ∑ r : Fin 512, Loss.dx (arg0 m c) (arg1 m c) (arg2 m c) (arg3 m c) (arg4 m c) (arg5 m c) (row t r) j * Loss.y2 (arg0 m c) (arg1 m c) (row t r) j := by
  rw [pay19_apply, pay19_apply]
  simp only [nv_apply, ev_apply, dv_apply, yv_apply]
  exact two_halves (a (ix2 0 j)) fun r => Loss.dx (arg0 m c) (arg1 m c) (arg2 m c) (arg3 m c) (arg4 m c) (arg5 m c) (row t r) j * Loss.y2 (arg0 m c) (arg1 m c) (row t r) j

def part10 (c : Dev nD) (j : Fin 1024) (n : Nat) (h : n ≤ 3) : EReal := (outsAt0 m c n (pt n h).isLt).2.2.2.2 (ix2 0 j)

theorem acc10 (c : Dev nD) (j : Fin 1024) : (outsAt0 m c last.val last.isLt).2.2.2.2 (ix2 0 j) = Loss.dga (arg0 m c) (arg1 m c) (arg2 m c) (arg3 m c) (arg4 m c) (arg5 m c) j := by
  have h0 : part10 m c j 0 (Nat.zero_le 3) = ∑ r : Fin 512, (fun i => Loss.dx (arg0 m c) (arg1 m c) (arg2 m c) (arg3 m c) (arg4 m c) (arg5 m c) i j * Loss.y2 (arg0 m c) (arg1 m c) i j) ⟨512 * 0 + r.val, place_lt rfl (Nat.zero_le 3) r⟩ := by
    show (outsAt0 m c (pt 0 (Nat.zero_le 3)).val _).2.2.2.2 (ix2 0 j) = _
    rw [at10_A m c (pt 0 (Nat.zero_le 3)) rfl, step10, pay4_apply, zero_add]
    rfl
  have hs : ∀ n (h : n + 1 ≤ 3), part10 m c j (n + 1) h = part10 m c j n (Nat.le_of_succ_le h) + ∑ r : Fin 512, (fun i => Loss.dx (arg0 m c) (arg1 m c) (arg2 m c) (arg3 m c) (arg4 m c) (arg5 m c) i j * Loss.y2 (arg0 m c) (arg1 m c) i j) ⟨512 * (n + 1) + r.val, place_lt rfl h r⟩ := by
    intro n h
    show (outsAt0 m c (pt (n + 1) h).val _).2.2.2.2 (ix2 0 j) = _
    rw [at10_B m c (pt (n + 1) h) (show ¬(n + 1) % 4 = 0 by omega), step10]
    rfl
  exact sum_blocks 512 3 2048 rfl (fun i => Loss.dx (arg0 m c) (arg1 m c) (arg2 m c) (arg3 m c) (arg4 m c) (arg5 m c) i j * Loss.y2 (arg0 m c) (arg1 m c) i j) (part10 m c j) h0 hs

theorem arr10 (c : Dev nD) : (dats m 0 c).arrAt 10 cfg0.N =
    (fun i => Loss.dga (arg0 m c) (arg1 m c) (arg2 m c) (arg3 m c) (arg4 m c) (arg5 m c) (i 1) : Vec Ideal S1x1024 .f32) := by
  refine (dats m 0 c).arrAt_eq_of_after_last 10 last (by decide +kernel) _ fun j => ?_
  rw [after0_10]
  exact (congrArg (outsAt0 m c last.val last.isLt).2.2.2.2 (eq_row j)).trans (acc10 m c (j 1))

end Cert.Kernel8Ideal.Blocks
-- ==== Proof.LossRef.lean ====
module

public import proofs.«01_k».proof.Proof.LossMath
public import proofs.«01_k».proof.Proof.Gen.Reference8Ideal.Read
public import Idealize.ShloMosaic.PureOps.Ideal.Laws
public import Idealize.ShloMosaic.Lib.Pointwise

@[expose] public section

set_option maxRecDepth 16384

noncomputable section

namespace Cert.Reference8Ideal.Rows

open Cert.Reference8Ideal Cert.Reference8Ideal.Gen Cert.Reference8Ideal.Read
open Idealize.ShloMosaic Idealize.ShloMosaic.TcCoe Idealize.SL.Sem
open Cert.Rows Cert.Loss

variable (x0 : (⟨S2048x2816, .bf16⟩ : BufTy).Contents (Elt Ideal)) (x1 : (⟨S2816x1024, .f32⟩ : BufTy).Contents (Elt Ideal))
variable (x2 x3 : (⟨S2048x1024, .f32⟩ : BufTy).Contents (Elt Ideal)) (x4 : (⟨S1x1024, .f32⟩ : BufTy).Contents (Elt Ideal))
variable (x5 : (⟨S6x1024, .f32⟩ : BufTy).Contents (Elt Ideal))

theorem v1_at (i : Fin 2048) (j : Fin 1024) : val_main_v1 (F := Ideal) x0 x1 (ix2 i j) = y2 x0 x1 i j := by
  pointwise [val_main_v1, val_main_v0]
  rfl

theorem v5_at (i : Fin 2048) (j : Fin 1024) : val_main_v5 (F := Ideal) x0 x1 x2 x5 (ix2 i j) = x2r x0 x1 x2 x5 i j := by
  pointwise [val_main_v5, val_main_v4, val_main_v3, val_main_v2]
  rw [v1_at]
  rfl

theorem v12_at (i : Fin 2048) : val_main_v12 (F := Ideal) x0 x1 x2 x5 (ix2 i 0) = arg (x2r x0 x1 x2 x5 i) := by
  pointwise [val_main_v12, val_main_v11, val_main_cst, val_main_cst_0, val_main_cst_1, val_main_v10, val_main_v9, val_main_v8, val_main_v7, val_main_v6]
  simp only [v5_at]
  rfl

theorem v13_at (i : Fin 2048) : val_main_v13 (F := Ideal) x0 x1 x2 x5 (ix2 i 0) = rinv (x2r x0 x1 x2 x5 i) := by
  pointwise [val_main_v13]
  rw [v12_at]
  rfl

theorem v16_at (i : Fin 2048) : val_main_v16 (F := Ideal) x0 x1 x2 x5 (ix2 i 0) = mhalf * Ideal.div (rinv (x2r x0 x1 x2 x5 i)) (arg (x2r x0 x1 x2 x5 i)) := by
  pointwise [val_main_v16, val_main_v15, val_main_v14, val_main_cst_2]
  rw [v12_at, v13_at]

theorem v18_at (i : Fin 2048) (j : Fin 1024) : val_main_v18 (F := Ideal) x0 x1 x2 x5 (ix2 i j) = xnorm (x2r x0 x1 x2 x5) i j := by
  pointwise [val_main_v18, val_main_v17]
  rw [v5_at, v13_at]
  rfl

theorem v21_at (i : Fin 2048) (j : Fin 1024) : val_main_v21 (F := Ideal) x0 x1 x2 x3 x4 x5 (ix2 i j) = err x0 x1 x2 x3 x4 x5 i j := by
  pointwise [val_main_v21, val_main_v20, val_main_v19]
  rw [v18_at]
  rfl

theorem v27_at (i : Fin 2048) : val_main_v27 (F := Ideal) x0 x1 x2 x3 x4 x5 (ix1 i) = rowLoss x0 x1 x2 x3 x4 x5 i := by
  pointwise [val_main_v27, val_main_v26, val_main_v25, val_main_v22, val_main_cst_4, val_main_cst_5]
  simp only [v21_at]
  rfl

theorem v60_at (p : Fin 8) (q : Fin 128) : val_main_v60 (F := Ideal) x0 x1 x2 x3 x4 x5 (ix2 p q) = loss x0 x1 x2 x3 x4 x5 := by
  pointwise [val_main_v60, val_main_v29, val_main_v28, val_main_cst_6, val_main_cst_7]
  simp only [v27_at]
  rfl

theorem v35_at (i : Fin 2048) (j : Fin 1024) : val_main_v35 (F := Ideal) x0 x1 x2 x3 x4 x5 (ix2 i j) = dout x0 x1 x2 x3 x4 x5 i j := by
  unfold dout
  rw [← chain]
  pointwise [val_main_v35, val_main_v34, val_main_v33, val_main_v32, val_main_v31, val_main_v30, val_main_v24, val_main_v23, val_main_cst_3, val_main_cst_8, val_main_cst_9, val_main_cst_10]
  rw [v21_at]

theorem v40_at (i : Fin 2048) (j : Fin 1024) : val_main_v40 (F := Ideal) x0 x1 x2 x3 x4 x5 (ix2 i j) = dout x0 x1 x2 x3 x4 x5 i j * x4 (ix2 0 j) := by
  pointwise [val_main_v40, val_main_v39]
  rw [v35_at]

theorem v50_at (i : Fin 2048) (j : Fin 1024) : val_main_v50 (F := Ideal) x0 x1 x2 x3 x4 x5 (ix2 i j)
    = pull (x2r x0 x1 x2 x5 i) (fun k => dout x0 x1 x2 x3 x4 x5 i k * x4 (ix2 0 k)) := by
  pointwise [val_main_v50, val_main_v49, val_main_v48, val_main_v47, val_main_v46, val_main_v43, val_main_v42, val_main_v41, val_main_cst_12, val_main_cst_13, val_main_cst_14]
  simp only [v40_at, v5_at, Fin.sum_univ_one, v16_at]
  rfl

theorem v54_at (i : Fin 2048) (j : Fin 1024) : val_main_v54 (F := Ideal) x0 x1 x2 x3 x4 x5 (ix2 i j) = dx x0 x1 x2 x3 x4 x5 i j := by
  unfold dx
  rw [kdx_eq_rdx]
  pointwise [val_main_v54, val_main_v53, val_main_v52, val_main_v51, val_main_v45, val_main_v44]
  simp only [v50_at, v5_at, v40_at, v13_at]
  unfold rdx
  rw [zero_add]

theorem v61_at (i : Fin 2048) (j : Fin 1024) : val_main_v61 (F := Ideal) x0 x1 x2 x3 x4 x5 (ix2 i j) = dy x0 x1 x2 x3 x4 x5 i j := by
  pointwise [val_main_v61, val_main_v56, val_main_v55, val_main_v2]
  simp only [v54_at]
  exact mul_comm _ _

theorem v38_at (j : Fin 1024) : val_main_v38 (F := Ideal) x0 x1 x2 x3 x4 x5 (ix2 0 j) = dg x0 x1 x2 x3 x4 x5 j := by
  pointwise [val_main_v38, val_main_v37, val_main_v36, val_main_cst_11]
  simp only [v18_at, v35_at]
  exact Finset.sum_congr rfl fun i _ => mul_comm _ _

theorem v59_at (j : Fin 1024) : val_main_v59 (F := Ideal) x0 x1 x2 x3 x4 x5 (ix2 0 j) = dga x0 x1 x2 x3 x4 x5 j := by
  pointwise [val_main_v59, val_main_v58, val_main_v57, val_main_cst_15]
  simp only [v54_at, v1_at]
  rfl

/-! ## The reference's run -/

theorem whole_main_v60 : val_main_v60 (F := Ideal) x0 x1 x2 x3 x4 x5 = (fun _ => Loss.loss x0 x1 x2 x3 x4 x5 : Vec Ideal S8x128 .f32) :=
  funext fun i => (congrArg (val_main_v60 (F := Ideal) x0 x1 x2 x3 x4 x5) (eq_ix2 i)).trans (v60_at x0 x1 x2 x3 x4 x5 (i 0) (i 1))

theorem whole_main_v54 : val_main_v54 (F := Ideal) x0 x1 x2 x3 x4 x5 = (fun i => Loss.dx x0 x1 x2 x3 x4 x5 (i 0) (i 1) : Vec Ideal S2048x1024 .f32) :=
  funext fun i => (congrArg (val_main_v54 (F := Ideal) x0 x1 x2 x3 x4 x5) (eq_ix2 i)).trans (v54_at x0 x1 x2 x3 x4 x5 (i 0) (i 1))

theorem whole_main_v61 : val_main_v61 (F := Ideal) x0 x1 x2 x3 x4 x5 = (fun i => Loss.dy x0 x1 x2 x3 x4 x5 (i 0) (i 1) : Vec Ideal S2048x1024 .bf16) :=
  funext fun i => (congrArg (val_main_v61 (F := Ideal) x0 x1 x2 x3 x4 x5) (eq_ix2 i)).trans (v61_at x0 x1 x2 x3 x4 x5 (i 0) (i 1))

theorem whole_main_v38 : val_main_v38 (F := Ideal) x0 x1 x2 x3 x4 x5 = (fun i => Loss.dg x0 x1 x2 x3 x4 x5 (i 1) : Vec Ideal S1x1024 .f32) :=
  funext fun i => (congrArg (val_main_v38 (F := Ideal) x0 x1 x2 x3 x4 x5) (eq_row i)).trans (v38_at x0 x1 x2 x3 x4 x5 (i 1))

theorem whole_main_v59 : val_main_v59 (F := Ideal) x0 x1 x2 x3 x4 x5 = (fun i => Loss.dga x0 x1 x2 x3 x4 x5 (i 1) : Vec Ideal S1x1024 .f32) :=
  funext fun i => (congrArg (val_main_v59 (F := Ideal) x0 x1 x2 x3 x4 x5) (eq_row i)).trans (v59_at x0 x1 x2 x3 x4 x5 (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = (fun _ => Loss.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : Vec Ideal S8x128 .f32)
      ∧ r.2.mem ((c.tc : Thread nD τ).loc main_v54) = (fun i => Loss.dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) : Vec Ideal S2048x1024 .f32)
      ∧ r.2.mem ((c.tc : Thread nD τ).loc main_v61) = (fun i => Loss.dy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) : Vec Ideal S2048x1024 .bf16)
      ∧ r.2.mem ((c.tc : Thread nD τ).loc main_v38) = (fun i => Loss.dg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 1) : Vec Ideal S1x1024 .f32)
      ∧ r.2.mem ((c.tc : Thread nD τ).loc main_v59) = (fun i => Loss.dga (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 1) : Vec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Cert.Reference8Ideal.Value.run m ρ)
  obtain ⟨k0, k1, k2, k3, k4, ha⟩ := h c
  exact ⟨(k0.trans (val_main_v60_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))).trans (whole_main_v60 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (k1.trans (val_main_v54_eq m c)).trans (whole_main_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (k2.trans (val_main_v61_eq m c)).trans (whole_main_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (k3.trans (val_main_v38_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))).trans (whole_main_v38 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (k4.trans (val_main_v59_eq m c)).trans (whole_main_v59 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))), ha⟩

end Cert.Reference8Ideal.Rows
-- ==== Proof.LossFinal.lean ====
module

public import proofs.«01_k».proof.Defs
public import proofs.«01_k».proof.Proof.LossArrays
public import proofs.«01_k».proof.Proof.LossRef
public import Idealize.ShloMosaic.Adequacy
public import Idealize.ShloMosaic.Init

/-! # The two runs side by side -/

@[expose] public section

set_option maxRecDepth 16384

noncomputable section

namespace Cert.Loss

open Idealize.ShloMosaic Idealize.SL.Sem

theorem frame_ref : Cert.quiescent_Reference8Ideal := by
  intro m ρ _
  exact (θ_run Cert.Reference8Ideal.defs _ _).mono (fun r h => ⟨fun c => (h c).2.2.2.2.2, sem_eq_zero_of_no_sems (by decide) r.2⟩) (Cert.Reference8Ideal.Rows.run_whole m ρ)

theorem algebraic : Cert.algebraic_Kernel8Ideal_Reference8Ideal := by
  intro m g m' g' _ hag
  refine ⟨fun c => fun _ => Cert.Loss.loss (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)), fun c => fun i => Cert.Loss.dx (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (i 0) (i 1), fun c => fun i => Cert.Loss.dy (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (i 0) (i 1), fun c => fun i => Cert.Loss.dg (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (i 1), fun c => fun i => Cert.Loss.dga (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (i 1), ?_, ?_⟩
  · refine (θ_run Cert.Kernel8Ideal.defs _ _).mono (fun r h c => ?_) (Cert.Kernel8Ideal.Value.run_blocks m g)
    obtain ⟨k0, k1, k2, k3, k4, ha⟩ := h c
    exact ⟨k0.trans (Cert.Kernel8Ideal.Blocks.arr6 m c), k1.trans (Cert.Kernel8Ideal.Blocks.arr7 m c), k2.trans (Cert.Kernel8Ideal.Blocks.arr8 m c), k3.trans (Cert.Kernel8Ideal.Blocks.arr9 m c), k4.trans (Cert.Kernel8Ideal.Blocks.arr10 m c), ha⟩
  · refine (θ_run Cert.Reference8Ideal.defs _ _).mono (fun r h c => ?_) (Cert.Reference8Ideal.Rows.run_whole m' g')
    obtain ⟨k0, k1, k2, k3, k4, ha⟩ := h c
    obtain ⟨e0, e1, e2, e3, e4, e5⟩ := hag c
    rw [e0, e1, e2, e3, e4, e5] at k0
    rw [e0, e1, e2, e3, e4, e5] at k1
    rw [e0, e1, e2, e3, e4, e5] at k2
    rw [e0, e1, e2, e3, e4, e5] at k3
    rw [e0, e1, e2, e3, e4, e5] at k4
    exact ⟨k0, k1, k2, k3, k4, ha⟩

end Cert.Loss
-- ==== Proof.FwdMath.lean ====
module

public import proofs.«01_k».proof.Proof.UpMath
public import proofs.«01_k».proof.Proof.Halves

/-! # Modulated norms, row by row, and their products with a weight -/

@[expose] public section

set_option maxRecDepth 16384

noncomputable section

namespace Cert.Rows

open Idealize.ShloMosaic

variable {r n : Nat} (X : Fin r → Fin n → EReal) (g s b : Fin n → EReal)

/-- The modulated norm of the rows. -/
def modRow (i : Fin r) (j : Fin n) : EReal := xnorm X i j * g j * (1 + s j) + b j

end Cert.Rows

namespace Cert.UpFwd

open Idealize.ShloMosaic
open Cert.Rows

variable (x0 x1 : Vec Ideal ⟨2, ![2048, 1024]⟩ .f32) (x2 : Vec Ideal ⟨2, ![1, 1024]⟩ .f32) (x3 : Vec Ideal ⟨2, ![6, 1024]⟩ .f32)
variable (x4 : Vec Ideal ⟨2, ![1024, 5632]⟩ .f32)

/-- The rows after the gated residual. -/
def res (i : Fin 2048) (j : Fin 1024) : EReal := x0 (ix2 i j) + x3 (ix2 2 j) * x1 (ix2 i j)
/-- The modulated rows. -/
def h (i : Fin 2048) (j : Fin 1024) : EReal := modRow (res x0 x1 x3) (fun j => x2 (ix2 0 j)) (fun j => x3 (ix2 4 j)) (fun j => x3 (ix2 3 j)) i j
/-- Their product with the weight. -/
def up (i : Fin 2048) (j : Fin 5632) : EReal := ∑ k, h x0 x1 x2 x3 i k * x4 (ix2 k j)

end Cert.UpFwd

namespace Cert.ProjFwd

open Idealize.ShloMosaic
open Cert.Rows

variable (x0 : Vec Ideal ⟨2, ![2048, 1024]⟩ .f32) (x1 : Vec Ideal ⟨2, ![1, 1024]⟩ .f32) (x2 : Vec Ideal ⟨2, ![6, 1024]⟩ .f32)
variable (x3 : Vec Ideal ⟨2, ![1024, 2560]⟩ .f32)

/-- The modulated rows. -/
def h (i : Fin 2048) (j : Fin 1024) : EReal := modRow (fun i j => x0 (ix2 i j)) (fun j => x1 (ix2 0 j)) (fun j => x2 (ix2 1 j)) (fun j => x2 (ix2 0 j)) i j
/-- Their product with the weight. -/
def proj (i : Fin 2048) (j : Fin 2560) : EReal := ∑ k, h x0 x1 x2 i k * x3 (ix2 k j)

end Cert.ProjFwd
-- ==== Proof.UpFwd.lean ====
module

public import proofs.«01_k».proof.Proof.FwdMath
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit

/-! # The channel sub-layer's first product, forward -/

@[expose] public section

set_option maxRecDepth 16384

noncomputable section

namespace Cert.Kernel9Ideal.Blocks

open Cert.Kernel9Ideal Cert.Kernel9Ideal.Gen Cert.Kernel9Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x1024 .f32 := m ((c : Thread nD τ).loc main_arg0)
abbrev arg1 (c : Dev nD) : Vec Ideal S2048x1024 .f32 := m ((c : Thread nD τ).loc main_arg1)
abbrev arg2 (c : Dev nD) : Vec Ideal S1x1024 .f32 := m ((c : Thread nD τ).loc main_arg2)
abbrev arg3 (c : Dev nD) : Vec Ideal S6x1024 .f32 := m ((c : Thread nD τ).loc main_arg3)
abbrev arg4 (c : Dev nD) : Vec Ideal S1024x5632 .f32 := m ((c : Thread nD τ).loc main_arg4)

theorem V_v0 (c : Dev nD) (a : Fin 8) (ha : a.val < 6) (j : Fin 1024) :
    (V m c main_v0 : Vec Ideal S8x1024 .f32) (ix2 a j) = arg3 m c (ix2 ⟨a.val, ha⟩ j) := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  exact dif_pos ha

theorem V_v2 (c : Dev nD) (n : Fin 5632) (k : Fin 1024) : (V m c main_v2 : Vec Ideal S5632x1024 .bf16) (ix2 n k) = arg4 m c (ix2 k n) := by
  unfold V
  simp only [hostOps0, hostOps0_1, hostOps0_2, List.flatten_cons, List.flatten_nil, List.append_nil, List.cons_append, List.nil_append]
  after_results
  pointwise

/-! ## What the kernel computes of a block -/

theorem pay1_apply (a : FVec Ideal S256x1024 .bf16) (w : Vec Ideal S5632x1024 .bf16) (r : Fin 256) (n : Fin 5632) :
    k0_pay1 a (k0_pay4 w) (ix2 r n) = ∑ k : Fin 1024, a (ix2 r k) * w (ix2 n k) := by
  pointwise [k0_pay1, k0_pay4]

theorem pay2_apply (x : Vec Ideal S256x1024 .f32) (ga : Vec Ideal S1x1024 .f32) (y : Vec Ideal S256x1024 .f32) (r : Fin 256) (j : Fin 1024) :
    k0_pay2 x ga y (ix2 r j) = x (ix2 r j) + ga (ix2 0 j) * y (ix2 r j) := by
  pointwise [k0_pay2]

theorem pay3_apply (x : Vec Ideal S256x1024 .f32) (ga : Vec Ideal S1x1024 .f32) (y : Vec Ideal S256x1024 .f32) (g s b : Vec Ideal S1x1024 .f32) (r : Fin 256) (j : Fin 1024) :
    k0_pay3 x ga y g s b (ix2 r j) = modRow (fun (r : Fin 256) k => k0_pay2 x ga y (ix2 r k)) (fun k => g (ix2 0 k)) (fun k => s (ix2 0 k)) (fun k => b (ix2 0 k)) r j := by
  pointwise [k0_pay3]
  rfl

/-! ## The blocks of a point, read off the arrays -/

theorem pt_lt (t : Fin cfg0.N) : t.val < 8 := lt_of_lt_of_eq t.isLt (show cfg0.N = 8 from N_0)

theorem place : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] ∧ win0_7.index t = ![t.val, 0])

/-- A block's row, among the rows of the whole array. -/
def row (t : Fin cfg0.N) (r : Fin 256) : Fin 2048 := ⟨256 * t.val + r.val, by have := pt_lt t; omega⟩

theorem blk0 (c : Dev nD) (t : Fin cfg0.N) (r : Fin 256) (k : Fin 1024) :
    (iblk m c 0 t : Vec Ideal S256x1024 .f32) (ix2 r k) = arg0 m c (ix2 (row t r) k) := by
  unfold iblk
  rw [View.read_apply]
  show V m c main_arg0 _ = _
  rw [V_main_arg0]
  have h := place t
  blk_ext [h, row]

theorem blk1 (c : Dev nD) (t : Fin cfg0.N) (r : Fin 256) (k : Fin 1024) :
    (iblk m c 1 t : Vec Ideal S256x1024 .f32) (ix2 r k) = arg1 m c (ix2 (row t r) k) := by
  unfold iblk
  rw [View.read_apply]
  show V m c main_arg1 _ = _
  rw [V_main_arg1]
  have h := place t
  blk_ext [h, row]

theorem blk2 (c : Dev nD) (t : Fin cfg0.N) (j : Fin 1024) : (iblk m c 2 t : Vec Ideal S1x1024 .f32) (ix2 0 j) = arg2 m c (ix2 0 j) := by
  unfold iblk
  rw [View.read_apply]
  show V m c main_arg2 _ = _
  rw [V_main_arg2]
  have h := place t
  blk_ext [h]

theorem blk3 (c : Dev nD) (t : Fin cfg0.N) (a : Fin 8) (ha : a.val < 6) (j : Fin 1024) :
    (iblk m c 3 t : Vec Ideal S8x1024 .f32) (ix2 a j) = arg3 m c (ix2 ⟨a.val, ha⟩ j) := by
  rw [← V_v0]
  have h := place t
  blk_ext [iblk, h]

theorem blk4 (c : Dev nD) (t : Fin cfg0.N) (n : Fin 5632) (k : Fin 1024) :
    (iblk m c 4 t : Vec Ideal S5632x1024 .bf16) (ix2 n k) = arg4 m c (ix2 k n) := by
  rw [← V_v2]
  have h := place t
  blk_ext [iblk, h]

/-! ## The three arrays -/

/-- The row of the gate. -/
def gav (c : Dev nD) (t : Fin cfg0.N) : Vec Ideal S1x1024 .f32 :=
  View.ld (iblk m c 3 t : Vec Ideal S8x1024 .f32) (Rect.unit ![2, 0] ![1, 1024] inb_S8x1024_S1x1024_2_0)

theorem gav_apply (c : Dev nD) (t : Fin cfg0.N) (j : Fin 1024) : gav m c t (ix2 0 j) = arg3 m c (ix2 2 j) := by
  refine (View.ld_unit_apply_of (iblk m c 3 t : Vec Ideal S8x1024 .f32) _ _ _ _ (ix2 2 j) ?_).trans (blk3 m c t 2 (by decide) j)
  intro a
  match a with
  | ⟨0, _⟩ => rfl
  | ⟨1, _⟩ => exact (Nat.zero_add j.val).symm

/-- The row that scales. -/
def scv (c : Dev nD) (t : Fin cfg0.N) : Vec Ideal S1x1024 .f32 :=
  View.ld (iblk m c 3 t : Vec Ideal S8x1024 .f32) (Rect.unit ![4, 0] ![1, 1024] inb_S8x1024_S1x1024_4_0)

theorem scv_apply (c : Dev nD) (t : Fin cfg0.N) (j : Fin 1024) : scv m c t (ix2 0 j) = arg3 m c (ix2 4 j) := by
  refine (View.ld_unit_apply_of (iblk m c 3 t : Vec Ideal S8x1024 .f32) _ _ _ _ (ix2 4 j) ?_).trans (blk3 m c t 4 (by decide) j)
  intro a
  match a with
  | ⟨0, _⟩ => rfl
  | ⟨1, _⟩ => exact (Nat.zero_add j.val).symm

/-- The row that shifts. -/
def shv (c : Dev nD) (t : Fin cfg0.N) : Vec Ideal S1x1024 .f32 :=
  View.ld (iblk m c 3 t : Vec Ideal S8x1024 .f32) (Rect.unit ![3, 0] ![1, 1024] inb_S8x1024_S1x1024_3_0)

theorem shv_apply (c : Dev nD) (t : Fin cfg0.N) (j : Fin 1024) : shv m c t (ix2 0 j) = arg3 m c (ix2 3 j) := by
  refine (View.ld_unit_apply_of (iblk m c 3 t : Vec Ideal S8x1024 .f32) _ _ _ _ (ix2 3 j) ?_).trans (blk3 m c t 3 (by decide) j)
  intro a
  match a with
  | ⟨0, _⟩ => rfl
  | ⟨1, _⟩ => exact (Nat.zero_add j.val).symm

/-- The rows that the norm reads. -/
def xv (c : Dev nD) (t : Fin cfg0.N) : FVec Ideal S256x1024 .f32 := k0_pay2 (iblk m c 0 t) (gav m c t) (iblk m c 1 t)
/-- The modulated rows. -/
def hv (c : Dev nD) (t : Fin cfg0.N) : FVec Ideal S256x1024 .bf16 := k0_pay3 (iblk m c 0 t) (gav m c t) (iblk m c 1 t) (iblk m c 2 t) (scv m c t) (shv m c t)

theorem xv_apply (c : Dev nD) (t : Fin cfg0.N) (r : Fin 256) (j : Fin 1024) : xv m c t (ix2 r j) = UpFwd.res (arg0 m c) (arg1 m c) (arg3 m c) (row t r) j := by
  unfold xv
  rw [pay2_apply, blk0, blk1, gav_apply]
  rfl

theorem hv_apply (c : Dev nD) (t : Fin cfg0.N) (r : Fin 256) (j : Fin 1024) : hv m c t (ix2 r j) = UpFwd.h (arg0 m c) (arg1 m c) (arg2 m c) (arg3 m c) (row t r) j := by
  refine (pay3_apply _ _ _ _ _ _ r j).trans ?_
  show modRow (fun (r : Fin 256) k => xv m c t (ix2 r k)) _ _ _ r j = _
  simp only [xv_apply, blk2, scv_apply, shv_apply]
  rfl

theorem arr5 (c : Dev nD) : (dats m 0 c).arrAt 5 cfg0.N = (fun i => UpFwd.up (arg0 m c) (arg1 m c) (arg2 m c) (arg3 m c) (arg4 m c) (i 0) (i 1) : Vec Ideal S2048x5632 .f32) := by
  refine (dats m 0 c).arrAt_eq_of_covers 5 _ (by decide +kernel) fun t _ y => ?_
  rw [after0_5]
  frame_out
  refine ((congrArg (k0_pay1 (hv m c t) (k0_pay4 (iblk m c 4 t))) (eq_ix2 y)).trans (pay1_apply _ _ (y 0) (y 1))).trans ?_
  refine (Finset.sum_congr rfl fun k _ => congrArg₂ (· * ·) (hv_apply m c t (y 0) k) (blk4 m c t (y 1) k)).trans ?_
  show UpFwd.up (arg0 m c) (arg1 m c) (arg2 m c) (arg3 m c) (arg4 m c) (row t (y 0)) (y 1) = UpFwd.up (arg0 m c) (arg1 m c) (arg2 m c) (arg3 m c) (arg4 m c) _ _
  have h := place t
  have e0 : win0_5.index t 0 = t.val := by rw [h.2.2.2.2.2.1]; rfl
  have e1 : win0_5.index t 1 = 0 := by rw [h.2.2.2.2.2.1]; rfl
  refine congrArg₂ (UpFwd.up _ _ _ _ _) (Fin.ext ?_) (Fin.ext ?_)
  · show 256 * t.val + (y 0).val = win0_5.index t 0 * 256 + 1 * (y 0).val
    omega
  · show (y 1).val = win0_5.index t 1 * 5632 + 1 * (y 1).val
    omega

theorem arr6 (c : Dev nD) : (dats m 0 c).arrAt 6 cfg0.N = (fun i => UpFwd.res (arg0 m c) (arg1 m c) (arg3 m c) (i 0) (i 1) : Vec Ideal S2048x1024 .f32) := by
  refine (dats m 0 c).arrAt_eq_of_covers 6 _ (by decide +kernel) fun t _ y => ?_
  rw [after0_6]
  frame_out
  refine ((congrArg (xv m c t) (eq_ix2 y)).trans (xv_apply m c t (y 0) (y 1))).trans ?_
  show UpFwd.res (arg0 m c) (arg1 m c) (arg3 m c) (row t (y 0)) (y 1) = UpFwd.res (arg0 m c) (arg1 m c) (arg3 m c) _ _
  have h := place t
  have e0 : win0_6.index t 0 = t.val := by rw [h.2.2.2.2.2.2.1]; rfl
  have e1 : win0_6.index t 1 = 0 := by rw [h.2.2.2.2.2.2.1]; rfl
  refine congrArg₂ (UpFwd.res _ _ _) (Fin.ext ?_) (Fin.ext ?_)
  · show 256 * t.val + (y 0).val = win0_6.index t 0 * 256 + 1 * (y 0).val
    omega
  · show (y 1).val = win0_6.index t 1 * 1024 + 1 * (y 1).val
    omega

theorem arr7 (c : Dev nD) : (dats m 0 c).arrAt 7 cfg0.N = (fun i => UpFwd.h (arg0 m c) (arg1 m c) (arg2 m c) (arg3 m c) (i 0) (i 1) : Vec Ideal S2048x1024 .bf16) := by
  refine (dats m 0 c).arrAt_eq_of_covers 7 _ (by decide +kernel) fun t _ y => ?_
  rw [after0_7]
  frame_out
  refine ((congrArg (hv m c t) (eq_ix2 y)).trans (hv_apply m c t (y 0) (y 1))).trans ?_
  show UpFwd.h (arg0 m c) (arg1 m c) (arg2 m c) (arg3 m c) (row t (y 0)) (y 1) = UpFwd.h (arg0 m c) (arg1 m c) (arg2 m c) (arg3 m c) _ _
  have h := place t
  have e0 : win0_7.index t 0 = t.val := by rw [h.2.2.2.2.2.2.2]; rfl
  have e1 : win0_7.index t 1 = 0 := by rw [h.2.2.2.2.2.2.2]; rfl
  refine congrArg₂ (UpFwd.h _ _ _ _) (Fin.ext ?_) (Fin.ext ?_)
  · show 256 * t.val + (y 0).val = win0_7.index t 0 * 256 + 1 * (y 0).val
    omega
  · show (y 1).val = win0_7.index t 1 * 1024 + 1 * (y 1).val
    omega

end Cert.Kernel9Ideal.Blocks

/-! ## The reference -/

namespace Cert.Reference9Ideal.Rows

open Cert.Reference9Ideal Cert.Reference9Ideal.Gen Cert.Reference9Ideal.Read
open Idealize.ShloMosaic Idealize.ShloMosaic.TcCoe Idealize.SL.Sem
open Cert.Rows

variable (x0 x1 : Vec Ideal S2048x1024 .f32) (x2 : Vec Ideal S1x1024 .f32) (x3 : Vec Ideal S6x1024 .f32) (x4 : Vec Ideal S1024x5632 .f32)

theorem v3_at (i : Fin 2048) (j : Fin 1024) : val_main_v3 (F := Ideal) x0 x1 x3 (ix2 i j) = UpFwd.res x0 x1 x3 i j := by
  pointwise [val_main_v3, val_main_v2, val_main_v1, val_main_v0]
  rfl

theorem v11_at (i : Fin 2048) : val_main_v11 (F := Ideal) x0 x1 x3 (ix2 i 0) = rinv (UpFwd.res x0 x1 x3 i) := by
  pointwise [val_main_v11, val_main_v10, val_main_v9, val_main_v8, val_main_v7, val_main_v6, val_main_v5, val_main_v4, val_main_cst, val_main_cst_0, val_main_cst_1]
  simp only [v3_at]
  rfl

theorem v23_at (i : Fin 2048) (j : Fin 1024) : val_main_v23 (F := Ideal) x0 x1 x2 x3 (ix2 i j) = UpFwd.h x0 x1 x2 x3 i j := by
  pointwise [val_main_v23, val_main_v22, val_main_v21, val_main_v20, val_main_v19, val_main_v18, val_main_v17, val_main_v16, val_main_v15, val_main_v14, val_main_v13, val_main_v12, val_main_cst_2]
  simp only [v3_at, v11_at]
  rfl

theorem v24_at (i : Fin 2048) (j : Fin 5632) : val_main_v24 (F := Ideal) x0 x1 x2 x3 x4 (ix2 i j) = UpFwd.up x0 x1 x2 x3 x4 i j := by
  pointwise [val_main_v24]
  simp only [v23_at]
  rfl

theorem v25_at (i : Fin 2048) (j : Fin 1024) : val_main_v25 (F := Ideal) x0 x1 x2 x3 (ix2 i j) = UpFwd.h x0 x1 x2 x3 i j := by
  pointwise [val_main_v25]
  rw [v23_at]

/-! ## The reference's run -/

theorem whole_main_v24 : val_main_v24 (F := Ideal) x0 x1 x2 x3 x4 = (fun i => Cert.UpFwd.up x0 x1 x2 x3 x4 (i 0) (i 1) : Vec Ideal S2048x5632 .f32) :=
  funext fun i => (congrArg (val_main_v24 (F := Ideal) x0 x1 x2 x3 x4) (eq_ix2 i)).trans (v24_at x0 x1 x2 x3 x4 (i 0) (i 1))

theorem whole_main_v3 : val_main_v3 (F := Ideal) x0 x1 x3 = (fun i => Cert.UpFwd.res x0 x1 x3 (i 0) (i 1) : Vec Ideal S2048x1024 .f32) :=
  funext fun i => (congrArg (val_main_v3 (F := Ideal) x0 x1 x3) (eq_ix2 i)).trans (v3_at x0 x1 x3 (i 0) (i 1))

theorem whole_main_v25 : val_main_v25 (F := Ideal) x0 x1 x2 x3 = (fun i => Cert.UpFwd.h x0 x1 x2 x3 (i 0) (i 1) : Vec Ideal S2048x1024 .bf16) :=
  funext fun i => (congrArg (val_main_v25 (F := Ideal) x0 x1 x2 x3) (eq_ix2 i)).trans (v25_at x0 x1 x2 x3 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = (fun i => Cert.UpFwd.up (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) : Vec Ideal S2048x5632 .f32)
      ∧ r.2.mem ((c.tc : Thread nD τ).loc main_v3) = (fun i => Cert.UpFwd.res (m ((c.tc : Thread nD τ).loc main_arg0)) (m ((c.tc : Thread nD τ).loc main_arg1)) (m ((c.tc : Thread nD τ).loc main_arg3)) (i 0) (i 1) : Vec Ideal S2048x1024 .f32)
      ∧ r.2.mem ((c.tc : Thread nD τ).loc main_v25) = (fun i => Cert.UpFwd.h (m ((c.tc : Thread nD τ).loc main_arg0)) (m ((c.tc : Thread nD τ).loc main_arg1)) (m ((c.tc : Thread nD τ).loc main_arg2)) (m ((c.tc : Thread nD τ).loc main_arg3)) (i 0) (i 1) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference9Ideal.Value.run m ρ)
  obtain ⟨k0, k1, k2, ha⟩ := h c
  exact ⟨(k0.trans (val_main_v24_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))).trans (whole_main_v24 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (k1.trans (val_main_v3_eq (m ((c.tc : Thread nD τ).loc main_arg0)) (m ((c.tc : Thread nD τ).loc main_arg1)) (m ((c.tc : Thread nD τ).loc main_arg3)))).trans (whole_main_v3 (m ((c.tc : Thread nD τ).loc main_arg0)) (m ((c.tc : Thread nD τ).loc main_arg1)) (m ((c.tc : Thread nD τ).loc main_arg3))),
    (k2.trans (val_main_v25_eq (m ((c.tc : Thread nD τ).loc main_arg0)) (m ((c.tc : Thread nD τ).loc main_arg1)) (m ((c.tc : Thread nD τ).loc main_arg2)) (m ((c.tc : Thread nD τ).loc main_arg3)))).trans (whole_main_v25 (m ((c.tc : Thread nD τ).loc main_arg0)) (m ((c.tc : Thread nD τ).loc main_arg1)) (m ((c.tc : Thread nD τ).loc main_arg2)) (m ((c.tc : Thread nD τ).loc main_arg3))), ha⟩

end Cert.Reference9Ideal.Rows
-- ==== Proof.UpFwdFinal.lean ====
module

public import proofs.«01_k».proof.Defs
public import proofs.«01_k».proof.Proof.UpFwd
public import Idealize.ShloMosaic.Adequacy
public import Idealize.ShloMosaic.Init

/-! # The two runs side by side -/

@[expose] public section

set_option maxRecDepth 16384

noncomputable section

namespace Cert.UpFwd

open Idealize.ShloMosaic Idealize.SL.Sem

theorem frame_ref : Cert.quiescent_Reference9Ideal := by
  intro m ρ _
  exact (θ_run Cert.Reference9Ideal.defs _ _).mono (fun r h => ⟨fun c => (h c).2.2.2, sem_eq_zero_of_no_sems (by decide) r.2⟩) (Cert.Reference9Ideal.Rows.run_whole m ρ)

theorem algebraic : Cert.algebraic_Kernel9Ideal_Reference9Ideal := by
  intro m g m' g' _ hag
  refine ⟨fun c => fun i => Cert.UpFwd.up (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (i 0) (i 1), fun c => fun i => Cert.UpFwd.res (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg3)) (i 0) (i 1), fun c => fun i => Cert.UpFwd.h (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (i 0) (i 1), ?_, ?_⟩
  · refine (θ_run Cert.Kernel9Ideal.defs _ _).mono (fun r h c => ?_) (Cert.Kernel9Ideal.Value.run_blocks m g)
    obtain ⟨k0, k1, k2, ha⟩ := h c
    exact ⟨k0.trans (Cert.Kernel9Ideal.Blocks.arr5 m c), k1.trans (Cert.Kernel9Ideal.Blocks.arr6 m c), k2.trans (Cert.Kernel9Ideal.Blocks.arr7 m c), ha⟩
  · refine (θ_run Cert.Reference9Ideal.defs _ _).mono (fun r h c => ?_) (Cert.Reference9Ideal.Rows.run_whole m' g')
    obtain ⟨k0, k1, k2, ha⟩ := h c
    obtain ⟨e0, e1, e2, e3, e4⟩ := hag c
    rw [e0, e1, e2, e3, e4] at k0
    rw [e0, e1, e3] at k1
    rw [e0, e1, e2, e3] at k2
    exact ⟨k0, k1, k2, ha⟩

end Cert.UpFwd
-- ==== Proof.ProjFwd.lean ====
module

public import proofs.«01_k».proof.Proof.FwdMath
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit

/-! # The mixing sub-layer's first product, forward -/

@[expose] public section

set_option maxRecDepth 16384

noncomputable section

namespace Cert.Kernel10Ideal.Blocks

open Cert.Kernel10Ideal Cert.Kernel10Ideal.Gen Cert.Kernel10Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x1024 .f32 := m ((c : Thread nD τ).loc main_arg0)
abbrev arg1 (c : Dev nD) : Vec Ideal S1x1024 .f32 := m ((c : Thread nD τ).loc main_arg1)
abbrev arg2 (c : Dev nD) : Vec Ideal S6x1024 .f32 := m ((c : Thread nD τ).loc main_arg2)
abbrev arg3 (c : Dev nD) : Vec Ideal S1024x2560 .f32 := m ((c : Thread nD τ).loc main_arg3)

theorem V_v0 (c : Dev nD) (a : Fin 8) (ha : a.val < 6) (j : Fin 1024) :
    (V m c main_v0 : Vec Ideal S8x1024 .f32) (ix2 a j) = arg2 m c (ix2 ⟨a.val, ha⟩ j) := by
  unfold V
  simp only [hostOps0, hostOps0_1, hostOps0_2, List.flatten_cons, List.flatten_nil, List.append_nil, List.cons_append, List.nil_append]
  after_results
  simp only [StableHlo.TRef.ofBuf, StableHlo.TRef.toBuf, cast_eq]
  pointwise
  exact dif_pos ha

theorem V_v3 (c : Dev nD) (p : Fin 8) (q : Fin 320) (k : Fin 1024) :
    (V m c main_v3 : Vec Ideal S8x320x1024 .bf16) (ix3 p q k) = arg3 m c (ix2 k ⟨320 * p.val + q.val, by omega⟩) := by
  unfold V
  simp only [hostOps0, hostOps0_1, hostOps0_2, List.flatten_cons, List.flatten_nil, List.append_nil, List.cons_append, List.nil_append]
  after_results
  pointwise
  blk_ext

/-! ## What the kernel computes of a half's rows -/

theorem pay3_apply (x : Vec Ideal S256x1024 .f32) (g s b : Vec Ideal S1x1024 .f32) (r : Fin 256) (j : Fin 1024) :
    k0_pay3 x g s b (ix2 r j) = modRow (fun (r : Fin 256) k => x (ix2 r k)) (fun k => g (ix2 0 k)) (fun k => s (ix2 0 k)) (fun k => b (ix2 0 k)) r j := by
  pointwise [k0_pay3]
  rfl

theorem pay4_apply (x : Vec Ideal S256x1024 .f32) (g s b : Vec Ideal S1x1024 .f32) (w : Vec Ideal S8x320x1024 .bf16) (r : Fin 256) (n : Fin 2560) :
    k0_pay4 x g s b w (ix2 r n) = ∑ k : Fin 1024, k0_pay3 x g s b (ix2 r k) * w (ix3 ⟨n.val / 320, by omega⟩ ⟨n.val % 320, by omega⟩ k) := by
  pointwise [k0_pay4]

/-! ## The blocks of a point, read off the arrays -/

theorem pt_lt (t : Fin cfg0.N) : t.val < 4 := lt_of_lt_of_eq t.isLt (show cfg0.N = 4 from N_0)

theorem place : ∀ t : Fin cfg0.N, win0_0.index t = ![t.val, 0] ∧ win0_1.index t = ![0, 0] ∧ win0_2.index t = ![0, 0] ∧ win0_3.index t = ![0, 0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0, 0] ∧ win0_4.index t = ![t.val, 0] ∧ win0_5.index t = ![t.val, 0])

/-- A block's row, among the rows of the whole array. -/
def row (t : Fin cfg0.N) (r : Fin 512) : Fin 2048 := ⟨512 * t.val + r.val, by have := pt_lt t; omega⟩

theorem blk0 (c : Dev nD) (t : Fin cfg0.N) (r : Fin 512) (k : Fin 1024) :
    (iblk m c 0 t : Vec Ideal S512x1024 .f32) (ix2 r k) = arg0 m c (ix2 (row t r) k) := by
  unfold iblk
  rw [View.read_apply]
  show V m c main_arg0 _ = _
  rw [V_main_arg0]
  have h := place t
  blk_ext [h, row]

theorem blk1 (c : Dev nD) (t : Fin cfg0.N) (j : Fin 1024) : (iblk m c 1 t : Vec Ideal S1x1024 .f32) (ix2 0 j) = arg1 m c (ix2 0 j) := by
  unfold iblk
  rw [View.read_apply]
  show V m c main_arg1 _ = _
  rw [V_main_arg1]
  have h := place t
  blk_ext [h]

theorem blk2 (c : Dev nD) (t : Fin cfg0.N) (a : Fin 8) (ha : a.val < 6) (j : Fin 1024) :
    (iblk m c 2 t : Vec Ideal S8x1024 .f32) (ix2 a j) = arg2 m c (ix2 ⟨a.val, ha⟩ j) := by
  rw [← V_v0]
  have h := place t
  blk_ext [iblk, h]

theorem blk3 (c : Dev nD) (t : Fin cfg0.N) (n : Fin 2560) (k : Fin 1024) :
    (iblk m c 3 t : Vec Ideal S8x320x1024 .bf16) (ix3 ⟨n.val / 320, by omega⟩ ⟨n.val % 320, by omega⟩ k) = arg3 m c (ix2 k n) := by
  have e : n = ⟨320 * (n.val / 320) + n.val % 320, by omega⟩ := Fin.ext (by show n.val = 320 * (n.val / 320) + n.val % 320; omega)
  refine Eq.trans ?_ (congrArg (fun n => arg3 m c (ix2 k n)) e.symm)
  rw [← V_v3 m c ⟨n.val / 320, by omega⟩ ⟨n.val % 320, by omega⟩ k]
  have h := place t
  blk_ext [iblk, h]

/-! ## The two arrays -/

/-- The row that scales. -/
def scv (c : Dev nD) (t : Fin cfg0.N) : Vec Ideal S1x1024 .f32 :=
  View.ld (iblk m c 2 t : Vec Ideal S8x1024 .f32) (Rect.unit ![1, 0] ![1, 1024] inb_S8x1024_S1x1024_1_0)

theorem scv_apply (c : Dev nD) (t : Fin cfg0.N) (j : Fin 1024) : scv m c t (ix2 0 j) = arg2 m c (ix2 1 j) := by
  refine (View.ld_unit_apply_of (iblk m c 2 t : Vec Ideal S8x1024 .f32) _ _ _ _ (ix2 1 j) ?_).trans (blk2 m c t 1 (by decide) j)
  intro a
  match a with
  | ⟨0, _⟩ => rfl
  | ⟨1, _⟩ => exact (Nat.zero_add j.val).symm

/-- The row that shifts. -/
def shv (c : Dev nD) (t : Fin cfg0.N) : Vec Ideal S1x1024 .f32 :=
  View.ld (iblk m c 2 t : Vec Ideal S8x1024 .f32) (Rect.unit ![0, 0] ![1, 1024] inb_S8x1024_S1x1024_0_0)

theorem shv_apply (c : Dev nD) (t : Fin cfg0.N) (j : Fin 1024) : shv m c t (ix2 0 j) = arg2 m c (ix2 0 j) := by
  refine (View.ld_unit_apply_of (iblk m c 2 t : Vec Ideal S8x1024 .f32) _ _ _ _ (ix2 0 j) ?_).trans (blk2 m c t 0 (by decide) j)
  intro a
  match a with
  | ⟨0, _⟩ => rfl
  | ⟨1, _⟩ => exact (Nat.zero_add j.val).symm

/-- The modulated rows of a half. -/
def hv (c : Dev nD) (t : Fin cfg0.N) (o : Nat) (h : o + 256 ≤ 512) : FVec Ideal S256x1024 .bf16 :=
  k0_pay3 (half (iblk m c 0 t : Vec Ideal S512x1024 .f32) o h) (iblk m c 1 t) (scv m c t) (shv m c t)
/-- Their product with the weight. -/
def pv (c : Dev nD) (t : Fin cfg0.N) (o : Nat) (h : o + 256 ≤ 512) : FVec Ideal S256x2560 .f32 :=
  k0_pay4 (half (iblk m c 0 t : Vec Ideal S512x1024 .f32) o h) (iblk m c 1 t) (scv m c t) (shv m c t) (iblk m c 3 t)

theorem hv_apply (c : Dev nD) (t : Fin cfg0.N) (o : Nat) (h : o + 256 ≤ 512) (r : Fin 256) (j : Fin 1024) :
    hv m c t o h (ix2 r j) = ProjFwd.h (arg0 m c) (arg1 m c) (arg2 m c) (row t (hrow o h r)) j := by
  refine (pay3_apply _ _ _ _ r j).trans ?_
  simp only [half_apply, blk0, blk1, scv_apply, shv_apply]
  rfl

theorem pv_apply (c : Dev nD) (t : Fin cfg0.N) (o : Nat) (h : o + 256 ≤ 512) (r : Fin 256) (n : Fin 2560) :
    pv m c t o h (ix2 r n) = ProjFwd.proj (arg0 m c) (arg1 m c) (arg2 m c) (arg3 m c) (row t (hrow o h r)) n := by
  refine (pay4_apply _ _ _ _ _ r n).trans ?_
  exact Finset.sum_congr rfl fun k _ => congrArg₂ (· * ·) (hv_apply m c t o h r k) (blk3 m c t n k)

theorem at4 (c : Dev nD) (t : Fin cfg0.N) (y : S512x2560.Idx) : (dats m 0 c).after 4 t y = ProjFwd.proj (arg0 m c) (arg1 m c) (arg2 m c) (arg3 m c) (row t (y 0)) (y 1) := by
  rw [after0_4]
  frame_out
  canon_tiles x h
  · refine ((congrArg _ (eq_ix2 x)).trans (pv_apply m c t 256 (by omega) (x 0) (x 1))).trans ?_
    refine congrArg₂ (ProjFwd.proj _ _ _ _) (congrArg (row t) (Fin.ext ?_)) (Fin.ext ?_)
    · exact h0.symm
    · exact h1.symm
  · refine ((congrArg _ (eq_ix2 x)).trans (pv_apply m c t 0 (by omega) (x 0) (x 1))).trans ?_
    refine congrArg₂ (ProjFwd.proj _ _ _ _) (congrArg (row t) (Fin.ext ?_)) (Fin.ext ?_)
    · exact (Nat.zero_add _).trans h0.symm
    · exact h1.symm

theorem arr4 (c : Dev nD) : (dats m 0 c).arrAt 4 cfg0.N = (fun i => ProjFwd.proj (arg0 m c) (arg1 m c) (arg2 m c) (arg3 m c) (i 0) (i 1) : Vec Ideal S2048x2560 .f32) := by
  refine (dats m 0 c).arrAt_eq_of_covers 4 _ (by decide +kernel) fun t _ y => ?_
  refine (at4 m c t y).trans ?_
  show ProjFwd.proj (arg0 m c) (arg1 m c) (arg2 m c) (arg3 m c) (row t (y 0)) (y 1) = ProjFwd.proj (arg0 m c) (arg1 m c) (arg2 m c) (arg3 m c) _ _
  have h := place t
  have e0 : win0_4.index t 0 = t.val := by rw [h.2.2.2.2.1]; rfl
  have e1 : win0_4.index t 1 = 0 := by rw [h.2.2.2.2.1]; rfl
  refine congrArg₂ (ProjFwd.proj _ _ _ _) (Fin.ext ?_) (Fin.ext ?_)
  · show 512 * t.val + (y 0).val = win0_4.index t 0 * 512 + 1 * (y 0).val
    omega
  · show (y 1).val = win0_4.index t 1 * 2560 + 1 * (y 1).val
    omega

theorem at5 (c : Dev nD) (t : Fin cfg0.N) (y : S512x1024.Idx) : (dats m 0 c).after 5 t y = ProjFwd.h (arg0 m c) (arg1 m c) (arg2 m c) (row t (y 0)) (y 1) := by
  rw [after0_5]
  frame_out
  canon_tiles x h
  · refine ((congrArg _ (eq_ix2 x)).trans (hv_apply m c t 256 (by omega) (x 0) (x 1))).trans ?_
    refine congrArg₂ (ProjFwd.h _ _ _) (congrArg (row t) (Fin.ext ?_)) (Fin.ext ?_)
    · exact h0.symm
    · exact h1.symm
  · refine ((congrArg _ (eq_ix2 x)).trans (hv_apply m c t 0 (by omega) (x 0) (x 1))).trans ?_
    refine congrArg₂ (ProjFwd.h _ _ _) (congrArg (row t) (Fin.ext ?_)) (Fin.ext ?_)
    · exact (Nat.zero_add _).trans h0.symm
    · exact h1.symm

theorem arr5 (c : Dev nD) : (dats m 0 c).arrAt 5 cfg0.N = (fun i => ProjFwd.h (arg0 m c) (arg1 m c) (arg2 m c) (i 0) (i 1) : Vec Ideal S2048x1024 .bf16) := by
  refine (dats m 0 c).arrAt_eq_of_covers 5 _ (by decide +kernel) fun t _ y => ?_
  refine (at5 m c t y).trans ?_
  show ProjFwd.h (arg0 m c) (arg1 m c) (arg2 m c) (row t (y 0)) (y 1) = ProjFwd.h (arg0 m c) (arg1 m c) (arg2 m c) _ _
  have h := place t
  have e0 : win0_5.index t 0 = t.val := by rw [h.2.2.2.2.2]; rfl
  have e1 : win0_5.index t 1 = 0 := by rw [h.2.2.2.2.2]; rfl
  refine congrArg₂ (ProjFwd.h _ _ _) (Fin.ext ?_) (Fin.ext ?_)
  · show 512 * t.val + (y 0).val = win0_5.index t 0 * 512 + 1 * (y 0).val
    omega
  · show (y 1).val = win0_5.index t 1 * 1024 + 1 * (y 1).val
    omega

end Cert.Kernel10Ideal.Blocks

/-! ## The reference -/

namespace Cert.Reference10Ideal.Rows

open Cert.Reference10Ideal Cert.Reference10Ideal.Gen Cert.Reference10Ideal.Read
open Idealize.ShloMosaic Idealize.ShloMosaic.TcCoe Idealize.SL.Sem
open Cert.Rows

variable (x0 : Vec Ideal S2048x1024 .f32) (x1 : Vec Ideal S1x1024 .f32) (x2 : Vec Ideal S6x1024 .f32) (x3 : Vec Ideal S1024x2560 .f32)

theorem v7_at (i : Fin 2048) : val_main_v7 (F := Ideal) x0 (ix2 i 0) = rinv (fun k => x0 (ix2 i k)) := by
  pointwise [val_main_v7, val_main_v6, val_main_v5, val_main_v4, val_main_v3, val_main_v2, val_main_v1, val_main_v0, val_main_cst, val_main_cst_0, val_main_cst_1]
  rfl

theorem v19_at (i : Fin 2048) (j : Fin 1024) : val_main_v19 (F := Ideal) x0 x1 x2 (ix2 i j) = ProjFwd.h x0 x1 x2 i j := by
  pointwise [val_main_v19, val_main_v18, val_main_v17, val_main_v16, val_main_v15, val_main_v14, val_main_v13, val_main_v12, val_main_v11, val_main_v10, val_main_v9, val_main_v8, val_main_cst_2]
  simp only [v7_at]
  rfl

theorem v20_at (i : Fin 2048) (j : Fin 2560) : val_main_v20 (F := Ideal) x0 x1 x2 x3 (ix2 i j) = ProjFwd.proj x0 x1 x2 x3 i j := by
  pointwise [val_main_v20]
  simp only [v19_at]
  rfl

theorem v21_at (i : Fin 2048) (j : Fin 1024) : val_main_v21 (F := Ideal) x0 x1 x2 (ix2 i j) = ProjFwd.h x0 x1 x2 i j := by
  pointwise [val_main_v21]
  rw [v19_at]

/-! ## The reference's run -/

theorem whole_main_v20 : val_main_v20 (F := Ideal) x0 x1 x2 x3 = (fun i => Cert.ProjFwd.proj x0 x1 x2 x3 (i 0) (i 1) : Vec Ideal S2048x2560 .f32) :=
  funext fun i => (congrArg (val_main_v20 (F := Ideal) x0 x1 x2 x3) (eq_ix2 i)).trans (v20_at x0 x1 x2 x3 (i 0) (i 1))

theorem whole_main_v21 : val_main_v21 (F := Ideal) x0 x1 x2 = (fun i => Cert.ProjFwd.h x0 x1 x2 (i 0) (i 1) : Vec Ideal S2048x1024 .bf16) :=
  funext fun i => (congrArg (val_main_v21 (F := Ideal) x0 x1 x2) (eq_ix2 i)).trans (v21_at x0 x1 x2 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = (fun i => Cert.ProjFwd.proj (m ((c.tc : Thread nD τ).loc main_arg0)) (m ((c.tc : Thread nD τ).loc main_arg1)) (m ((c.tc : Thread nD τ).loc main_arg2)) (m ((c.tc : Thread nD τ).loc main_arg3)) (i 0) (i 1) : Vec Ideal S2048x2560 .f32)
      ∧ r.2.mem ((c.tc : Thread nD τ).loc main_v21) = (fun i => Cert.ProjFwd.h (m ((c.tc : Thread nD τ).loc main_arg0)) (m ((c.tc : Thread nD τ).loc main_arg1)) (m ((c.tc : Thread nD τ).loc main_arg2)) (i 0) (i 1) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference10Ideal.Value.run m ρ)
  obtain ⟨k0, k1, ha⟩ := h c
  exact ⟨(k0.trans (val_main_v20_eq (m ((c.tc : Thread nD τ).loc main_arg0)) (m ((c.tc : Thread nD τ).loc main_arg1)) (m ((c.tc : Thread nD τ).loc main_arg2)) (m ((c.tc : Thread nD τ).loc main_arg3)))).trans (whole_main_v20 (m ((c.tc : Thread nD τ).loc main_arg0)) (m ((c.tc : Thread nD τ).loc main_arg1)) (m ((c.tc : Thread nD τ).loc main_arg2)) (m ((c.tc : Thread nD τ).loc main_arg3))),
    (k1.trans (val_main_v21_eq (m ((c.tc : Thread nD τ).loc main_arg0)) (m ((c.tc : Thread nD τ).loc main_arg1)) (m ((c.tc : Thread nD τ).loc main_arg2)))).trans (whole_main_v21 (m ((c.tc : Thread nD τ).loc main_arg0)) (m ((c.tc : Thread nD τ).loc main_arg1)) (m ((c.tc : Thread nD τ).loc main_arg2))), ha⟩

end Cert.Reference10Ideal.Rows
-- ==== Proof.ProjFwdFinal.lean ====
module

public import proofs.«01_k».proof.Defs
public import proofs.«01_k».proof.Proof.ProjFwd
public import Idealize.ShloMosaic.Adequacy
public import Idealize.ShloMosaic.Init

/-! # The two runs side by side -/

@[expose] public section

set_option maxRecDepth 16384

noncomputable section

namespace Cert.ProjFwd

open Idealize.ShloMosaic Idealize.SL.Sem

theorem frame_ref : Cert.quiescent_Reference10Ideal := by
  intro m ρ _
  exact (θ_run Cert.Reference10Ideal.defs _ _).mono (fun r h => ⟨fun c => (h c).2.2, sem_eq_zero_of_no_sems (by decide) r.2⟩) (Cert.Reference10Ideal.Rows.run_whole m ρ)

theorem algebraic : Cert.algebraic_Kernel10Ideal_Reference10Ideal := by
  intro m g m' g' _ hag
  refine ⟨fun c => fun i => Cert.ProjFwd.proj (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (i 0) (i 1), fun c => fun i => Cert.ProjFwd.h (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (i 0) (i 1), ?_, ?_⟩
  · refine (θ_run Cert.Kernel10Ideal.defs _ _).mono (fun r h c => ?_) (Cert.Kernel10Ideal.Value.run_blocks m g)
    obtain ⟨k0, k1, ha⟩ := h c
    exact ⟨k0.trans (Cert.Kernel10Ideal.Blocks.arr4 m c), k1.trans (Cert.Kernel10Ideal.Blocks.arr5 m c), ha⟩
  · refine (θ_run Cert.Reference10Ideal.defs _ _).mono (fun r h c => ?_) (Cert.Reference10Ideal.Rows.run_whole m' g')
    obtain ⟨k0, k1, ha⟩ := h c
    obtain ⟨e0, e1, e2, e3⟩ := hag c
    rw [e0, e1, e2, e3] at k0
    rw [e0, e1, e2] at k1
    exact ⟨k0, k1, ha⟩

end Cert.ProjFwd
-- ==== Proof.OutMath.lean ====
module

public import proofs.«01_k».proof.Proof.UpMath
public import proofs.«01_k».proof.Proof.Halves

/-! # The product that mixes the two halves of the heads: its two functions -/

@[expose] public section

set_option maxRecDepth 16384

noncomputable section

namespace Cert.OutProjX

open Idealize.ShloMosaic
open Cert.Rows

variable (x0 : Vec Ideal ⟨2, ![2048, 1024]⟩ .bf16) (x1 : Vec Ideal ⟨2, ![1024, 1024]⟩ .f32)
variable (x2 : Vec Ideal ⟨2, ![2048, 512]⟩ .f32) (x3 : Vec Ideal ⟨2, ![1, 512]⟩ .f32)

/-- The gradient of the mixed rows. -/
def dm (i : Fin 2048) (j : Fin 1024) : EReal := ∑ k : Fin 1024, x0 (ix2 i k) * x1 (ix2 j k)
/-- Its columns that belong to the attention. -/
def dma (i : Fin 2048) (j : Fin 512) : EReal := dm x0 x1 i ⟨512 + j.val, by omega⟩
/-- The attention's rows. -/
def att (i : Fin 2048) (j : Fin 512) : EReal := x2 (ix2 i j)
/-- The normalised rows of the attention. -/
def xn (i : Fin 2048) (j : Fin 512) : EReal := att x2 i j * rinvOf width2 (att x2 i)
/-- The gradient of the normalised rows. -/
def dn (i : Fin 2048) (j : Fin 512) : EReal := dma x0 x1 i j * x3 (ix2 0 j)
/-- The gradient of the attention's rows. -/
def dox (i : Fin 2048) (j : Fin 512) : EReal := kdxOf width2 (fun _ => 0) (att x2 i) (dn x0 x1 x3 i) j
/-- The gradient of the norm's weights. -/
def dg (j : Fin 512) : EReal := ∑ i, dma x0 x1 i j * xn x2 i j
/-- The sum over a head of the gradient times the attention's rows, at each of the head's columns. -/
def dd (i : Fin 2048) (j : Fin 512) : EReal :=
  ∑ q : Fin 64, dox x0 x1 x2 x3 i ⟨64 * (j.val / 64) + q.val, by omega⟩ * x2 (ix2 i ⟨64 * (j.val / 64) + q.val, by omega⟩)

/-- A product with the matrix that marks the columns of one head is the sum over that head. -/
theorem head_sum (f : Fin 512 → EReal) (j : Fin 512) :
    ∑ k : Fin 512, f k * (if k.val / 64 = j.val / 64 then 1 else 0) = ∑ q : Fin 64, f ⟨64 * (j.val / 64) + q.val, by omega⟩ := by
  have e : (∑ k : Fin (8 * 64), f k * (if k.val / 64 = j.val / 64 then 1 else 0))
      = ∑ p : Fin 8 × Fin 64, f (finProdFinEquiv p) * (if (finProdFinEquiv p).val / 64 = j.val / 64 then 1 else 0) :=
    (Equiv.sum_comp finProdFinEquiv _).symm
  refine e.trans ?_
  rw [Fintype.sum_prod_type]
  have v : ∀ (a : Fin 8) (q : Fin 64), (finProdFinEquiv (a, q)).val = q.val + 64 * a.val := fun a q => rfl
  rw [Finset.sum_eq_single (⟨j.val / 64, by omega⟩ : Fin 8)]
  · refine Finset.sum_congr rfl fun q _ => ?_
    rw [if_pos (by rw [v]; show (q.val + 64 * (j.val / 64)) / 64 = j.val / 64; omega), mul_one]
    refine congrArg f (Fin.ext ?_)
    rw [v]
    exact Nat.add_comm _ _
  · intro a _ ha
    refine Finset.sum_eq_zero fun q _ => ?_
    have hne : a.val ≠ j.val / 64 := fun h => ha (Fin.ext h)
    rw [if_neg (by rw [v]; omega), mul_zero]
  · intro h
    exact absurd (Finset.mem_univ _) h

end Cert.OutProjX

namespace Cert.OutProjFwd

open Idealize.ShloMosaic
open Cert.Rows

variable (x0 : Vec Ideal ⟨2, ![2048, 512]⟩ .bf16) (x1 : Vec Ideal ⟨2, ![2048, 512]⟩ .f32)
variable (x2 : Vec Ideal ⟨2, ![1, 512]⟩ .f32) (x3 : Vec Ideal ⟨2, ![1024, 1024]⟩ .f32)

/-- The convolution's rows beside the normalised rows of the attention. -/
def mixed (i : Fin 2048) (k : Fin 1024) : EReal :=
  if h : k.val < 512 then x0 (ix2 i ⟨k.val, h⟩)
  else x1 (ix2 i ⟨k.val - 512, by omega⟩) * rinvOf width2 (fun j => x1 (ix2 i j)) * x2 (ix2 0 ⟨k.val - 512, by omega⟩)
/-- Their product with the weight. -/
def y (i : Fin 2048) (j : Fin 1024) : EReal := ∑ k, mixed x0 x1 x2 i k * x3 (ix2 k j)

theorem mixed_lo (i : Fin 2048) (k : Fin 1024) (j : Fin 512) (h : k.val = j.val) : mixed x0 x1 x2 i k = x0 (ix2 i j) := by
  unfold mixed
  rw [dif_pos (by omega)]
  exact congrArg (fun z => x0 (ix2 i z)) (Fin.ext h)

theorem mixed_hi (i : Fin 2048) (k : Fin 1024) (j : Fin 512) (h : k.val = 512 + j.val) :
    mixed x0 x1 x2 i k = x1 (ix2 i j) * rinvOf width2 (fun j => x1 (ix2 i j)) * x2 (ix2 0 j) := by
  unfold mixed
  rw [dif_neg (by omega)]
  have e : (⟨k.val - 512, by omega⟩ : Fin 512) = j := Fin.ext (by show k.val - 512 = j.val; omega)
  rw [e]

end Cert.OutProjFwd
-- ==== Proof.OutProjX.lean ====
module

public import proofs.«01_k».proof.Proof.OutMath
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit

/-! # Back through the product that mixes the heads, and the norm before it -/

@[expose] public section

set_option maxRecDepth 16384

noncomputable section

namespace Cert.Kernel11Ideal.Blocks

open Cert.Kernel11Ideal Cert.Kernel11Ideal.Gen Cert.Kernel11Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x1024 .bf16 := m ((c : Thread nD τ).loc main_arg0)
abbrev arg1 (c : Dev nD) : Vec Ideal S1024x1024 .f32 := m ((c : Thread nD τ).loc main_arg1)
abbrev arg2 (c : Dev nD) : Vec Ideal S2048x512 .f32 := m ((c : Thread nD τ).loc main_arg2)
abbrev arg3 (c : Dev nD) : Vec Ideal S1x512 .f32 := m ((c : Thread nD τ).loc main_arg3)

theorem V_v0 (c : Dev nD) (i : Fin 1024) (j : Fin 1024) : (V m c main_v0 : Vec Ideal S1024x1024 .bf16) (ix2 i j) = arg1 m c (ix2 i j) := by
  unfold V
  simp only [hostOps0]
  after_results
  pointwise

/-! ## What the kernel computes of a half's rows -/

theorem mark : ∀ a : Fin 512, IntOp.shrsi ArithUnit.vector (BitVec.ofNat 32 a.val) 6#32 = BitVec.ofNat 32 (a.val / 64) := by decide +kernel

theorem marks : ∀ a b : Fin 8, (BitVec.setWidth 32 (IntOp.cmpi CmpIPredicate.eq (BitVec.ofNat 32 a.val) (BitVec.ofNat 32 b.val))).toInt
    = if a.val = b.val then 1 else 0 := by decide +kernel

theorem pay5_apply (k j : Fin 512) : (k0_pay5 (F := Ideal)) (ix2 k j) = if k.val / 64 = j.val / 64 then 1 else 0 := by
  pointwise [k0_pay5]
  rw [mark, mark]
  show ((((BitVec.setWidth 32 (IntOp.cmpi CmpIPredicate.eq (BitVec.ofNat 32 (k.val / 64)) (BitVec.ofNat 32 (j.val / 64)))).toInt : ℝ)) : EReal) = _
  rw [marks ⟨k.val / 64, by omega⟩ ⟨j.val / 64, by omega⟩]
  by_cases h : k.val / 64 = j.val / 64
  · rw [if_pos h, if_pos h]
    simp
  · rw [if_neg h, if_neg h]
    simp

theorem pay6_apply (a : Vec Ideal S256x1024 .bf16) (w : Vec Ideal S1024x1024 .bf16) (r : Fin 256) (j : Fin 1024) :
    k0_pay6 a w (ix2 r j) = ∑ k : Fin 1024, a (ix2 r k) * w (ix2 j k) := by
  pointwise [k0_pay6]

theorem pay7_apply (x : Vec Ideal S256x512 .f32) (r : Fin 256) : k0_pay7 x (ix2 r 0) = rinvOf width2 (fun k => x (ix2 r k)) := by
  pointwise [k0_pay7]
  rfl

theorem pay8_apply (x : Vec Ideal S256x512 .f32) (r : Fin 256) (j : Fin 512) : k0_pay8 x (ix2 r j) = x (ix2 r j) * rinvOf width2 (fun k => x (ix2 r k)) := by
  rw [← pay7_apply]
  pointwise [k0_pay8]

theorem pay9_apply (a : Vec Ideal S256x1024 .bf16) (w : Vec Ideal S1024x1024 .bf16) (r : Fin 256) (j : Fin 512) :
    k0_pay9 a w (ix2 r j) = k0_pay6 a w (ix2 r ⟨512 + j.val, by omega⟩) := by
  pointwise [k0_pay9]

theorem pay1_apply (n d : FVec Ideal S256x512 .f32) (a0 : Vec Ideal S1x512 .f32) (j : Fin 512) :
    k0_pay1 n d a0 (ix2 0 j) = a0 (ix2 0 j) + ∑ r : Fin 256, d (ix2 r j) * n (ix2 r j) := by
  pointwise [k0_pay1]

theorem pay11_apply (x : Vec Ideal S256x512 .f32) (d : FVec Ideal S256x512 .f32) (g : Vec Ideal S1x512 .f32) (r : Fin 256) (j : Fin 512) :
    k0_pay11 (k0_pay7 x) (k0_pay8 x) d g (ix2 r j) = kdxOf width2 (fun _ => 0) (fun k => x (ix2 r k)) (fun k => d (ix2 r k) * g (ix2 0 k)) j := by
  unfold kdxOf
  rw [zero_add]
  pointwise [k0_pay11]
  simp only [pay8_apply, pay7_apply]

theorem pay12_apply (b : FVec Ideal S512x512 .f32) (x : Vec Ideal S256x512 .f32) (rv : FVec Ideal S256x1 .f32) (n d : FVec Ideal S256x512 .f32) (g : Vec Ideal S1x512 .f32) (r : Fin 256) (j : Fin 512) :
    k0_pay12 b x rv n d g (ix2 r j) = ∑ k : Fin 512, k0_pay11 rv n d g (ix2 r k) * x (ix2 r k) * b (ix2 k j) := by
  pointwise [k0_pay12]

theorem pay4_apply (j : Fin 512) : (k0_pay4 (F := Ideal)) (ix2 0 j) = 0 := by
  pointwise [k0_pay4]

/-! ## The blocks of a point, read off the arrays -/

theorem pt_lt (t : Fin cfg0.N) : t.val < 4 := lt_of_lt_of_eq t.isLt (show cfg0.N = 4 from N_0)

theorem place : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0])

/-- A block's row, among the rows of the whole array. -/
def row (t : Fin cfg0.N) (r : Fin 512) : Fin 2048 := ⟨512 * t.val + r.val, by have := pt_lt t; omega⟩

theorem blk0 (c : Dev nD) (t : Fin cfg0.N) (r : Fin 512) (k : Fin 1024) :
    (iblk m c 0 t : Vec Ideal S512x1024 .bf16) (ix2 r k) = arg0 m c (ix2 (row t r) k) := by
  unfold iblk
  rw [View.read_apply]
  show V m c main_arg0 _ = _
  rw [V_main_arg0]
  have h := place t
  blk_ext [h, row]

theorem blk1 (c : Dev nD) (t : Fin cfg0.N) (i : Fin 1024) (j : Fin 1024) :
    (iblk m c 1 t : Vec Ideal S1024x1024 .bf16) (ix2 i j) = arg1 m c (ix2 i j) := by
  rw [← V_v0]
  have h := place t
  blk_ext [iblk, h]

theorem blk2 (c : Dev nD) (t : Fin cfg0.N) (r : Fin 512) (k : Fin 512) :
    (iblk m c 2 t : Vec Ideal S512x512 .f32) (ix2 r k) = arg2 m c (ix2 (row t r) k) := by
  unfold iblk
  rw [View.read_apply]
  show V m c main_arg2 _ = _
  rw [V_main_arg2]
  have h := place t
  blk_ext [h, row]

theorem blk3 (c : Dev nD) (t : Fin cfg0.N) (j : Fin 512) : (iblk m c 3 t : Vec Ideal S1x512 .f32) (ix2 0 j) = arg3 m c (ix2 0 j) := by
  unfold iblk
  rw [View.read_apply]
  show V m c main_arg3 _ = _
  rw [V_main_arg3]
  have h := place t
  blk_ext [h]

/-! ## The two halves of a block -/

/-- The gradient of the mixed rows. -/
def mv (c : Dev nD) (t : Fin cfg0.N) (o : Nat) (h : o + 256 ≤ 512) : FVec Ideal S256x1024 .f32 := k0_pay6 (half (iblk m c 0 t : Vec Ideal S512x1024 .bf16) o h) (iblk m c 1 t)
/-- Its columns that belong to the attention. -/
def av (c : Dev nD) (t : Fin cfg0.N) (o : Nat) (h : o + 256 ≤ 512) : FVec Ideal S256x512 .f32 := k0_pay9 (half (iblk m c 0 t : Vec Ideal S512x1024 .bf16) o h) (iblk m c 1 t)
/-- The normalised rows. -/
def nv (c : Dev nD) (t : Fin cfg0.N) (o : Nat) (h : o + 256 ≤ 512) : FVec Ideal S256x512 .f32 := k0_pay8 (half (iblk m c 2 t : Vec Ideal S512x512 .f32) o h)
/-- The gradient of the attention's rows. -/
def dv (c : Dev nD) (t : Fin cfg0.N) (o : Nat) (h : o + 256 ≤ 512) : FVec Ideal S256x512 .f32 := k0_pay11 (k0_pay7 (half (iblk m c 2 t : Vec Ideal S512x512 .f32) o h)) (nv m c t o h) (av m c t o h) (iblk m c 3 t)
/-- Its sum over the heads. -/
def sv (c : Dev nD) (t : Fin cfg0.N) (o : Nat) (h : o + 256 ≤ 512) : FVec Ideal S256x512 .f32 := k0_pay12 k0_pay5 (half (iblk m c 2 t : Vec Ideal S512x512 .f32) o h) (k0_pay7 (half (iblk m c 2 t : Vec Ideal S512x512 .f32) o h)) (nv m c t o h) (av m c t o h) (iblk m c 3 t)

theorem mv_apply (c : Dev nD) (t : Fin cfg0.N) (o : Nat) (h : o + 256 ≤ 512) (r : Fin 256) (j : Fin 1024) : mv m c t o h (ix2 r j) = OutProjX.dm (arg0 m c) (arg1 m c) (row t (hrow o h r)) j := by
  unfold mv
  rw [pay6_apply]
  simp only [half_apply, blk0, blk1]
  rfl

theorem av_apply (c : Dev nD) (t : Fin cfg0.N) (o : Nat) (h : o + 256 ≤ 512) (r : Fin 256) (j : Fin 512) : av m c t o h (ix2 r j) = OutProjX.dma (arg0 m c) (arg1 m c) (row t (hrow o h r)) j :=
  (pay9_apply _ _ r j).trans (mv_apply m c t o h r _)

theorem nv_apply (c : Dev nD) (t : Fin cfg0.N) (o : Nat) (h : o + 256 ≤ 512) (r : Fin 256) (j : Fin 512) : nv m c t o h (ix2 r j) = OutProjX.xn (arg2 m c) (row t (hrow o h r)) j := by
  unfold nv
  rw [pay8_apply]
  simp only [half_apply, blk2]
  rfl

theorem dv_apply (c : Dev nD) (t : Fin cfg0.N) (o : Nat) (h : o + 256 ≤ 512) (r : Fin 256) (j : Fin 512) : dv m c t o h (ix2 r j) = OutProjX.dox (arg0 m c) (arg1 m c) (arg2 m c) (arg3 m c) (row t (hrow o h r)) j := by
  refine (pay11_apply _ _ _ r j).trans ?_
  simp only [half_apply, blk2, blk3, av_apply]
  rfl

theorem sv_apply (c : Dev nD) (t : Fin cfg0.N) (o : Nat) (h : o + 256 ≤ 512) (r : Fin 256) (j : Fin 512) : sv m c t o h (ix2 r j) = OutProjX.dd (arg0 m c) (arg1 m c) (arg2 m c) (arg3 m c) (row t (hrow o h r)) j := by
  refine (pay12_apply _ _ _ _ _ _ r j).trans ?_
  refine Eq.trans ?_ (OutProjX.head_sum (fun k => OutProjX.dox (arg0 m c) (arg1 m c) (arg2 m c) (arg3 m c) (row t (hrow o h r)) k * arg2 m c (ix2 (row t (hrow o h r)) k)) j)
  refine Finset.sum_congr rfl fun k _ => ?_
  rw [pay5_apply, half_apply, blk2]
  exact congrArg (· * _ * _) (dv_apply m c t o h r k)

/-! ## The arrays written row by row -/

theorem at4 (c : Dev nD) (t : Fin cfg0.N) (y : S512x1024.Idx) : (outsAt0 m c t.val t.isLt).1 y
    = OutProjX.dm (arg0 m c) (arg1 m c) (row t (y 0)) (y 1) := by
  by_cases h0 : t.val % 4 = 0
  · rw [outsAt0_A m c t h0]
    frame_out
    canon_tiles x h
    · refine ((congrArg _ (eq_ix2 x)).trans (mv_apply m c t 256 (by omega) (x 0) (x 1))).trans ?_
      refine congrArg₂ (OutProjX.dm _ _) (congrArg (row t) (Fin.ext ?_)) (Fin.ext ?_)
      · exact h0.symm
      · exact h1.symm
    · refine ((congrArg _ (eq_ix2 x)).trans (mv_apply m c t 0 (by omega) (x 0) (x 1))).trans ?_
      refine congrArg₂ (OutProjX.dm _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (mv_apply m c t 256 (by omega) (x 0) (x 1))).trans ?_
      refine congrArg₂ (OutProjX.dm _ _) (congrArg (row t) (Fin.ext ?_)) (Fin.ext ?_)
      · exact h0.symm
      · exact h1.symm
    · refine ((congrArg _ (eq_ix2 x)).trans (mv_apply m c t 0 (by omega) (x 0) (x 1))).trans ?_
      refine congrArg₂ (OutProjX.dm _ _) (congrArg (row t) (Fin.ext ?_)) (Fin.ext ?_)
      · exact (Nat.zero_add _).trans h0.symm
      · exact h1.symm

theorem arr4 (c : Dev nD) : (dats m 0 c).arrAt 4 cfg0.N = (fun i => OutProjX.dm (arg0 m c) (arg1 m c) (i 0) (i 1) : Vec Ideal S2048x1024 .f32) := by
  refine (dats m 0 c).arrAt_eq_of_covers 4 _ (by decide +kernel) fun t _ y => ?_
  show (outsAt0 m c t.val t.isLt).1 y = OutProjX.dm (arg0 m c) (arg1 m c) _ _
  rw [at4]
  have h := place t
  have e0 : win0_4.index t 0 = t.val := by rw [h.2.2.2.2.1]; rfl
  have e1 : win0_4.index t 1 = 0 := by rw [h.2.2.2.2.1]; rfl
  refine congrArg₂ (OutProjX.dm _ _) (Fin.ext ?_) (Fin.ext ?_)
  · show 512 * t.val + (y 0).val = win0_4.index t 0 * 512 + 1 * (y 0).val
    omega
  · show (y 1).val = win0_4.index t 1 * 1024 + 1 * (y 1).val
    omega

theorem at5 (c : Dev nD) (t : Fin cfg0.N) (y : S512x512.Idx) : (outsAt0 m c t.val t.isLt).2.1 y
    = OutProjX.dox (arg0 m c) (arg1 m c) (arg2 m c) (arg3 m c) (row t (y 0)) (y 1) := by
  by_cases h0 : t.val % 4 = 0
  · rw [outsAt0_A m c t h0]
    frame_out
    canon_tiles x h
    · refine ((congrArg _ (eq_ix2 x)).trans (dv_apply m c t 256 (by omega) (x 0) (x 1))).trans ?_
      refine congrArg₂ (OutProjX.dox _ _ _ _) (congrArg (row t) (Fin.ext ?_)) (Fin.ext ?_)
      · exact h0.symm
      · exact h1.symm
    · refine ((congrArg _ (eq_ix2 x)).trans (dv_apply m c t 0 (by omega) (x 0) (x 1))).trans ?_
      refine congrArg₂ (OutProjX.dox _ _ _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (dv_apply m c t 256 (by omega) (x 0) (x 1))).trans ?_
      refine congrArg₂ (OutProjX.dox _ _ _ _) (congrArg (row t) (Fin.ext ?_)) (Fin.ext ?_)
      · exact h0.symm
      · exact h1.symm
    · refine ((congrArg _ (eq_ix2 x)).trans (dv_apply m c t 0 (by omega) (x 0) (x 1))).trans ?_
      refine congrArg₂ (OutProjX.dox _ _ _ _) (congrArg (row t) (Fin.ext ?_)) (Fin.ext ?_)
      · exact (Nat.zero_add _).trans h0.symm
      · exact h1.symm

theorem arr5 (c : Dev nD) : (dats m 0 c).arrAt 5 cfg0.N = (fun i => OutProjX.dox (arg0 m c) (arg1 m c) (arg2 m c) (arg3 m c) (i 0) (i 1) : Vec Ideal S2048x512 .f32) := by
  refine (dats m 0 c).arrAt_eq_of_covers 5 _ (by decide +kernel) fun t _ y => ?_
  show (outsAt0 m c t.val t.isLt).2.1 y = OutProjX.dox (arg0 m c) (arg1 m c) (arg2 m c) (arg3 m c) _ _
  rw [at5]
  have h := place t
  have e0 : win0_5.index t 0 = t.val := by rw [h.2.2.2.2.2.1]; rfl
  have e1 : win0_5.index t 1 = 0 := by rw [h.2.2.2.2.2.1]; rfl
  refine congrArg₂ (OutProjX.dox _ _ _ _) (Fin.ext ?_) (Fin.ext ?_)
  · show 512 * t.val + (y 0).val = win0_5.index t 0 * 512 + 1 * (y 0).val
    omega
  · show (y 1).val = win0_5.index t 1 * 512 + 1 * (y 1).val
    omega

theorem at6 (c : Dev nD) (t : Fin cfg0.N) (y : S512x512.Idx) : (outsAt0 m c t.val t.isLt).2.2.1 y
    = OutProjX.dd (arg0 m c) (arg1 m c) (arg2 m c) (arg3 m c) (row t (y 0)) (y 1) := by
  by_cases h0 : t.val % 4 = 0
  · rw [outsAt0_A m c t h0]
    frame_out
    canon_tiles x h
    · refine ((congrArg _ (eq_ix2 x)).trans (sv_apply m c t 256 (by omega) (x 0) (x 1))).trans ?_
      refine congrArg₂ (OutProjX.dd _ _ _ _) (congrArg (row t) (Fin.ext ?_)) (Fin.ext ?_)
      · exact h0.symm
      · exact h1.symm
    · refine ((congrArg _ (eq_ix2 x)).trans (sv_apply m c t 0 (by omega) (x 0) (x 1))).trans ?_
      refine congrArg₂ (OutProjX.dd _ _ _ _) (congrArg (row t) (Fin.ext ?_)) (Fin.ext ?_)
      · exact (Nat.zero_add _).trans h0.symm
      · exact h1.symm
  · rw [outsAt0_B m c t h0]
    frame_out
    canon_tiles x h
    · refine ((congrArg _ (eq_ix2 x)).trans (sv_apply m c t 256 (by omega) (x 0) (x 1))).trans ?_
      refine congrArg₂ (OutProjX.dd _ _ _ _) (congrArg (row t) (Fin.ext ?_)) (Fin.ext ?_)
      · exact h0.symm
      · exact h1.symm
    · refine ((congrArg _ (eq_ix2 x)).trans (sv_apply m c t 0 (by omega) (x 0) (x 1))).trans ?_
      refine congrArg₂ (OutProjX.dd _ _ _ _) (congrArg (row t) (Fin.ext ?_)) (Fin.ext ?_)
      · exact (Nat.zero_add _).trans h0.symm
      · exact h1.symm

theorem arr6 (c : Dev nD) : (dats m 0 c).arrAt 6 cfg0.N = (fun i => OutProjX.dd (arg0 m c) (arg1 m c) (arg2 m c) (arg3 m c) (i 0) (i 1) : Vec Ideal S2048x512 .f32) := by
  refine (dats m 0 c).arrAt_eq_of_covers 6 _ (by decide +kernel) fun t _ y => ?_
  show (outsAt0 m c t.val t.isLt).2.2.1 y = OutProjX.dd (arg0 m c) (arg1 m c) (arg2 m c) (arg3 m c) _ _
  rw [at6]
  have h := place t
  have e0 : win0_6.index t 0 = t.val := by rw [h.2.2.2.2.2.2]; rfl
  have e1 : win0_6.index t 1 = 0 := by rw [h.2.2.2.2.2.2]; rfl
  refine congrArg₂ (OutProjX.dd _ _ _ _) (Fin.ext ?_) (Fin.ext ?_)
  · show 512 * t.val + (y 0).val = win0_6.index t 0 * 512 + 1 * (y 0).val
    omega
  · show (y 1).val = win0_6.index t 1 * 512 + 1 * (y 1).val
    omega

/-! ## The sum over the rows -/

/-- The grid's point number `n`. -/
def pt (n : Nat) (h : n ≤ 3) : Fin cfg0.N := ⟨n, lt_of_lt_of_eq (Nat.lt_succ_of_le h) (show 4 = cfg0.N from N_0.symm)⟩
/-- The grid's last point. -/
def last : Fin cfg0.N := pt 3 le_rfl

theorem at7_A (c : Dev nD) (t : Fin cfg0.N) (h0 : t.val % 4 = 0) (j : Fin 512) : (outsAt0 m c t.val t.isLt).2.2.2 (ix2 0 j)
    = k0_pay1 (nv m c t 256 (by omega)) (av m c t 256 (by omega)) (k0_pay1 (nv m c t 0 (by omega)) (av m c t 0 (by omega)) (k0_pay4 (F := Ideal))) (ix2 0 j) := by
  rw [outsAt0_A m c t h0]
  frame_out
  rfl

theorem at7_B (c : Dev nD) (t : Fin cfg0.N) (h0 : ¬t.val % 4 = 0) (j : Fin 512) : (outsAt0 m c t.val t.isLt).2.2.2 (ix2 0 j)
    = k0_pay1 (nv m c t 256 (by omega)) (av m c t 256 (by omega)) (k0_pay1 (nv m c t 0 (by omega)) (av m c t 0 (by omega)) (outsAt0 m c (t.val - 1) (by have := t.isLt; omega)).2.2.2) (ix2 0 j) := by
  rw [outsAt0_B m c t h0]
  frame_out
  rfl

theorem step7 (c : Dev nD) (j : Fin 512) (t : Fin cfg0.N) (a : Vec Ideal S1x512 .f32) :
    k0_pay1 (nv m c t 256 (by omega)) (av m c t 256 (by omega)) (k0_pay1 (nv m c t 0 (by omega)) (av m c t 0 (by omega)) a) (ix2 0 j)
      = a (ix2 0 j) + ∑ r : Fin 512, OutProjX.dma (arg0 m c) (arg1 m c) (row t r) j * OutProjX.xn (arg2 m c) (row t r) j := by
  rw [pay1_apply, pay1_apply]
  simp only [nv_apply, av_apply]
  exact two_halves (a (ix2 0 j)) fun r => OutProjX.dma (arg0 m c) (arg1 m c) (row t r) j * OutProjX.xn (arg2 m c) (row t r) j

def part7 (c : Dev nD) (j : Fin 512) (n : Nat) (h : n ≤ 3) : EReal := (outsAt0 m c n (pt n h).isLt).2.2.2 (ix2 0 j)

theorem acc7 (c : Dev nD) (j : Fin 512) : (outsAt0 m c last.val last.isLt).2.2.2 (ix2 0 j) = OutProjX.dg (arg0 m c) (arg1 m c) (arg2 m c) j := by
  have h0 : part7 m c j 0 (Nat.zero_le 3) = ∑ r : Fin 512, (fun i => OutProjX.dma (arg0 m c) (arg1 m c) i j * OutProjX.xn (arg2 m c) i j) ⟨512 * 0 + r.val, place_lt rfl (Nat.zero_le 3) r⟩ := by
    show (outsAt0 m c (pt 0 (Nat.zero_le 3)).val _).2.2.2 (ix2 0 j) = _
    rw [at7_A m c (pt 0 (Nat.zero_le 3)) rfl, step7, pay4_apply, zero_add]
    rfl
  have hs : ∀ n (h : n + 1 ≤ 3), part7 m c j (n + 1) h = part7 m c j n (Nat.le_of_succ_le h) + ∑ r : Fin 512, (fun i => OutProjX.dma (arg0 m c) (arg1 m c) i j * OutProjX.xn (arg2 m c) i j) ⟨512 * (n + 1) + r.val, place_lt rfl h r⟩ := by
    intro n h
    show (outsAt0 m c (pt (n + 1) h).val _).2.2.2 (ix2 0 j) = _
    rw [at7_B m c (pt (n + 1) h) (show ¬(n + 1) % 4 = 0 by omega), step7]
    rfl
  exact sum_blocks 512 3 2048 rfl (fun i => OutProjX.dma (arg0 m c) (arg1 m c) i j * OutProjX.xn (arg2 m c) i j) (part7 m c j) h0 hs

theorem arr7 (c : Dev nD) : (dats m 0 c).arrAt 7 cfg0.N =
    (fun i => OutProjX.dg (arg0 m c) (arg1 m c) (arg2 m c) (i 1) : Vec Ideal S1x512 .f32) := by
  refine (dats m 0 c).arrAt_eq_of_after_last 7 last (by decide +kernel) _ fun j => ?_
  rw [after0_7]
  exact (congrArg (outsAt0 m c last.val last.isLt).2.2.2 (eq_row j)).trans (acc7 m c (j 1))

end Cert.Kernel11Ideal.Blocks
-- ==== Proof.OutProjXRef.lean ====
module

public import proofs.«01_k».proof.Proof.OutMath
public import proofs.«01_k».proof.Proof.Gen.Reference11Ideal.Read
public import Idealize.ShloMosaic.Lib.Pointwise
public import Idealize.ShloMosaic.Lib.Pipeline.ValueKit

/-! # The reference of the product that mixes the heads, backward -/

@[expose] public section

set_option maxRecDepth 16384

noncomputable section

namespace Cert.Reference11Ideal.Rows

open Cert.Reference11Ideal Cert.Reference11Ideal.Gen Cert.Reference11Ideal.Read
open Idealize.ShloMosaic Idealize.ShloMosaic.TcCoe Idealize.SL.Sem
open Cert.Rows

variable (x0 : Vec Ideal S2048x1024 .bf16) (x1 : Vec Ideal S1024x1024 .f32) (x2 : Vec Ideal S2048x512 .f32) (x3 : Vec Ideal S1x512 .f32)

theorem v3_at (i : Fin 2048) (j : Fin 1024) : val_main_v3 (F := Ideal) x0 x1 (ix2 i j) = OutProjX.dm x0 x1 i j := by
  pointwise [val_main_v3, val_main_v2]
  rfl

theorem v19_at (i : Fin 2048) (j : Fin 512) : val_main_v19 (F := Ideal) x0 x1 (ix2 i j) = OutProjX.dma x0 x1 i j := by
  pointwise [val_main_v19]
  exact v3_at x0 x1 i _

theorem v10_at (i : Fin 2048) : val_main_v10 (F := Ideal) x2 (ix2 i 0) = argOf width2 (OutProjX.att x2 i) := by
  pointwise [val_main_v10, val_main_v9, val_main_v8, val_main_v7, val_main_v6, val_main_v5, val_main_v4, val_main_cst_0, val_main_cst_1, val_main_cst_2]
  rfl

theorem v11_at (i : Fin 2048) : val_main_v11 (F := Ideal) x2 (ix2 i 0) = rinvOf width2 (OutProjX.att x2 i) := by
  pointwise [val_main_v11]
  rw [v10_at]
  rfl

theorem v14_at (i : Fin 2048) : val_main_v14 (F := Ideal) x2 (ix2 i 0)
    = mhalf * Ideal.div (rinvOf width2 (OutProjX.att x2 i)) (argOf width2 (OutProjX.att x2 i)) := by
  pointwise [val_main_v14, val_main_v13, val_main_v12, val_main_cst_3]
  rw [v10_at, v11_at]

theorem v16_at (i : Fin 2048) (j : Fin 512) : val_main_v16 (F := Ideal) x2 (ix2 i j) = OutProjX.xn x2 i j := by
  pointwise [val_main_v16, val_main_v15]
  rw [v11_at]
  rfl

theorem v22_at (j : Fin 512) : val_main_v22 (F := Ideal) x0 x1 x2 (ix2 0 j) = OutProjX.dg x0 x1 x2 j := by
  pointwise [val_main_v22, val_main_v21, val_main_v20, val_main_cst_4]
  simp only [v16_at, v19_at]
  exact Finset.sum_congr rfl fun i _ => mul_comm _ _

theorem v24_at (i : Fin 2048) (j : Fin 512) : val_main_v24 (F := Ideal) x0 x1 x3 (ix2 i j) = OutProjX.dn x0 x1 x3 i j := by
  pointwise [val_main_v24, val_main_v23]
  rw [v19_at]
  rfl

theorem v34_at (i : Fin 2048) (j : Fin 512) : val_main_v34 (F := Ideal) x0 x1 x2 x3 (ix2 i j)
    = pullOf width2 (OutProjX.att x2 i) (OutProjX.dn x0 x1 x3 i) := by
  pointwise [val_main_v34, val_main_v33, val_main_v32, val_main_v31, val_main_v30, val_main_v27, val_main_v26, val_main_v25, val_main_cst_5, val_main_cst_6, val_main_cst_7]
  simp only [v24_at, Fin.sum_univ_one, v14_at]
  rfl

theorem v38_at (i : Fin 2048) (j : Fin 512) : val_main_v38 (F := Ideal) x0 x1 x2 x3 (ix2 i j) = OutProjX.dox x0 x1 x2 x3 i j := by
  unfold OutProjX.dox
  rw [kdxOf_eq_rdxOf width2_eq (by norm_num)]
  unfold rdxOf
  rw [zero_add]
  pointwise [val_main_v38, val_main_v37, val_main_v36, val_main_v35, val_main_v29, val_main_v28]
  simp only [v34_at, v24_at, v11_at]
  rfl

theorem v44_at (i : Fin 2048) (j : Fin 512) : val_main_v44 (F := Ideal) x0 x1 x2 x3 (ix2 i j) = OutProjX.dd x0 x1 x2 x3 i j := by
  pointwise [val_main_v44, val_main_v43, val_main_v42, val_main_v41, val_main_v40, val_main_v39, val_main_cst_8]
  simp only [v38_at]
  unfold OutProjX.dd
  refine Finset.sum_congr rfl fun q _ => ?_
  simp only [Nat.mul_comm (j.val / 64) 64]

/-! ## The reference's run -/

theorem whole_main_v3 : val_main_v3 (F := Ideal) x0 x1 = (fun i => Cert.OutProjX.dm x0 x1 (i 0) (i 1) : Vec Ideal S2048x1024 .f32) :=
  funext fun i => (congrArg (val_main_v3 (F := Ideal) x0 x1) (eq_ix2 i)).trans (v3_at x0 x1 (i 0) (i 1))

theorem whole_main_v38 : val_main_v38 (F := Ideal) x0 x1 x2 x3 = (fun i => Cert.OutProjX.dox x0 x1 x2 x3 (i 0) (i 1) : Vec Ideal S2048x512 .f32) :=
  funext fun i => (congrArg (val_main_v38 (F := Ideal) x0 x1 x2 x3) (eq_ix2 i)).trans (v38_at x0 x1 x2 x3 (i 0) (i 1))

theorem whole_main_v44 : val_main_v44 (F := Ideal) x0 x1 x2 x3 = (fun i => Cert.OutProjX.dd x0 x1 x2 x3 (i 0) (i 1) : Vec Ideal S2048x512 .f32) :=
  funext fun i => (congrArg (val_main_v44 (F := Ideal) x0 x1 x2 x3) (eq_ix2 i)).trans (v44_at x0 x1 x2 x3 (i 0) (i 1))

theorem whole_main_v22 : val_main_v22 (F := Ideal) x0 x1 x2 = (fun i => Cert.OutProjX.dg x0 x1 x2 (i 1) : Vec Ideal S1x512 .f32) :=
  funext fun i => (congrArg (val_main_v22 (F := Ideal) x0 x1 x2) (eq_row i)).trans (v22_at x0 x1 x2 (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i => Cert.OutProjX.dm (m ((c.tc : Thread nD τ).loc main_arg0)) (m ((c.tc : Thread nD τ).loc main_arg1)) (i 0) (i 1) : Vec Ideal S2048x1024 .f32)
      ∧ r.2.mem ((c.tc : Thread nD τ).loc main_v38) = (fun i => Cert.OutProjX.dox (m ((c.tc : Thread nD τ).loc main_arg0)) (m ((c.tc : Thread nD τ).loc main_arg1)) (m ((c.tc : Thread nD τ).loc main_arg2)) (m ((c.tc : Thread nD τ).loc main_arg3)) (i 0) (i 1) : Vec Ideal S2048x512 .f32)
      ∧ r.2.mem ((c.tc : Thread nD τ).loc main_v44) = (fun i => Cert.OutProjX.dd (m ((c.tc : Thread nD τ).loc main_arg0)) (m ((c.tc : Thread nD τ).loc main_arg1)) (m ((c.tc : Thread nD τ).loc main_arg2)) (m ((c.tc : Thread nD τ).loc main_arg3)) (i 0) (i 1) : Vec Ideal S2048x512 .f32)
      ∧ r.2.mem ((c.tc : Thread nD τ).loc main_v22) = (fun i => Cert.OutProjX.dg (m ((c.tc : Thread nD τ).loc main_arg0)) (m ((c.tc : Thread nD τ).loc main_arg1)) (m ((c.tc : Thread nD τ).loc main_arg2)) (i 1) : Vec Ideal S1x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference11Ideal.Value.run m ρ)
  obtain ⟨k0, k1, k2, k3, ha⟩ := h c
  exact ⟨(k0.trans (val_main_v3_eq (m ((c.tc : Thread nD τ).loc main_arg0)) (m ((c.tc : Thread nD τ).loc main_arg1)))).trans (whole_main_v3 (m ((c.tc : Thread nD τ).loc main_arg0)) (m ((c.tc : Thread nD τ).loc main_arg1))),
    (k1.trans (val_main_v38_eq m c)).trans (whole_main_v38 (m ((c.tc : Thread nD τ).loc main_arg0)) (m ((c.tc : Thread nD τ).loc main_arg1)) (m ((c.tc : Thread nD τ).loc main_arg2)) (m ((c.tc : Thread nD τ).loc main_arg3))),
    (k2.trans (val_main_v44_eq m c)).trans (whole_main_v44 (m ((c.tc : Thread nD τ).loc main_arg0)) (m ((c.tc : Thread nD τ).loc main_arg1)) (m ((c.tc : Thread nD τ).loc main_arg2)) (m ((c.tc : Thread nD τ).loc main_arg3))),
    (k3.trans (val_main_v22_eq (m ((c.tc : Thread nD τ).loc main_arg0)) (m ((c.tc : Thread nD τ).loc main_arg1)) (m ((c.tc : Thread nD τ).loc main_arg2)))).trans (whole_main_v22 (m ((c.tc : Thread nD τ).loc main_arg0)) (m ((c.tc : Thread nD τ).loc main_arg1)) (m ((c.tc : Thread nD τ).loc main_arg2))), ha⟩

end Cert.Reference11Ideal.Rows
-- ==== Proof.OutProjXFinal.lean ====
module

public import proofs.«01_k».proof.Defs
public import proofs.«01_k».proof.Proof.OutProjX
public import proofs.«01_k».proof.Proof.OutProjXRef
public import Idealize.ShloMosaic.Adequacy
public import Idealize.ShloMosaic.Init

/-! # The two runs side by side -/

@[expose] public section

set_option maxRecDepth 16384

noncomputable section

namespace Cert.OutProjX

open Idealize.ShloMosaic Idealize.SL.Sem

theorem frame_ref : Cert.quiescent_Reference11Ideal := by
  intro m ρ _
  exact (θ_run Cert.Reference11Ideal.defs _ _).mono (fun r h => ⟨fun c => (h c).2.2.2.2, sem_eq_zero_of_no_sems (by decide) r.2⟩) (Cert.Reference11Ideal.Rows.run_whole m ρ)

theorem algebraic : Cert.algebraic_Kernel11Ideal_Reference11Ideal := by
  intro m g m' g' _ hag
  refine ⟨fun c => fun i => Cert.OutProjX.dm (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (i 0) (i 1), fun c => fun i => Cert.OutProjX.dox (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (i 0) (i 1), fun c => fun i => Cert.OutProjX.dd (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (i 0) (i 1), fun c => fun i => Cert.OutProjX.dg (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (i 1), ?_, ?_⟩
  · refine (θ_run Cert.Kernel11Ideal.defs _ _).mono (fun r h c => ?_) (Cert.Kernel11Ideal.Value.run_blocks m g)
    obtain ⟨k0, k1, k2, k3, ha⟩ := h c
    exact ⟨k0.trans (Cert.Kernel11Ideal.Blocks.arr4 m c), k1.trans (Cert.Kernel11Ideal.Blocks.arr5 m c), k2.trans (Cert.Kernel11Ideal.Blocks.arr6 m c), k3.trans (Cert.Kernel11Ideal.Blocks.arr7 m c), ha⟩
  · refine (θ_run Cert.Reference11Ideal.defs _ _).mono (fun r h c => ?_) (Cert.Reference11Ideal.Rows.run_whole m' g')
    obtain ⟨k0, k1, k2, k3, ha⟩ := h c
    obtain ⟨e0, e1, e2, e3⟩ := hag c
    rw [e0, e1] at k0
    rw [e0, e1, e2, e3] at k1
    rw [e0, e1, e2, e3] at k2
    rw [e0, e1, e2] at k3
    exact ⟨k0, k1, k2, k3, ha⟩

end Cert.OutProjX
-- ==== Proof.OutProjFwd.lean ====
module

public import proofs.«01_k».proof.Proof.OutMath
public import Idealize.ShloMosaic.Lib.Pipeline.ReadBack
public import proofs.«01_k».proof.Proof.Gen.Kernel12Ideal.Value
public import proofs.«01_k».proof.Proof.Gen.Reference12Ideal.Read
public import Idealize.ShloMosaic.Lib.Pointwise
public import Idealize.ShloMosaic.Lib.Pipeline.ValueKit

/-! # The product that mixes the heads, forward -/

@[expose] public section

set_option maxRecDepth 16384

noncomputable section

namespace Cert.Kernel12Ideal.Blocks

open Cert.Kernel12Ideal Cert.Kernel12Ideal.Gen Cert.Kernel12Ideal.Value
open Idealize.ShloMosaic Idealize.ShloMosaic.TcCoe Idealize.SL.Sem
open Idealize.ShloMosaic.Pipeline (Dat)
open Cert.Rows

variable (m : (ℓ : Loc nD τ sig) → Buf (Elt Ideal) ℓ)

abbrev arg0 (c : Dev nD) : Vec Ideal S2048x512 .bf16 := m ((c : Thread nD τ).loc main_arg0)
abbrev arg1 (c : Dev nD) : Vec Ideal S2048x512 .f32 := m ((c : Thread nD τ).loc main_arg1)
abbrev arg2 (c : Dev nD) : Vec Ideal S1x512 .f32 := m ((c : Thread nD τ).loc main_arg2)
abbrev arg3 (c : Dev nD) : Vec Ideal S1024x1024 .f32 := m ((c : Thread nD τ).loc main_arg3)

theorem V_v0 (c : Dev nD) (i : Fin 1024) (j : Fin 1024) : (V m c main_v0 : Vec Ideal S1024x1024 .bf16) (ix2 i j) = arg3 m c (ix2 i j) := by
  unfold V
  simp only [hostOps0]
  after_results
  pointwise

/-! ## What the kernel computes of a half's rows -/

theorem pay3_apply (x : Vec Ideal S256x512 .f32) (g : Vec Ideal S1x512 .f32) (r : Fin 256) (j : Fin 512) :
    k0_pay3 x g (ix2 r j) = x (ix2 r j) * rinvOf width2 (fun k => x (ix2 r k)) * g (ix2 0 j) := by
  pointwise [k0_pay3]
  rfl

theorem pay4_apply (a : Vec Ideal S256x1024 .bf16) (w : Vec Ideal S1024x1024 .bf16) (r : Fin 256) (j : Fin 1024) :
    k0_pay4 a w (ix2 r j) = ∑ k : Fin 1024, a (ix2 r k) * w (ix2 k j) := by
  pointwise [k0_pay4]

/-! ## The blocks of a point, read off the arrays -/

theorem pt_lt (t : Fin cfg0.N) : t.val < 4 := lt_of_lt_of_eq t.isLt (show cfg0.N = 4 from N_0)

theorem place : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0])

/-- A block's row, among the rows of the whole array. -/
def row (t : Fin cfg0.N) (r : Fin 512) : Fin 2048 := ⟨512 * t.val + r.val, by have := pt_lt t; omega⟩

theorem blk0 (c : Dev nD) (t : Fin cfg0.N) (r : Fin 512) (k : Fin 512) :
    (iblk m c 0 t : Vec Ideal S512x512 .bf16) (ix2 r k) = arg0 m c (ix2 (row t r) k) := by
  unfold iblk
  rw [View.read_apply]
  show V m c main_arg0 _ = _
  rw [V_main_arg0]
  have h := place t
  blk_ext [h, row]

theorem blk1 (c : Dev nD) (t : Fin cfg0.N) (r : Fin 512) (k : Fin 512) :
    (iblk m c 1 t : Vec Ideal S512x512 .f32) (ix2 r k) = arg1 m c (ix2 (row t r) k) := by
  unfold iblk
  rw [View.read_apply]
  show V m c main_arg1 _ = _
  rw [V_main_arg1]
  have h := place t
  blk_ext [h, row]

theorem blk2 (c : Dev nD) (t : Fin cfg0.N) (j : Fin 512) : (iblk m c 2 t : Vec Ideal S1x512 .f32) (ix2 0 j) = arg2 m c (ix2 0 j) := by
  unfold iblk
  rw [View.read_apply]
  show V m c main_arg2 _ = _
  rw [V_main_arg2]
  have h := place t
  blk_ext [h]

theorem blk3 (c : Dev nD) (t : Fin cfg0.N) (i : Fin 1024) (j : Fin 1024) :
    (iblk m c 3 t : Vec Ideal S1024x1024 .bf16) (ix2 i j) = arg3 m c (ix2 i j) := by
  rw [← V_v0]
  have h := place t
  blk_ext [iblk, h]

/-! ## The two halves of a block -/

/-- The normalised rows of a half. -/
def nv (c : Dev nD) (t : Fin cfg0.N) (o : Nat) (h : o + 256 ≤ 512) : FVec Ideal S256x512 .bf16 := k0_pay3 (half (iblk m c 1 t : Vec Ideal S512x512 .f32) o h) (iblk m c 2 t)

theorem nv_apply (c : Dev nD) (t : Fin cfg0.N) (o : Nat) (h : o + 256 ≤ 512) (r : Fin 256) (j : Fin 512) : nv m c t o h (ix2 r j)
    = arg1 m c (ix2 (row t (hrow o h r)) j) * rinvOf width2 (fun k => arg1 m c (ix2 (row t (hrow o h r)) k)) * arg2 m c (ix2 0 j) := by
  unfold nv
  rw [pay3_apply]
  simp only [half_apply, blk1, blk2]

/-- The four parts of a block of mixed rows, as they are written. -/
def parts (c : Dev nD) (t : Fin cfg0.N) : List (View.Piece (Elt Ideal) S512x1024 .bf16) :=
  [⟨Rect.unit ![256, 512] ![256, 512] inb_S512x1024_S256x512_256_512, nv m c t 256 (by omega)⟩,
    ⟨Rect.unit ![256, 0] ![256, 512] inb_S512x1024_S256x512_256_0, half (iblk m c 0 t : Vec Ideal S512x512 .bf16) 256 (by omega)⟩,
    ⟨Rect.unit ![0, 512] ![256, 512] inb_S512x1024_S256x512_0_512, nv m c t 0 (by omega)⟩,
    ⟨Rect.unit ![0, 0] ![256, 512] inb_S512x1024_S256x512_0_0, half (iblk m c 0 t : Vec Ideal S512x512 .bf16) 0 (by omega)⟩]

theorem parts_apply (c : Dev nD) (t : Fin cfg0.N) (y : S512x1024.Idx) : View.canon (parts m c t) y = OutProjFwd.mixed (arg0 m c) (arg1 m c) (arg2 m c) (row t (y 0)) (y 1) := by
  unfold parts
  canon_tiles x h
  · refine ((congrArg _ (eq_ix2 x)).trans (nv_apply m c t 256 (by omega) (x 0) (x 1))).trans ?_
    rw [show row t (y 0) = row t (hrow 256 (by omega) (x 0)) from congrArg (row t) (Fin.ext (h0))]
    exact (OutProjFwd.mixed_hi _ _ _ _ _ _ h1).symm
  · refine ((congrArg _ (eq_ix2 x)).trans (half_apply (iblk m c 0 t : Vec Ideal S512x512 .bf16) 256 (by omega) (x 0) (x 1))).trans ?_
    refine (blk0 m c t (hrow 256 (by omega) (x 0)) (x 1)).trans ?_
    rw [show row t (y 0) = row t (hrow 256 (by omega) (x 0)) from congrArg (row t) (Fin.ext (h0))]
    exact (OutProjFwd.mixed_lo _ _ _ _ _ _ h1).symm
  · refine ((congrArg _ (eq_ix2 x)).trans (nv_apply m c t 0 (by omega) (x 0) (x 1))).trans ?_
    rw [show row t (y 0) = row t (hrow 0 (by omega) (x 0)) from congrArg (row t) (Fin.ext (h0.trans (Nat.zero_add _).symm))]
    exact (OutProjFwd.mixed_hi _ _ _ _ _ _ h1).symm
  · refine ((congrArg _ (eq_ix2 x)).trans (half_apply (iblk m c 0 t : Vec Ideal S512x512 .bf16) 0 (by omega) (x 0) (x 1))).trans ?_
    refine (blk0 m c t (hrow 0 (by omega) (x 0)) (x 1)).trans ?_
    rw [show row t (y 0) = row t (hrow 0 (by omega) (x 0)) from congrArg (row t) (Fin.ext (h0.trans (Nat.zero_add _).symm))]
    exact (OutProjFwd.mixed_lo _ _ _ _ _ _ h1).symm

/-- A half of a block of mixed rows. -/
def mhalf2 (c : Dev nD) (t : Fin cfg0.N) (o : Nat) (h : o + 256 ≤ 512) : Vec Ideal S256x1024 .bf16 :=
  fun i => OutProjFwd.mixed (arg0 m c) (arg1 m c) (arg2 m c) (row t (hrow o h (i 0))) (i 1)

theorem read_hi (c : Dev nD) (t : Fin cfg0.N) {sig : RefSig} {κ : Kind} {sp : Space} (v : View sig κ sp S512x1024 .bf16) :
    v.readCov (parts m c t) (Rect.unit ![256, 0] ![256, 1024] inb_S512x1024_S256x1024_256_0).toLoadRect = mhalf2 m c t 256 (by omega) := by
  rw [View.readCov_eq_canon']
  funext i
  refine (parts_apply m c t _).trans ?_
  refine congrArg₂ (OutProjFwd.mixed (arg0 m c) (arg1 m c) (arg2 m c)) (congrArg (row t) (Fin.ext ?_)) (Fin.ext ?_)
  · exact Rect.idx_unit_val _ _ _ i 0
  · exact (Rect.idx_unit_val _ _ _ i 1).trans (Nat.zero_add _)

theorem read_lo (c : Dev nD) (t : Fin cfg0.N) {sig : RefSig} {κ : Kind} {sp : Space} (v : View sig κ sp S512x1024 .bf16) :
    v.readCov (parts m c t).tail.tail (Rect.unit ![0, 0] ![256, 1024] inb_S512x1024_S256x1024_0_0).toLoadRect = mhalf2 m c t 0 (by omega) := by
  have e : v.readCov (parts m c t) (Rect.unit ![0, 0] ![256, 1024] inb_S512x1024_S256x1024_0_0).toLoadRect
      = v.readCov (parts m c t).tail.tail (Rect.unit ![0, 0] ![256, 1024] inb_S512x1024_S256x1024_0_0).toLoadRect := by
    unfold parts
    refine (View.readCov_skip v _ _ _ _ (by decide +kernel)).trans ?_
    exact View.readCov_skip v _ _ _ _ (by decide +kernel)
  rw [← e, View.readCov_eq_canon']
  funext i
  refine (parts_apply m c t _).trans ?_
  refine congrArg₂ (OutProjFwd.mixed (arg0 m c) (arg1 m c) (arg2 m c)) (congrArg (row t) (Fin.ext ?_)) (Fin.ext ?_)
  · exact Rect.idx_unit_val _ _ _ i 0
  · exact (Rect.idx_unit_val _ _ _ i 1).trans (Nat.zero_add _)

theorem mhalf2_prod (c : Dev nD) (t : Fin cfg0.N) (o : Nat) (h : o + 256 ≤ 512) (r : Fin 256) (j : Fin 1024) :
    k0_pay4 (mhalf2 m c t o h) (iblk m c 3 t) (ix2 r j) = OutProjFwd.y (arg0 m c) (arg1 m c) (arg2 m c) (arg3 m c) (row t (hrow o h r)) j := by
  rw [pay4_apply]
  simp only [blk3]
  rfl

theorem at5 (c : Dev nD) (t : Fin cfg0.N) (y : S512x1024.Idx) : (outsAt0 m c t).2 y = OutProjFwd.mixed (arg0 m c) (arg1 m c) (arg2 m c) (row t (y 0)) (y 1) := by
  unfold outsAt0
  frame_out
  exact parts_apply m c t y

theorem at4 (c : Dev nD) (t : Fin cfg0.N) (y : S512x1024.Idx) : (outsAt0 m c t).1 y = OutProjFwd.y (arg0 m c) (arg1 m c) (arg2 m c) (arg3 m c) (row t (y 0)) (y 1) := by
  unfold outsAt0
  frame_out
  canon_tiles x h
  · refine (congrArg (fun z => k0_pay4 z (iblk m c 3 t) x) (read_hi m c t (ms0_5 t).view)).trans ?_
    refine ((congrArg _ (eq_ix2 x)).trans (mhalf2_prod m c t 256 (by omega) (x 0) (x 1))).trans ?_
    refine congrArg₂ (OutProjFwd.y _ _ _ _) (congrArg (row t) (Fin.ext ?_)) (Fin.ext ?_)
    · exact h0.symm
    · exact h1.symm
  · refine (congrArg (fun z => k0_pay4 z (iblk m c 3 t) x) (read_lo m c t (ms0_5 t).view)).trans ?_
    refine ((congrArg _ (eq_ix2 x)).trans (mhalf2_prod m c t 0 (by omega) (x 0) (x 1))).trans ?_
    refine congrArg₂ (OutProjFwd.y _ _ _ _) (congrArg (row t) (Fin.ext ?_)) (Fin.ext ?_)
    · exact (Nat.zero_add _).trans h0.symm
    · exact h1.symm

theorem arr4 (c : Dev nD) : (dats m 0 c).arrAt 4 cfg0.N = (fun i => OutProjFwd.y (arg0 m c) (arg1 m c) (arg2 m c) (arg3 m c) (i 0) (i 1) : Vec Ideal S2048x1024 .f32) := by
  refine (dats m 0 c).arrAt_eq_of_covers 4 _ (by decide +kernel) fun t _ y => ?_
  rw [after0_4]
  refine (at4 m c t y).trans ?_
  show OutProjFwd.y (arg0 m c) (arg1 m c) (arg2 m c) (arg3 m c) (row t (y 0)) (y 1) = OutProjFwd.y (arg0 m c) (arg1 m c) (arg2 m c) (arg3 m c) _ _
  have h := place t
  have e0 : win0_4.index t 0 = t.val := by rw [h.2.2.2.2.1]; rfl
  have e1 : win0_4.index t 1 = 0 := by rw [h.2.2.2.2.1]; rfl
  refine congrArg₂ (OutProjFwd.y _ _ _ _) (Fin.ext ?_) (Fin.ext ?_)
  · show 512 * t.val + (y 0).val = win0_4.index t 0 * 512 + 1 * (y 0).val
    omega
  · show (y 1).val = win0_4.index t 1 * 1024 + 1 * (y 1).val
    omega

theorem arr5 (c : Dev nD) : (dats m 0 c).arrAt 5 cfg0.N = (fun i => OutProjFwd.mixed (arg0 m c) (arg1 m c) (arg2 m c) (i 0) (i 1) : Vec Ideal S2048x1024 .bf16) := by
  refine (dats m 0 c).arrAt_eq_of_covers 5 _ (by decide +kernel) fun t _ y => ?_
  rw [after0_5]
  refine (at5 m c t y).trans ?_
  show OutProjFwd.mixed (arg0 m c) (arg1 m c) (arg2 m c) (row t (y 0)) (y 1) = OutProjFwd.mixed (arg0 m c) (arg1 m c) (arg2 m c) _ _
  have h := place t
  have e0 : win0_5.index t 0 = t.val := by rw [h.2.2.2.2.2]; rfl
  have e1 : win0_5.index t 1 = 0 := by rw [h.2.2.2.2.2]; rfl
  refine congrArg₂ (OutProjFwd.mixed _ _ _) (Fin.ext ?_) (Fin.ext ?_)
  · show 512 * t.val + (y 0).val = win0_5.index t 0 * 512 + 1 * (y 0).val
    omega
  · show (y 1).val = win0_5.index t 1 * 1024 + 1 * (y 1).val
    omega

end Cert.Kernel12Ideal.Blocks

/-! ## The reference -/

namespace Cert.Reference12Ideal.Rows

open Cert.Reference12Ideal Cert.Reference12Ideal.Gen Cert.Reference12Ideal.Read
open Idealize.ShloMosaic Idealize.ShloMosaic.TcCoe Idealize.SL.Sem
open Cert.Rows

variable (x0 : Vec Ideal S2048x512 .bf16) (x1 : Vec Ideal S2048x512 .f32) (x2 : Vec Ideal S1x512 .f32) (x3 : Vec Ideal S1024x1024 .f32)

theorem v8_at (i : Fin 2048) : val_main_v8 (F := Ideal) x1 (ix2 i 0) = rinvOf width2 (fun k => x1 (ix2 i k)) := by
  pointwise [val_main_v8, val_main_v7, val_main_v6, val_main_v5, val_main_v4, val_main_v3, val_main_v2, val_main_v1, val_main_cst, val_main_cst_0, val_main_cst_1]
  rfl

theorem v12_at (i : Fin 2048) (j : Fin 512) : val_main_v12 (F := Ideal) x1 x2 (ix2 i j) = x1 (ix2 i j) * rinvOf width2 (fun k => x1 (ix2 i k)) * x2 (ix2 0 j) := by
  pointwise [val_main_v12, val_main_v11, val_main_v10, val_main_v9]
  rw [v8_at]

theorem v13_at (i : Fin 2048) (j : Fin 1024) : val_main_v13 (F := Ideal) x0 x1 x2 (ix2 i j) = OutProjFwd.mixed x0 x1 x2 i j := by
  pointwise [val_main_v13, val_main_v0]
  simp only [v12_at]
  rfl

theorem v14_at (i : Fin 2048) (j : Fin 1024) : val_main_v14 (F := Ideal) x0 x1 x2 x3 (ix2 i j) = OutProjFwd.y x0 x1 x2 x3 i j := by
  pointwise [val_main_v14]
  simp only [v13_at]
  rfl

theorem v15_at (i : Fin 2048) (j : Fin 1024) : val_main_v15 (F := Ideal) x0 x1 x2 (ix2 i j) = OutProjFwd.mixed x0 x1 x2 i j := by
  pointwise [val_main_v15]
  rw [v13_at]

/-! ## The reference's run -/

theorem whole_main_v14 : val_main_v14 (F := Ideal) x0 x1 x2 x3 = (fun i => Cert.OutProjFwd.y x0 x1 x2 x3 (i 0) (i 1) : Vec Ideal S2048x1024 .f32) :=
  funext fun i => (congrArg (val_main_v14 (F := Ideal) x0 x1 x2 x3) (eq_ix2 i)).trans (v14_at x0 x1 x2 x3 (i 0) (i 1))

theorem whole_main_v15 : val_main_v15 (F := Ideal) x0 x1 x2 = (fun i => Cert.OutProjFwd.mixed x0 x1 x2 (i 0) (i 1) : Vec Ideal S2048x1024 .bf16) :=
  funext fun i => (congrArg (val_main_v15 (F := Ideal) x0 x1 x2) (eq_ix2 i)).trans (v15_at x0 x1 x2 (i 0) (i 1))

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = (fun i => Cert.OutProjFwd.y (m ((c.tc : Thread nD τ).loc main_arg0)) (m ((c.tc : Thread nD τ).loc main_arg1)) (m ((c.tc : Thread nD τ).loc main_arg2)) (m ((c.tc : Thread nD τ).loc main_arg3)) (i 0) (i 1) : Vec Ideal S2048x1024 .f32)
      ∧ r.2.mem ((c.tc : Thread nD τ).loc main_v15) = (fun i => Cert.OutProjFwd.mixed (m ((c.tc : Thread nD τ).loc main_arg0)) (m ((c.tc : Thread nD τ).loc main_arg1)) (m ((c.tc : Thread nD τ).loc main_arg2)) (i 0) (i 1) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.Reference12Ideal.Value.run m ρ)
  obtain ⟨k0, k1, ha⟩ := h c
  exact ⟨(k0.trans (val_main_v14_eq (m ((c.tc : Thread nD τ).loc main_arg0)) (m ((c.tc : Thread nD τ).loc main_arg1)) (m ((c.tc : Thread nD τ).loc main_arg2)) (m ((c.tc : Thread nD τ).loc main_arg3)))).trans (whole_main_v14 (m ((c.tc : Thread nD τ).loc main_arg0)) (m ((c.tc : Thread nD τ).loc main_arg1)) (m ((c.tc : Thread nD τ).loc main_arg2)) (m ((c.tc : Thread nD τ).loc main_arg3))),
    (k1.trans (val_main_v15_eq (m ((c.tc : Thread nD τ).loc main_arg0)) (m ((c.tc : Thread nD τ).loc main_arg1)) (m ((c.tc : Thread nD τ).loc main_arg2)))).trans (whole_main_v15 (m ((c.tc : Thread nD τ).loc main_arg0)) (m ((c.tc : Thread nD τ).loc main_arg1)) (m ((c.tc : Thread nD τ).loc main_arg2))), ha⟩

end Cert.Reference12Ideal.Rows
-- ==== Proof.OutProjFwdFinal.lean ====
module

public import proofs.«01_k».proof.Defs
public import proofs.«01_k».proof.Proof.OutProjFwd
public import Idealize.ShloMosaic.Adequacy
public import Idealize.ShloMosaic.Init

/-! # The two runs side by side -/

@[expose] public section

set_option maxRecDepth 16384

noncomputable section

namespace Cert.OutProjFwd

open Idealize.ShloMosaic Idealize.SL.Sem

theorem frame_ref : Cert.quiescent_Reference12Ideal := by
  intro m ρ _
  exact (θ_run Cert.Reference12Ideal.defs _ _).mono (fun r h => ⟨fun c => (h c).2.2, sem_eq_zero_of_no_sems (by decide) r.2⟩) (Cert.Reference12Ideal.Rows.run_whole m ρ)

theorem algebraic : Cert.algebraic_Kernel12Ideal_Reference12Ideal := by
  intro m g m' g' _ hag
  refine ⟨fun c => fun i => Cert.OutProjFwd.y (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (i 0) (i 1), fun c => fun i => Cert.OutProjFwd.mixed (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (i 0) (i 1), ?_, ?_⟩
  · refine (θ_run Cert.Kernel12Ideal.defs _ _).mono (fun r h c => ?_) (Cert.Kernel12Ideal.Value.run_blocks m g)
    obtain ⟨k0, k1, ha⟩ := h c
    exact ⟨k0.trans (Cert.Kernel12Ideal.Blocks.arr4 m c), k1.trans (Cert.Kernel12Ideal.Blocks.arr5 m c), ha⟩
  · refine (θ_run Cert.Reference12Ideal.defs _ _).mono (fun r h c => ?_) (Cert.Reference12Ideal.Rows.run_whole m' g')
    obtain ⟨k0, k1, ha⟩ := h c
    obtain ⟨e0, e1, e2, e3⟩ := hag c
    rw [e0, e1, e2, e3] at k0
    rw [e0, e1, e2] at k1
    exact ⟨k0, k1, ha⟩

end Cert.OutProjFwd
-- ==== Proof.Adam.lean ====
module

public import proofs.«01_k».proof.Defs
public import Idealize.ShloMosaic.Lib.Pointwise

/-! # One step of the optimiser, entry by entry

The new first moment, the new second moment and the change of the parameter, each a function of one entry of the
gradient, the parameter and the two moments. The constants are the words that both programs write. -/

@[expose] public section

noncomputable section

namespace Cert.Adam

open Idealize.ShloMosaic

/-- The new first moment. -/
def mom (g m : EReal) : EReal := Ideal.ofBits .f32 0x3F666666#32 * m + Ideal.ofBits .f32 0x3DCCCCCD#32 * g

/-- The new second moment. -/
def var (g v : EReal) : EReal := Ideal.ofBits .f32 0x3F7FBE77#32 * v + Ideal.ofBits .f32 0x3A83126F#32 * (g * g)

/-- The change of the parameter: the corrected first moment over the root of the corrected second one, with the decay. -/
def step (g w m v : EReal) : EReal :=
  Ideal.ofBits .f32 0xBA83126F#32 *
    (Ideal.div (Ideal.div (mom g m) (Ideal.ofBits .f32 0x3F26BD02#32))
        (Ideal.sqrt (Ideal.div (var g v) (Ideal.ofBits .f32 0x3C231ACC#32)) + Ideal.ofBits .f32 0x322BCC77#32)
      + Ideal.ofBits .f32 0x3C23D70A#32 * w)

variable {s : Shape}

/-- The three, over arrays. -/
def moms (g m : Vec Ideal s .f32) : Vec Ideal s .f32 := fun i => mom (g i) (m i)
def vars (g v : Vec Ideal s .f32) : Vec Ideal s .f32 := fun i => var (g i) (v i)
def steps (g w m v : Vec Ideal s .f32) : Vec Ideal s .f32 := fun i => step (g i) (w i) (m i) (v i)

end Cert.Adam
-- ==== Proof.AdaGrad.lean ====
module

public import proofs.«01_k».proof.Defs
public import proofs.«01_k».proof.Proof.Gen.Kernel13Ideal.Frame
public import proofs.«01_k».proof.Proof.Gen.Reference13Ideal.Read
public import proofs.«01_k».proof.Proof.Adam
public import Idealize.ShloMosaic.Lib.Pipeline.Value
public import Idealize.ShloMosaic.Lib.Pointwise
public import Idealize.ShloMosaic.Lib.Pipeline.ValueKit
public import Idealize.ShloMosaic.Adequacy
public import Idealize.ShloMosaic.Init

/-! # The gradient of the modulation's weight and the optimiser's step on it -/

@[expose] public section

set_option maxRecDepth 16384

noncomputable section

namespace Cert.Ada

open Idealize.ShloMosaic

/-- The conditioning's activation. -/
def silu (c : EReal) : EReal :=
  c * Ideal.div (Ideal.ofBits .f32 0x3F800000#32) (Ideal.ofBits .f32 0x3F800000#32 + Ideal.exp (-c))

theorem silu_eq (c : EReal) : c * Ideal.div 1 (1 + Ideal.exp (0 - c)) = silu c := by
  unfold silu
  rw [Ideal.ofBits_one_f32, sub_eq_add_neg, zero_add]

variable (x0 : Vec Ideal ⟨2, ![8, 1024]⟩ .f32) (x1 : Vec Ideal ⟨2, ![8, 768]⟩ .f32)

/-- An entry of the weight's gradient: the sum over the eight examples. -/
def grad (i : Fin 1024) (j : Fin 768) : EReal := ∑ b : Fin 8, x1 (ix2 b j) * silu (x0 (ix2 b i))

end Cert.Ada

/-! ## The kernel's arrays -/

namespace Cert.Kernel13Ideal.Blocks

open Cert.Kernel13Ideal Cert.Kernel13Ideal.Gen
open Idealize.ShloMosaic Idealize.ShloMosaic.TcCoe Idealize.SL.Sem
open Idealize.ShloMosaic.Pipeline (Dat)

variable (m : (ℓ : Loc nD τ sig) → Buf (Elt Ideal) ℓ)

abbrev arg0 (c : Dev nD) : Vec Ideal S8x1024 .f32 := m ((c : Thread nD τ).loc main_arg0)
abbrev arg1 (c : Dev nD) : Vec Ideal S8x768 .f32 := m ((c : Thread nD τ).loc main_arg1)
abbrev arg2 (c : Dev nD) : Vec Ideal S1024x768 .f32 := m ((c : Thread nD τ).loc main_arg2)
abbrev arg3 (c : Dev nD) : Vec Ideal S1024x768 .f32 := m ((c : Thread nD τ).loc main_arg3)
abbrev arg4 (c : Dev nD) : Vec Ideal S1024x768 .f32 := m ((c : Thread nD τ).loc main_arg4)

/-- The run, with each output's final array named and the operands unchanged. -/
theorem run_arrays (ρ : Dev nD → PrngReg) :
    θ_run (defs (F := Ideal)) (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_v0_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩)
    (run_main m ρ)

/-- One example's activations, as a column. -/
theorem act_apply (C : Vec Ideal S8x256 .f32) (r : Fin 256) (b : Fin 8) : k0_pay2 C (ix2 r b) = Ada.silu (C (ix2 b r)) := by
  pointwise [k0_pay2]
  exact Ada.silu_eq (C (ix2 b r))

theorem five_apply (C : Vec Ideal S8x256 .f32) (d0 d1 d2 d3 d4 : Vec Ideal S1x768 .f32) (r : Fin 256) (j : Fin 768) :
    k0_pay3 C d0 d1 d2 d3 d4 (ix2 r j) = k0_pay2 C (ix2 r 0) * d0 (ix2 0 j) + k0_pay2 C (ix2 r 1) * d1 (ix2 0 j)
      + k0_pay2 C (ix2 r 2) * d2 (ix2 0 j) + k0_pay2 C (ix2 r 3) * d3 (ix2 0 j) + k0_pay2 C (ix2 r 4) * d4 (ix2 0 j) := by
  unfold k0_pay3
  generalize k0_pay2 C = s
  pointwise

theorem sixth_apply (C : Vec Ideal S8x256 .f32) (r : Fin 256) (j : Fin 768) : k0_pay4 C (ix2 r j) = k0_pay2 C (ix2 r 5) := by
  unfold k0_pay4
  generalize k0_pay2 C = s
  pointwise

theorem eight_apply (s : FVec Ideal S256x8 .f32) (p q : FVec Ideal S256x768 .f32) (d5 d6 d7 : Vec Ideal S1x768 .f32) (r : Fin 256) (j : Fin 768) :
    k0_pay5 s p d5 q d6 d7 (ix2 r j) = p (ix2 r j) + q (ix2 r j) * d5 (ix2 0 j) + s (ix2 r 6) * d6 (ix2 0 j) + s (ix2 r 7) * d7 (ix2 0 j) := by
  pointwise [k0_pay5]

theorem ld_row (D : Vec Ideal S8x768 .f32) (k : Fin 8) (h) (j : Fin 768) :
    View.ld D (Rect.unit (s := S8x768) ![k.val, 0] S1x768.size h) (ix2 (0 : Fin 1) j) = D (ix2 k j) := by
  refine View.ld_unit_apply_of D _ _ _ _ (ix2 k j) ?_
  intro a
  match a with
  | ⟨0, _⟩ => rfl
  | ⟨1, _⟩ => exact (Nat.zero_add j.val).symm

/-- The block of the gradient. -/
abbrev gv (C : Vec Ideal S8x256 .f32) (D : Vec Ideal S8x768 .f32) : FVec Ideal S256x768 .f32 :=
  k0_pay5 (k0_pay2 C) (k0_pay3 C (View.ld D r0_1) (View.ld D r0_2) (View.ld D r0_3) (View.ld D r0_4) (View.ld D r0_5)) (View.ld D r0_6) (k0_pay4 C) (View.ld D r0_7) (View.ld D r0_8)

theorem gv_apply (C : Vec Ideal S8x256 .f32) (D : Vec Ideal S8x768 .f32) (r : Fin 256) (j : Fin 768) :
    gv C D (ix2 r j) = ∑ b : Fin 8, Ada.silu (C (ix2 b r)) * D (ix2 b j) := by
  have e0 : View.ld D r0_1 (ix2 (0 : Fin 1) j) = D (ix2 0 j) := ld_row D 0 _ j
  have e1 : View.ld D r0_2 (ix2 (0 : Fin 1) j) = D (ix2 1 j) := ld_row D 1 _ j
  have e2 : View.ld D r0_3 (ix2 (0 : Fin 1) j) = D (ix2 2 j) := ld_row D 2 _ j
  have e3 : View.ld D r0_4 (ix2 (0 : Fin 1) j) = D (ix2 3 j) := ld_row D 3 _ j
  have e4 : View.ld D r0_5 (ix2 (0 : Fin 1) j) = D (ix2 4 j) := ld_row D 4 _ j
  have e5 : View.ld D r0_6 (ix2 (0 : Fin 1) j) = D (ix2 5 j) := ld_row D 5 _ j
  have e6 : View.ld D r0_7 (ix2 (0 : Fin 1) j) = D (ix2 6 j) := ld_row D 6 _ j
  have e7 : View.ld D r0_8 (ix2 (0 : Fin 1) j) = D (ix2 7 j) := ld_row D 7 _ j
  refine (eight_apply _ _ _ _ _ _ r j).trans ?_
  rw [five_apply, sixth_apply]
  simp only [act_apply]
  rw [e0, e1, e2, e3, e4, e5, e6, e7]
  exact (Fin.sum_univ_eight (fun b : Fin 8 => Ada.silu (C (ix2 b r)) * D (ix2 b j))).symm

theorem moms_eq (s : FVec Ideal S256x8 .f32) (p q : FVec Ideal S256x768 .f32) (d5 d6 d7 : Vec Ideal S1x768 .f32) (M : Vec Ideal S256x768 .f32) :
    k0_pay6 s p d5 q d6 d7 M = Adam.moms (k0_pay5 s p d5 q d6 d7) M := rfl

theorem vars_eq (s : FVec Ideal S256x8 .f32) (p q : FVec Ideal S256x768 .f32) (d5 d6 d7 : Vec Ideal S1x768 .f32) (N : Vec Ideal S256x768 .f32) :
    k0_pay7 s p d5 q d6 d7 N = Adam.vars (k0_pay5 s p d5 q d6 d7) N := rfl

theorem steps_eq (s : FVec Ideal S256x8 .f32) (p q : FVec Ideal S256x768 .f32) (d5 d6 d7 : Vec Ideal S1x768 .f32) (W M N : Vec Ideal S256x768 .f32) :
    k0_pay1 W (k0_pay8 s p d5 q d6 d7 M N) (k0_pay9 (F := Ideal)) = Adam.steps (k0_pay5 s p d5 q d6 d7) W M N := by
  unfold k0_pay1 k0_pay8
  rw [moms_eq, vars_eq]
  generalize k0_pay5 s p d5 q d6 d7 = g
  rfl

theorem flat : (![0, 0] : Fin 2 → Nat) = fun _ => 0 := funext fun a => by match a with | ⟨0, _⟩ => rfl | ⟨1, _⟩ => rfl

section Stores

variable (C : Vec Ideal S8x256 .f32) (D : Vec Ideal S8x768 .f32) (W M N : Vec Ideal S256x768 .f32)

theorem ld_cond : View.ld C r0_0 = C := View.ld_unit_zero (S := S8x256) flat _ C
theorem ld_block : View.ld W r0_9 = W := View.ld_unit_zero (S := S256x768) flat _ W

theorem gv_eq : k0_pay5 (k0_pay10 C D W M N) (k0_pay11 C D W M N) (View.ld D r0_6) (k0_pay12 C D W M N) (View.ld D r0_7) (View.ld D r0_8) = gv C D := by
  unfold k0_pay10 k0_pay11 k0_pay12
  rw [ld_cond]

theorem store5 : out0_5 C D W M N = gv C D := by
  unfold out0_5
  exact (View.canon_unit_zero (S := S256x768) flat _ _).trans (gv_eq C D W M N)

theorem store6 : out0_6 C D W M N = Adam.steps (gv C D) W M N := by
  unfold out0_6
  refine (View.canon_unit_zero (S := S256x768) flat _ _).trans ?_
  rw [steps_eq, gv_eq, ld_block, ld_block, ld_block]

theorem store7 : out0_7 C D W M N = Adam.moms (gv C D) M := by
  unfold out0_7
  refine (View.canon_unit_zero (S := S256x768) flat _ _).trans ?_
  rw [moms_eq, gv_eq, ld_block]

theorem store8 : out0_8 C D W M N = Adam.vars (gv C D) N := by
  unfold out0_8
  refine (View.canon_unit_zero (S := S256x768) flat _ _).trans ?_
  rw [vars_eq, gv_eq, ld_block]

end Stores

/-- The row of the array that a row of a block is. -/
def row (t : Fin cfg0.N) (r : Fin 256) : Fin 1024 := ⟨256 * t.val + r.val, by have h : t.val < 4 := lt_of_lt_of_eq t.isLt (show cfg0.N = 4 from N_0); omega⟩

theorem place : ∀ t : Fin cfg0.N, win0_0.index t = ![0, t.val] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![0, t.val] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0])

theorem blk0 (c : Dev nD) (t : Fin cfg0.N) (b : Fin 8) (r : Fin 256) : (iblk m c 0 t : Vec Ideal S8x256 .f32) (ix2 b r) = arg0 m c (ix2 b (row t r)) := by
  rw [show arg0 m c = V m c main_arg0 from (V_main_arg0 m c).symm]
  unfold row
  have h := place t
  blk_ext [iblk, h]

theorem blk1 (c : Dev nD) (t : Fin cfg0.N) (b : Fin 8) (j : Fin 768) : (iblk m c 1 t : Vec Ideal S8x768 .f32) (ix2 b j) = arg1 m c (ix2 b j) := by
  rw [show arg1 m c = V m c main_arg1 from (V_main_arg1 m c).symm]
  have h := place t
  blk_ext [iblk, h]

theorem blk2 (c : Dev nD) (t : Fin cfg0.N) (r : Fin 256) (j : Fin 768) : (iblk m c 2 t : Vec Ideal S256x768 .f32) (ix2 r j) = arg2 m c (ix2 (row t r) j) := by
  rw [show arg2 m c = V m c main_arg2 from (V_main_arg2 m c).symm]
  unfold row
  have h := place t
  blk_ext [iblk, h]

theorem blk3 (c : Dev nD) (t : Fin cfg0.N) (r : Fin 256) (j : Fin 768) : (iblk m c 3 t : Vec Ideal S256x768 .f32) (ix2 r j) = arg3 m c (ix2 (row t r) j) := by
  rw [show arg3 m c = V m c main_arg3 from (V_main_arg3 m c).symm]
  unfold row
  have h := place t
  blk_ext [iblk, h]

theorem blk4 (c : Dev nD) (t : Fin cfg0.N) (r : Fin 256) (j : Fin 768) : (iblk m c 4 t : Vec Ideal S256x768 .f32) (ix2 r j) = arg4 m c (ix2 (row t r) j) := by
  rw [show arg4 m c = V m c main_arg4 from (V_main_arg4 m c).symm]
  unfold row
  have h := place t
  blk_ext [iblk, h]

theorem grad_at (c : Dev nD) (t : Fin cfg0.N) (r : Fin 256) (j : Fin 768) :
    gv (iblk m c 0 t) (iblk m c 1 t) (ix2 r j) = Ada.grad (arg0 m c) (arg1 m c) (row t r) j := by
  refine (gv_apply _ _ r j).trans ?_
  unfold Ada.grad
  exact Finset.sum_congr rfl fun b _ => (congrArg₂ (fun p q : EReal => Ada.silu p * q) (blk0 m c t b r) (blk1 m c t b j)).trans (mul_comm _ _)

/-- An entry of output 0. -/
def out5 (c : Dev nD) (i : Fin 1024) (j : Fin 768) : EReal := Ada.grad (arg0 m c) (arg1 m c) i j

theorem at5 (c : Dev nD) (t : Fin cfg0.N) (y : S256x768.Idx) : (dats m 0 c).after 5 t y = out5 m c (row t (y 0)) (y 1) := by
  rw [after0_5, store5]
  exact (congrArg (gv (iblk m c 0 t) (iblk m c 1 t)) (eq_ix2 y)).trans (grad_at m c t (y 0) (y 1))

theorem arr5 (c : Dev nD) : (dats m 0 c).arrAt 5 cfg0.N = (fun i => out5 m c (i 0) (i 1) : Vec Ideal S1024x768 .f32) := by
  refine (dats m 0 c).arrAt_eq_of_covers 5 _ (by decide +kernel) fun t _ y => ?_
  refine (at5 m c t y).trans ?_
  have h := place t
  have e0 : win0_5.index t 0 = t.val := by rw [h.2.2.2.2.2.1]; rfl
  have e1 : win0_5.index t 1 = 0 := by rw [h.2.2.2.2.2.1]; rfl
  show out5 m c (row t (y 0)) (y 1) = out5 m c _ _
  refine congrArg₂ (out5 m c) (Fin.ext ?_) (Fin.ext ?_)
  · show 256 * t.val + (y 0).val = win0_5.index t 0 * 256 + 1 * (y 0).val
    omega
  · show (y 1).val = win0_5.index t 1 * 768 + 1 * (y 1).val
    omega

/-- An entry of output 1. -/
def out6 (c : Dev nD) (i : Fin 1024) (j : Fin 768) : EReal := Adam.step (Ada.grad (arg0 m c) (arg1 m c) i j) (arg2 m c (ix2 i j)) (arg3 m c (ix2 i j)) (arg4 m c (ix2 i j))

theorem co6 (c : Dev nD) (t : Fin cfg0.N) (r : Fin 256) (j : Fin 768) :
    Adam.step (gv (iblk m c 0 t) (iblk m c 1 t) (ix2 r j)) ((iblk m c 2 t : Vec Ideal S256x768 .f32) (ix2 r j)) ((iblk m c 3 t : Vec Ideal S256x768 .f32) (ix2 r j)) ((iblk m c 4 t : Vec Ideal S256x768 .f32) (ix2 r j)) = out6 m c (row t r) j := by
  unfold out6
  rw [grad_at m c t r j, blk2 m c t r j, blk3 m c t r j, blk4 m c t r j]

theorem at6 (c : Dev nD) (t : Fin cfg0.N) (y : S256x768.Idx) : (dats m 0 c).after 6 t y = out6 m c (row t (y 0)) (y 1) := by
  rw [after0_6, store6]
  exact (congrArg (Adam.steps (gv (iblk m c 0 t) (iblk m c 1 t)) (iblk m c 2 t : Vec Ideal S256x768 .f32) (iblk m c 3 t : Vec Ideal S256x768 .f32) (iblk m c 4 t : Vec Ideal S256x768 .f32)) (eq_ix2 y)).trans (co6 m c t (y 0) (y 1))

theorem arr6 (c : Dev nD) : (dats m 0 c).arrAt 6 cfg0.N = (fun i => out6 m c (i 0) (i 1) : Vec Ideal S1024x768 .f32) := by
  refine (dats m 0 c).arrAt_eq_of_covers 6 _ (by decide +kernel) fun t _ y => ?_
  refine (at6 m c t y).trans ?_
  have h := place t
  have e0 : win0_6.index t 0 = t.val := by rw [h.2.2.2.2.2.2.1]; rfl
  have e1 : win0_6.index t 1 = 0 := by rw [h.2.2.2.2.2.2.1]; rfl
  show out6 m c (row t (y 0)) (y 1) = out6 m c _ _
  refine congrArg₂ (out6 m c) (Fin.ext ?_) (Fin.ext ?_)
  · show 256 * t.val + (y 0).val = win0_6.index t 0 * 256 + 1 * (y 0).val
    omega
  · show (y 1).val = win0_6.index t 1 * 768 + 1 * (y 1).val
    omega

/-- An entry of output 2. -/
def out7 (c : Dev nD) (i : Fin 1024) (j : Fin 768) : EReal := Adam.mom (Ada.grad (arg0 m c) (arg1 m c) i j) (arg3 m c (ix2 i j))

theorem co7 (c : Dev nD) (t : Fin cfg0.N) (r : Fin 256) (j : Fin 768) :
    Adam.mom (gv (iblk m c 0 t) (iblk m c 1 t) (ix2 r j)) ((iblk m c 3 t : Vec Ideal S256x768 .f32) (ix2 r j)) = out7 m c (row t r) j := by
  unfold out7
  rw [grad_at m c t r j, blk3 m c t r j]

theorem at7 (c : Dev nD) (t : Fin cfg0.N) (y : S256x768.Idx) : (dats m 0 c).after 7 t y = out7 m c (row t (y 0)) (y 1) := by
  rw [after0_7, store7]
  exact (congrArg (Adam.moms (gv (iblk m c 0 t) (iblk m c 1 t)) (iblk m c 3 t : Vec Ideal S256x768 .f32)) (eq_ix2 y)).trans (co7 m c t (y 0) (y 1))

theorem arr7 (c : Dev nD) : (dats m 0 c).arrAt 7 cfg0.N = (fun i => out7 m c (i 0) (i 1) : Vec Ideal S1024x768 .f32) := by
  refine (dats m 0 c).arrAt_eq_of_covers 7 _ (by decide +kernel) fun t _ y => ?_
  refine (at7 m c t y).trans ?_
  have h := place t
  have e0 : win0_7.index t 0 = t.val := by rw [h.2.2.2.2.2.2.2.1]; rfl
  have e1 : win0_7.index t 1 = 0 := by rw [h.2.2.2.2.2.2.2.1]; rfl
  show out7 m c (row t (y 0)) (y 1) = out7 m c _ _
  refine congrArg₂ (out7 m c) (Fin.ext ?_) (Fin.ext ?_)
  · show 256 * t.val + (y 0).val = win0_7.index t 0 * 256 + 1 * (y 0).val
    omega
  · show (y 1).val = win0_7.index t 1 * 768 + 1 * (y 1).val
    omega

/-- An entry of output 3. -/
def out8 (c : Dev nD) (i : Fin 1024) (j : Fin 768) : EReal := Adam.var (Ada.grad (arg0 m c) (arg1 m c) i j) (arg4 m c (ix2 i j))

theorem co8 (c : Dev nD) (t : Fin cfg0.N) (r : Fin 256) (j : Fin 768) :
    Adam.var (gv (iblk m c 0 t) (iblk m c 1 t) (ix2 r j)) ((iblk m c 4 t : Vec Ideal S256x768 .f32) (ix2 r j)) = out8 m c (row t r) j := by
  unfold out8
  rw [grad_at m c t r j, blk4 m c t r j]

theorem at8 (c : Dev nD) (t : Fin cfg0.N) (y : S256x768.Idx) : (dats m 0 c).after 8 t y = out8 m c (row t (y 0)) (y 1) := by
  rw [after0_8, store8]
  exact (congrArg (Adam.vars (gv (iblk m c 0 t) (iblk m c 1 t)) (iblk m c 4 t : Vec Ideal S256x768 .f32)) (eq_ix2 y)).trans (co8 m c t (y 0) (y 1))

theorem arr8 (c : Dev nD) : (dats m 0 c).arrAt 8 cfg0.N = (fun i => out8 m c (i 0) (i 1) : Vec Ideal S1024x768 .f32) := by
  refine (dats m 0 c).arrAt_eq_of_covers 8 _ (by decide +kernel) fun t _ y => ?_
  refine (at8 m c t y).trans ?_
  have h := place t
  have e0 : win0_8.index t 0 = t.val := by rw [h.2.2.2.2.2.2.2.2]; rfl
  have e1 : win0_8.index t 1 = 0 := by rw [h.2.2.2.2.2.2.2.2]; rfl
  show out8 m c (row t (y 0)) (y 1) = out8 m c _ _
  refine congrArg₂ (out8 m c) (Fin.ext ?_) (Fin.ext ?_)
  · show 256 * t.val + (y 0).val = win0_8.index t 0 * 256 + 1 * (y 0).val
    omega
  · show (y 1).val = win0_8.index t 1 * 768 + 1 * (y 1).val
    omega

end Cert.Kernel13Ideal.Blocks

/-! ## The reference -/

namespace Cert.Reference13Ideal.Rows

open Cert.Reference13Ideal Cert.Reference13Ideal.Gen Cert.Reference13Ideal.Read
open Idealize.ShloMosaic Idealize.ShloMosaic.TcCoe Idealize.SL.Sem

variable (x0 : Vec Ideal S8x1024 .f32) (x1 : Vec Ideal S8x768 .f32) (x2 x3 x4 : Vec Ideal S1024x768 .f32)

theorem act_at (b : Fin 8) (i : Fin 1024) : val_main_v0 (F := Ideal) x0 (ix2 b i) = Ada.silu (x0 (ix2 b i)) := rfl

theorem grad_at (i : Fin 1024) (j : Fin 768) : val_main_v3 (F := Ideal) x0 x1 (ix2 i j) = Ada.grad x0 x1 i j := by
  unfold val_main_v3 val_main_v2
  have e : ∀ (b : Fin 8), val_main_v0 (F := Ideal) x0 (ix2 b i) = Ada.silu (x0 (ix2 b i)) := fun b => act_at x0 b i
  generalize val_main_v0 (F := Ideal) x0 = s at e ⊢
  pointwise
  exact Finset.sum_congr rfl fun b _ => congrArg (x1 (ix2 b j) * ·) (e b)

theorem grad_whole : val_main_v3 (F := Ideal) x0 x1 = (fun i => Ada.grad x0 x1 (i 0) (i 1) : Vec Ideal S1024x768 .f32) :=
  funext fun i => (congrArg (val_main_v3 (F := Ideal) x0 x1) (eq_ix2 i)).trans (grad_at x0 x1 (i 0) (i 1))

theorem step_whole : val_main_v27 (F := Ideal) x0 x1 x2 x3 x4
    = (fun i => Adam.step (Ada.grad x0 x1 (i 0) (i 1)) (x2 (ix2 (i 0) (i 1))) (x3 (ix2 (i 0) (i 1))) (x4 (ix2 (i 0) (i 1))) : Vec Ideal S1024x768 .f32) :=
  funext fun i => by
    show Adam.step (val_main_v3 (F := Ideal) x0 x1 i) (x2 i) (x3 i) (x4 i) = _
    rw [grad_whole, ← eq_ix2 i]

theorem mom_whole : val_main_v8 (F := Ideal) x0 x1 x3
    = (fun i => Adam.mom (Ada.grad x0 x1 (i 0) (i 1)) (x3 (ix2 (i 0) (i 1))) : Vec Ideal S1024x768 .f32) :=
  funext fun i => by
    show Adam.mom (val_main_v3 (F := Ideal) x0 x1 i) (x3 i) = _
    rw [grad_whole, ← eq_ix2 i]

theorem var_whole : val_main_v14 (F := Ideal) x0 x1 x4
    = (fun i => Adam.var (Ada.grad x0 x1 (i 0) (i 1)) (x4 (ix2 (i 0) (i 1))) : Vec Ideal S1024x768 .f32) :=
  funext fun i => by
    show Adam.var (val_main_v3 (F := Ideal) x0 x1 i) (x4 i) = _
    rw [grad_whole, ← eq_ix2 i]

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = (fun i => Ada.grad (m ((c.tc : Thread nD τ).loc main_arg0)) (m ((c.tc : Thread nD τ).loc main_arg1)) (i 0) (i 1) : Vec Ideal S1024x768 .f32)
      ∧ r.2.mem ((c.tc : Thread nD τ).loc main_v27) = (fun i => Adam.step (Ada.grad (m ((c.tc : Thread nD τ).loc main_arg0)) (m ((c.tc : Thread nD τ).loc main_arg1)) (i 0) (i 1)) ((m ((c.tc : Thread nD τ).loc main_arg2)) (ix2 (i 0) (i 1))) ((m ((c.tc : Thread nD τ).loc main_arg3)) (ix2 (i 0) (i 1))) ((m ((c.tc : Thread nD τ).loc main_arg4)) (ix2 (i 0) (i 1))) : Vec Ideal S1024x768 .f32)
      ∧ r.2.mem ((c.tc : Thread nD τ).loc main_v8) = (fun i => Adam.mom (Ada.grad (m ((c.tc : Thread nD τ).loc main_arg0)) (m ((c.tc : Thread nD τ).loc main_arg1)) (i 0) (i 1)) ((m ((c.tc : Thread nD τ).loc main_arg3)) (ix2 (i 0) (i 1))) : Vec Ideal S1024x768 .f32)
      ∧ r.2.mem ((c.tc : Thread nD τ).loc main_v14) = (fun i => Adam.var (Ada.grad (m ((c.tc : Thread nD τ).loc main_arg0)) (m ((c.tc : Thread nD τ).loc main_arg1)) (i 0) (i 1)) ((m ((c.tc : Thread nD τ).loc main_arg4)) (ix2 (i 0) (i 1))) : Vec Ideal S1024x768 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.Reference13Ideal.Value.run m ρ)
  obtain ⟨k0, k1, k2, k3, ha⟩ := h c
  exact ⟨(k0.trans (val_main_v3_eq _ _)).trans (grad_whole _ _), (k1.trans (val_main_v27_eq _ _ _ _ _)).trans (step_whole _ _ _ _ _),
    (k2.trans (val_main_v8_eq _ _ _)).trans (mom_whole _ _ _), (k3.trans (val_main_v14_eq _ _ _)).trans (var_whole _ _ _), ha⟩

end Cert.Reference13Ideal.Rows

/-! ## The two runs side by side -/

namespace Cert.AdaGrad

open Idealize.ShloMosaic Idealize.SL.Sem

theorem frame_ref : Cert.quiescent_Reference13Ideal := by
  intro m ρ _
  exact (θ_run Cert.Reference13Ideal.defs _ _).mono (fun r h => ⟨fun c => (h c).2.2.2.2, sem_eq_zero_of_no_sems (by decide) r.2⟩) (Cert.Reference13Ideal.Rows.run_whole m ρ)

theorem algebraic : Cert.algebraic_Kernel13Ideal_Reference13Ideal := by
  intro m g m' g' _ hag
  refine ⟨fun c => fun i => Ada.grad (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (i 0) (i 1),
    fun c => fun i => Adam.step (Ada.grad (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (i 0) (i 1)) ((m ((c.tc : Thread Cert.Kernel13Ideal.nD Cert.Kernel13Ideal.τ).loc Cert.Kernel13Ideal.main_arg2)) (ix2 (i 0) (i 1))) ((m ((c.tc : Thread Cert.Kernel13Ideal.nD Cert.Kernel13Ideal.τ).loc Cert.Kernel13Ideal.main_arg3)) (ix2 (i 0) (i 1))) ((m ((c.tc : Thread Cert.Kernel13Ideal.nD Cert.Kernel13Ideal.τ).loc Cert.Kernel13Ideal.main_arg4)) (ix2 (i 0) (i 1))),
    fun c => fun i => Adam.mom (Ada.grad (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (i 0) (i 1)) ((m ((c.tc : Thread Cert.Kernel13Ideal.nD Cert.Kernel13Ideal.τ).loc Cert.Kernel13Ideal.main_arg3)) (ix2 (i 0) (i 1))),
    fun c => fun i => Adam.var (Ada.grad (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (i 0) (i 1)) ((m ((c.tc : Thread Cert.Kernel13Ideal.nD Cert.Kernel13Ideal.τ).loc Cert.Kernel13Ideal.main_arg4)) (ix2 (i 0) (i 1))), ?_, ?_⟩
  · refine (θ_run Cert.Kernel13Ideal.defs _ _).mono (fun r h c => ?_) (Cert.Kernel13Ideal.Blocks.run_arrays m g)
    obtain ⟨k0, k1, k2, k3, ha⟩ := h c
    exact ⟨k0.trans (Cert.Kernel13Ideal.Blocks.arr5 m c), k1.trans (Cert.Kernel13Ideal.Blocks.arr6 m c), k2.trans (Cert.Kernel13Ideal.Blocks.arr7 m c), k3.trans (Cert.Kernel13Ideal.Blocks.arr8 m c), ha⟩
  · refine (θ_run Cert.Reference13Ideal.defs _ _).mono (fun r h c => ?_) (Cert.Reference13Ideal.Rows.run_whole m' g')
    obtain ⟨k0, k1, k2, k3, ha⟩ := h c
    obtain ⟨e0, e1, e2, e3, e4⟩ := hag c
    rw [e0, e1] at k0
    rw [e0, e1, e2, e3, e4] at k1
    rw [e0, e1, e3] at k2
    rw [e0, e1, e4] at k3
    exact ⟨k0, k1, k2, k3, ha⟩

end Cert.AdaGrad
-- ==== Proof.Taps.lean ====
module

public import proofs.«01_k».proof.Defs
public import proofs.«01_k».proof.Proof.Gen.Kernel14Ideal.Value
public import proofs.«01_k».proof.Proof.Gen.Reference14Ideal.Read
public import proofs.«01_k».proof.Proof.Adam
public import Idealize.ShloMosaic.Adequacy
public import Idealize.ShloMosaic.Init

/-! # The optimiser's step on the taps of the two convolutions -/

@[expose] public section

set_option maxRecDepth 16384

noncomputable section

/-! ## The kernel's arrays -/

namespace Cert.Kernel14Ideal.Blocks

open Cert.Kernel14Ideal Cert.Kernel14Ideal.Gen Cert.Kernel14Ideal.Value
open Idealize.ShloMosaic Idealize.ShloMosaic.TcCoe Idealize.SL.Sem

theorem mom_long (g m : Vec Ideal S31x64 .f32) : k0_pay1 (F := Ideal) g m = Adam.moms g m := rfl
theorem var_long (g v : Vec Ideal S31x64 .f32) : k0_pay2 (F := Ideal) g v = Adam.vars g v := rfl
theorem step_long (g w m v : Vec Ideal S31x64 .f32) : k0_pay3 (F := Ideal) w g m v = Adam.steps g w m v := rfl
theorem mom_short (g m : Vec Ideal S3x704 .f32) : k0_pay4 (F := Ideal) g m = Adam.moms g m := rfl
theorem var_short (g v : Vec Ideal S3x704 .f32) : k0_pay5 (F := Ideal) g v = Adam.vars g v := rfl
theorem step_short (g w m v : Vec Ideal S3x704 .f32) : k0_pay6 (F := Ideal) w g m v = Adam.steps g w m v := rfl

end Cert.Kernel14Ideal.Blocks

/-! ## The reference -/

namespace Cert.Reference14Ideal.Rows

open Cert.Reference14Ideal Cert.Reference14Ideal.Gen Cert.Reference14Ideal.Read
open Idealize.ShloMosaic Idealize.ShloMosaic.TcCoe Idealize.SL.Sem

theorem mom_long (g m : Vec Ideal S31x64 .f32) : val_main_v4 (F := Ideal) g m = Adam.moms g m := rfl
theorem var_long (g v : Vec Ideal S31x64 .f32) : val_main_v10 (F := Ideal) g v = Adam.vars g v := rfl
theorem step_long (g w m v : Vec Ideal S31x64 .f32) : val_main_v23 (F := Ideal) g w m v = Adam.steps g w m v := rfl
theorem mom_short (g m : Vec Ideal S3x704 .f32) : val_main_v28 (F := Ideal) g m = Adam.moms g m := rfl
theorem var_short (g v : Vec Ideal S3x704 .f32) : val_main_v34 (F := Ideal) g v = Adam.vars g v := rfl
theorem step_short (g w m v : Vec Ideal S3x704 .f32) : val_main_v47 (F := Ideal) g w m v = Adam.steps g w m v := rfl

theorem run_whole (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = (m ((c.tc : Thread nD τ).loc main_arg0))
      ∧ r.2.mem ((c.tc : Thread nD τ).loc main_v23) = Adam.steps (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Adam.moms (m ((c.tc : Thread nD τ).loc main_arg0)) (m ((c.tc : Thread nD τ).loc main_arg2))
      ∧ r.2.mem ((c.tc : Thread nD τ).loc main_v10) = Adam.vars (m ((c.tc : Thread nD τ).loc main_arg0)) (m ((c.tc : Thread nD τ).loc main_arg3))
      ∧ r.2.mem ((c.tc : Thread nD τ).loc main_arg4) = (m ((c.tc : Thread nD τ).loc main_arg4))
      ∧ r.2.mem ((c.tc : Thread nD τ).loc main_v47) = Adam.steps (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = Adam.moms (m ((c.tc : Thread nD τ).loc main_arg4)) (m ((c.tc : Thread nD τ).loc main_arg6))
      ∧ r.2.mem ((c.tc : Thread nD τ).loc main_v34) = Adam.vars (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Cert.Reference14Ideal.Value.run m ρ)
  obtain ⟨k0, k1, k2, k3, k4, k5, k6, k7, ha⟩ := h c
  exact ⟨k0, (k1.trans (val_main_v23_eq _ _ _ _)).trans (step_long _ _ _ _), (k2.trans (val_main_v4_eq _ _)).trans (mom_long _ _), (k3.trans (val_main_v10_eq _ _)).trans (var_long _ _),
    k4, (k5.trans (val_main_v47_eq _ _ _ _)).trans (step_short _ _ _ _), (k6.trans (val_main_v28_eq _ _)).trans (mom_short _ _), (k7.trans (val_main_v34_eq _ _)).trans (var_short _ _), ha⟩

end Cert.Reference14Ideal.Rows

/-! ## The two runs side by side -/

namespace Cert.Taps

open Idealize.ShloMosaic Idealize.SL.Sem

theorem frame_ref : Cert.quiescent_Reference14Ideal := by
  intro m ρ _
  exact (θ_run Cert.Reference14Ideal.defs _ _).mono (fun r h => ⟨fun c => (h c).2.2.2.2.2.2.2.2, sem_eq_zero_of_no_sems (by decide) r.2⟩) (Cert.Reference14Ideal.Rows.run_whole m ρ)

theorem algebraic : Cert.algebraic_Kernel14Ideal_Reference14Ideal := by
  intro m g m' g' _ hag
  refine ⟨fun c => (m ((c.tc : Thread Cert.Kernel14Ideal.nD Cert.Kernel14Ideal.τ).loc Cert.Kernel14Ideal.main_arg0)), fun c => Adam.steps (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), fun c => Adam.moms (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg2)), fun c => Adam.vars (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg3)), fun c => (m ((c.tc : Thread Cert.Kernel14Ideal.nD Cert.Kernel14Ideal.τ).loc Cert.Kernel14Ideal.main_arg4)), fun c => Adam.steps (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)), fun c => Adam.moms (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg6)), fun c => Adam.vars (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg7)), ?_, ?_⟩
  · refine (θ_run Cert.Kernel14Ideal.defs _ _).mono (fun r h c => ?_) (Cert.Kernel14Ideal.Value.run m g)
    obtain ⟨k0, k1, k2, k3, k4, k5, k6, k7, ha⟩ := h c
    exact ⟨k0, k1.trans (Kernel14Ideal.Blocks.step_long _ _ _ _), k2.trans (Kernel14Ideal.Blocks.mom_long _ _), k3.trans (Kernel14Ideal.Blocks.var_long _ _),
      k4, k5.trans (Kernel14Ideal.Blocks.step_short _ _ _ _), k6.trans (Kernel14Ideal.Blocks.mom_short _ _), k7.trans (Kernel14Ideal.Blocks.var_short _ _), ha⟩
  · refine (θ_run Cert.Reference14Ideal.defs _ _).mono (fun r h c => ?_) (Cert.Reference14Ideal.Rows.run_whole m' g')
    obtain ⟨k0, k1, k2, k3, k4, k5, k6, k7, ha⟩ := h c
    obtain ⟨e0, e1, e2, e3, e4, e5, e6, e7⟩ := hag c
    rw [e0] at k0
    rw [e0, e1, e2, e3] at k1
    rw [e0, e2] at k2
    rw [e0, e3] at k3
    rw [e4] at k4
    rw [e4, e5, e6, e7] at k5
    rw [e4, e6] at k6
    rw [e4, e7] at k7
    exact ⟨k0, k1, k2, k3, k4, k5, k6, k7, ha⟩

end Cert.Taps
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.UpFinal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2Ideal.Value
public import proofs.«01_k».proof.Proof.ProjFinal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.UpW
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.DownW
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import proofs.«01_k».proof.Proof.DownX
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import proofs.«01_k».proof.Proof.ProjW
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import proofs.«01_k».proof.Proof.OutProjW
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import proofs.«01_k».proof.Proof.LossFinal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import proofs.«01_k».proof.Proof.UpFwdFinal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10Ideal.Value
public import proofs.«01_k».proof.Proof.ProjFwdFinal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11Ideal.Value
public import proofs.«01_k».proof.Proof.OutProjXFinal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel12Ideal.Value
public import proofs.«01_k».proof.Proof.OutProjFwdFinal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.AdaGrad
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel14Ideal.Value
public import proofs.«01_k».proof.Proof.Taps
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  fun m ρ _ => Cert.Kernel.Gen.frame m ρ, fun m ρ _ => Cert.KernelIdeal.Gen.frame m ρ, Cert.Up.frame_ref,
  fun m ρ _ => Cert.Kernel2.Gen.frame m ρ, fun m ρ _ => Cert.Kernel2Ideal.Gen.frame m ρ, Cert.Proj.frame_ref,
  fun m ρ _ => Cert.Kernel3.Gen.frame m ρ, fun m ρ _ => Cert.Kernel3Ideal.Gen.frame m ρ, Cert.UpW.frame_ref,
  fun m ρ _ => Cert.Kernel4.Gen.frame m ρ, fun m ρ _ => Cert.Kernel4Ideal.Gen.frame m ρ, Cert.DownW.frame_ref,
  fun m ρ _ => Cert.Kernel5.Gen.frame m ρ, fun m ρ _ => Cert.Kernel5Ideal.Gen.frame m ρ, Cert.DownX.frame_ref,
  fun m ρ _ => Cert.Kernel6.Gen.frame m ρ, fun m ρ _ => Cert.Kernel6Ideal.Gen.frame m ρ, Cert.ProjW.frame_ref,
  fun m ρ _ => Cert.Kernel7.Gen.frame m ρ, fun m ρ _ => Cert.Kernel7Ideal.Gen.frame m ρ, Cert.OutProjW.frame_ref,
  fun m ρ _ => Cert.Kernel8.Gen.frame m ρ, fun m ρ _ => Cert.Kernel8Ideal.Gen.frame m ρ, Cert.Loss.frame_ref,
  fun m ρ _ => Cert.Kernel9.Gen.frame m ρ, fun m ρ _ => Cert.Kernel9Ideal.Gen.frame m ρ, Cert.UpFwd.frame_ref,
  fun m ρ _ => Cert.Kernel10.Gen.frame m ρ, fun m ρ _ => Cert.Kernel10Ideal.Gen.frame m ρ, Cert.ProjFwd.frame_ref,
  fun m ρ _ => Cert.Kernel11.Gen.frame m ρ, fun m ρ _ => Cert.Kernel11Ideal.Gen.frame m ρ, Cert.OutProjX.frame_ref,
  fun m ρ _ => Cert.Kernel12.Gen.frame m ρ, fun m ρ _ => Cert.Kernel12Ideal.Gen.frame m ρ, Cert.OutProjFwd.frame_ref,
  fun m ρ _ => Cert.Kernel13.Gen.frame m ρ, fun m ρ _ => Cert.Kernel13Ideal.Gen.frame m ρ, Cert.AdaGrad.frame_ref,
  fun m ρ _ => Cert.Kernel14.Gen.frame m ρ, fun m ρ _ => Cert.Kernel14Ideal.Gen.frame m ρ, Cert.Taps.frame_ref,
  trivial, Cert.Up.algebraic,
  trivial, Cert.Proj.algebraic,
  trivial, Cert.UpW.algebraic,
  trivial, Cert.DownW.algebraic,
  trivial, Cert.DownX.algebraic,
  trivial, Cert.ProjW.algebraic,
  trivial, Cert.OutProjW.algebraic,
  trivial, Cert.Loss.algebraic,
  trivial, Cert.UpFwd.algebraic,
  trivial, Cert.ProjFwd.algebraic,
  trivial, Cert.OutProjX.algebraic,
  trivial, Cert.OutProjFwd.algebraic,
  trivial, Cert.AdaGrad.algebraic,
  trivial, Cert.Taps.algebraic⟩

end Cert.Proof

end
